-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8)
      ∧ r.2.mem ((c.tc : Thread Cert.FfnKernel.nD Cert.FfnKernel.τ).loc Cert.FfnKernel.main_arg9) = m ((c.tc : Thread Cert.FfnKernel.nD Cert.FfnKernel.τ).loc Cert.FfnKernel.main_arg9)
      ∧ r.2.mem ((c.tc : Thread Cert.FfnKernel.nD Cert.FfnKernel.τ).loc Cert.FfnKernel.main_arg10) = m ((c.tc : Thread Cert.FfnKernel.nD Cert.FfnKernel.τ).loc Cert.FfnKernel.main_arg10)
      ∧ r.2.mem ((c.tc : Thread Cert.FfnKernel.nD Cert.FfnKernel.τ).loc Cert.FfnKernel.main_arg11) = m ((c.tc : Thread Cert.FfnKernel.nD Cert.FfnKernel.τ).loc Cert.FfnKernel.main_arg11)
      ∧ r.2.mem ((c.tc : Thread Cert.FfnKernel.nD Cert.FfnKernel.τ).loc Cert.FfnKernel.main_arg12) = m ((c.tc : Thread Cert.FfnKernel.nD Cert.FfnKernel.τ).loc Cert.FfnKernel.main_arg12)
      ∧ r.2.mem ((c.tc : Thread Cert.FfnKernel.nD Cert.FfnKernel.τ).loc Cert.FfnKernel.main_arg13) = m ((c.tc : Thread Cert.FfnKernel.nD Cert.FfnKernel.τ).loc Cert.FfnKernel.main_arg13))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
      ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11)
      ∧ r.2.mem ((c.tc : Thread Cert.FfnKernelIdeal.nD Cert.FfnKernelIdeal.τ).loc Cert.FfnKernelIdeal.main_arg12) = m ((c.tc : Thread Cert.FfnKernelIdeal.nD Cert.FfnKernelIdeal.τ).loc Cert.FfnKernelIdeal.main_arg12)
      ∧ r.2.mem ((c.tc : Thread Cert.FfnKernelIdeal.nD Cert.FfnKernelIdeal.τ).loc Cert.FfnKernelIdeal.main_arg13) = m ((c.tc : Thread Cert.FfnKernelIdeal.nD Cert.FfnKernelIdeal.τ).loc Cert.FfnKernelIdeal.main_arg13))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)
      ∧ m' ((c.tc : Thread Cert.FfnReferenceIdeal.nD Cert.FfnReferenceIdeal.τ).loc Cert.FfnReferenceIdeal.main_arg9) = m ((c.tc : Thread Cert.FfnKernelIdeal.nD Cert.FfnKernelIdeal.τ).loc Cert.FfnKernelIdeal.main_arg9)
      ∧ m' ((c.tc : Thread Cert.FfnReferenceIdeal.nD Cert.FfnReferenceIdeal.τ).loc Cert.FfnReferenceIdeal.main_arg10) = m ((c.tc : Thread Cert.FfnKernelIdeal.nD Cert.FfnKernelIdeal.τ).loc Cert.FfnKernelIdeal.main_arg10)
      ∧ m' ((c.tc : Thread Cert.FfnReferenceIdeal.nD Cert.FfnReferenceIdeal.τ).loc Cert.FfnReferenceIdeal.main_arg11) = m ((c.tc : Thread Cert.FfnKernelIdeal.nD Cert.FfnKernelIdeal.τ).loc Cert.FfnKernelIdeal.main_arg11)
      ∧ m' ((c.tc : Thread Cert.FfnReferenceIdeal.nD Cert.FfnReferenceIdeal.τ).loc Cert.FfnReferenceIdeal.main_arg12) = m ((c.tc : Thread Cert.FfnKernelIdeal.nD Cert.FfnKernelIdeal.τ).loc Cert.FfnKernelIdeal.main_arg12)
      ∧ m' ((c.tc : Thread Cert.FfnReferenceIdeal.nD Cert.FfnReferenceIdeal.τ).loc Cert.FfnReferenceIdeal.main_arg13) = m ((c.tc : Thread Cert.FfnKernelIdeal.nD Cert.FfnKernelIdeal.τ).loc Cert.FfnKernelIdeal.main_arg13)) →
    ∃ (v0 : (c : Dev Cert.FfnKernelIdeal.nD) → Buf (Elt Ideal) ((c.tc : Thread Cert.FfnKernelIdeal.nD Cert.FfnKernelIdeal.τ).loc Cert.FfnKernelIdeal.main_v10_0)) (v1 : (c : Dev Cert.FfnKernelIdeal.nD) → Buf (Elt Ideal) ((c.tc : Thread Cert.FfnKernelIdeal.nD Cert.FfnKernelIdeal.τ).loc Cert.FfnKernelIdeal.main_v10_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10_0) = v0 c
          ∧ r.2.mem ((c.tc : Thread Cert.FfnKernelIdeal.nD Cert.FfnKernelIdeal.τ).loc Cert.FfnKernelIdeal.main_v10_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
          ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
          ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
          ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11)
          ∧ r.2.mem ((c.tc : Thread Cert.FfnKernelIdeal.nD Cert.FfnKernelIdeal.τ).loc Cert.FfnKernelIdeal.main_arg12) = m ((c.tc : Thread Cert.FfnKernelIdeal.nD Cert.FfnKernelIdeal.τ).loc Cert.FfnKernelIdeal.main_arg12)
          ∧ r.2.mem ((c.tc : Thread Cert.FfnKernelIdeal.nD Cert.FfnKernelIdeal.τ).loc Cert.FfnKernelIdeal.main_arg13) = m ((c.tc : Thread Cert.FfnKernelIdeal.nD Cert.FfnKernelIdeal.τ).loc Cert.FfnKernelIdeal.main_arg13))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v112) = v0 c
          ∧ r.2.mem ((c.tc : Thread Cert.FfnReferenceIdeal.nD Cert.FfnReferenceIdeal.τ).loc Cert.FfnReferenceIdeal.main_v221) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12)
          ∧ r.2.mem ((c.tc : Thread Cert.FfnReferenceIdeal.nD Cert.FfnReferenceIdeal.τ).loc Cert.FfnReferenceIdeal.main_arg13) = m' ((c.tc : Thread Cert.FfnReferenceIdeal.nD Cert.FfnReferenceIdeal.τ).loc Cert.FfnReferenceIdeal.main_arg13))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v2_0)) (v1 : (c : Dev Cert.ProjKernelIdeal.nD) → Buf (Elt Ideal) ((c.tc : Thread Cert.ProjKernelIdeal.nD Cert.ProjKernelIdeal.τ).loc Cert.ProjKernelIdeal.main_v2_1)) (v2 : (c : Dev Cert.ProjKernelIdeal.nD) → Buf (Elt Ideal) ((c.tc : Thread Cert.ProjKernelIdeal.nD Cert.ProjKernelIdeal.τ).loc Cert.ProjKernelIdeal.main_v2_2)) (v3 : (c : Dev Cert.ProjKernelIdeal.nD) → Buf (Elt Ideal) ((c.tc : Thread Cert.ProjKernelIdeal.nD Cert.ProjKernelIdeal.τ).loc Cert.ProjKernelIdeal.main_v2_3)) (v4 : (c : Dev Cert.ProjKernelIdeal.nD) → Buf (Elt Ideal) ((c.tc : Thread Cert.ProjKernelIdeal.nD Cert.ProjKernelIdeal.τ).loc Cert.ProjKernelIdeal.main_v2_4)) (v5 : (c : Dev Cert.ProjKernelIdeal.nD) → Buf (Elt Ideal) ((c.tc : Thread Cert.ProjKernelIdeal.nD Cert.ProjKernelIdeal.τ).loc Cert.ProjKernelIdeal.main_v2_5)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v2_0) = v0 c
          ∧ r.2.mem ((c.tc : Thread Cert.ProjKernelIdeal.nD Cert.ProjKernelIdeal.τ).loc Cert.ProjKernelIdeal.main_v2_1) = v1 c
          ∧ r.2.mem ((c.tc : Thread Cert.ProjKernelIdeal.nD Cert.ProjKernelIdeal.τ).loc Cert.ProjKernelIdeal.main_v2_2) = v2 c
          ∧ r.2.mem ((c.tc : Thread Cert.ProjKernelIdeal.nD Cert.ProjKernelIdeal.τ).loc Cert.ProjKernelIdeal.main_v2_3) = v3 c
          ∧ r.2.mem ((c.tc : Thread Cert.ProjKernelIdeal.nD Cert.ProjKernelIdeal.τ).loc Cert.ProjKernelIdeal.main_v2_4) = v4 c
          ∧ r.2.mem ((c.tc : Thread Cert.ProjKernelIdeal.nD Cert.ProjKernelIdeal.τ).loc Cert.ProjKernelIdeal.main_v2_5) = v5 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v82) = v0 c
          ∧ r.2.mem ((c.tc : Thread Cert.ProjReferenceIdeal.nD Cert.ProjReferenceIdeal.τ).loc Cert.ProjReferenceIdeal.main_v157) = v1 c
          ∧ r.2.mem ((c.tc : Thread Cert.ProjReferenceIdeal.nD Cert.ProjReferenceIdeal.τ).loc Cert.ProjReferenceIdeal.main_v159) = v2 c
          ∧ r.2.mem ((c.tc : Thread Cert.ProjReferenceIdeal.nD Cert.ProjReferenceIdeal.τ).loc Cert.ProjReferenceIdeal.main_v161) = v3 c
          ∧ r.2.mem ((c.tc : Thread Cert.ProjReferenceIdeal.nD Cert.ProjReferenceIdeal.τ).loc Cert.ProjReferenceIdeal.main_v163) = v4 c
          ∧ r.2.mem ((c.tc : Thread Cert.ProjReferenceIdeal.nD Cert.ProjReferenceIdeal.τ).loc Cert.ProjReferenceIdeal.main_v164) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_finite.lean ====
abbrev S2048x1536 : Shape := ⟨2, ![2048, 1536]⟩
abbrev S1x64 : Shape := ⟨2, ![1, 64]⟩
abbrev S1x128 : Shape := ⟨2, ![1, 128]⟩
abbrev S2x1x256x8x64 : Shape := ⟨5, ![2, 1, 256, 8, 64]⟩
abbrev S2x1x256x4x128 : Shape := ⟨5, ![2, 1, 256, 4, 128]⟩
abbrev S1x1024x1024 : Shape := ⟨3, ![1, 1024, 1024]⟩
abbrev S1x2816x1024 : Shape := ⟨3, ![1, 2816, 1024]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  bcast_S_S1x64 : S_.BroadcastsInDim S1x64 (![] : Fin 0 → Fin S1x64.rank)
  bcast_S_S2x1x256x8x64 : S_.BroadcastsInDim S2x1x256x8x64 (![] : Fin 0 → Fin S2x1x256x8x64.rank)
  bcast_S_S2x1x256x4x128 : S_.BroadcastsInDim S2x1x256x4x128 (![] : Fin 0 → Fin S2x1x256x4x128.rank)

variable [Facts]

def fn_part1 {F : FTy → Type} [FloatOps F] (main_arg7 : FVec F S2x1x256x4x128 .f32) (main_v3 : IVec S2048x1536 1) (main_v6 : IVec S1x64 1) (main_v9 : IVec S1x64 1) (main_v12 : IVec S1x64 1) (main_v15 : IVec S1x64 1) (main_v16 : FVec F S2x1x256x8x64 .f32) (main_v17 : FVec F S2x1x256x8x64 .f32) : IVec S2048x1536 1 × IVec S1x64 1 × IVec S1x64 1 × IVec S1x64 1 × IVec S1x64 1 × IVec S2x1x256x8x64 1 × IVec S2x1x256x4x128 1 :=
  let main_v18 : IVec S2x1x256x8x64 1 := cmpf .olt main_v16 main_v17
  let main_v19 : FVec F S2x1x256x4x128 .f32 := Host.absf main_arg7
  let main_cst_5 : FVec F S_ .f32 := constant S_ .f32 0x7F800000#32
  let main_v20 : FVec F S2x1x256x4x128 .f32 := broadcastInDim S2x1x256x4x128 ![] bcast_S_S2x1x256x4x128 main_cst_5
  let main_v21 : IVec S2x1x256x4x128 1 := cmpf .olt main_v19 main_v20
  (main_v3, main_v6, main_v9, main_v12, main_v15, main_v18, main_v21)

def fn {F : FTy → Type} [FloatOps F] (main_arg0 : FVec F S2048x1536 .bf16) (main_arg1 : FVec F S1x64 .f32) (main_arg2 : FVec F S1x64 .f32) (main_arg3 : FVec F S1x64 .f32) (main_arg4 : FVec F S1x64 .f32) (main_arg5 : FVec F S1x128 .f32) (main_arg6 : FVec F S2x1x256x8x64 .f32) (main_arg7 : FVec F S2x1x256x4x128 .f32) (main_arg8 : FVec F S1x1024x1024 .f32) (main_arg9 : FVec F S1x2816x1024 .f32) : IVec S2048x1536 1 × IVec S1x64 1 × IVec S1x64 1 × IVec S1x64 1 × IVec S1x64 1 × IVec S2x1x256x8x64 1 × IVec S2x1x256x4x128 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  let main_v16 : FVec F S2x1x256x8x64 .f32 := Host.absf main_arg6
  let main_cst_4 : FVec F S_ .f32 := constant S_ .f32 0x7F800000#32
  let main_v17 : FVec F S2x1x256x8x64 .f32 := broadcastInDim S2x1x256x8x64 ![] bcast_S_S2x1x256x8x64 main_cst_4
  fn_part1 (F := F) main_arg7 main_v3 main_v6 main_v9 main_v12 main_v15 main_v16 main_v17
-- ==== Kernel.lean ====
abbrev S2048x1536 : Shape := ⟨2, ![2048, 1536]⟩
abbrev S1x64 : Shape := ⟨2, ![1, 64]⟩
abbrev S1x128 : Shape := ⟨2, ![1, 128]⟩
abbrev S2x1x256x8x64 : Shape := ⟨5, ![2, 1, 256, 8, 64]⟩
abbrev S2x1x256x4x128 : Shape := ⟨5, ![2, 1, 256, 4, 128]⟩
abbrev S1x1024x1024 : Shape := ⟨3, ![1, 1024, 1024]⟩
abbrev S1x2816x1024 : Shape := ⟨3, ![1, 2816, 1024]⟩
abbrev S2x256x8x64 : Shape := ⟨4, ![2, 256, 8, 64]⟩
abbrev S2x8x64x256 : Shape := ⟨4, ![2, 8, 64, 256]⟩
abbrev S2x256x4x128 : Shape := ⟨4, ![2, 256, 4, 128]⟩
abbrev S64 : Shape := ⟨1, ![64]⟩
abbrev S128 : Shape := ⟨1, ![128]⟩
abbrev S1024x1024 : Shape := ⟨2, ![1024, 1024]⟩
abbrev S2816x1024 : Shape := ⟨2, ![2816, 1024]⟩
abbrev S2048x512 : Shape := ⟨2, ![2048, 512]⟩
abbrev S512x512 : Shape := ⟨2, ![512, 512]⟩
abbrev S1024x512 : Shape := ⟨2, ![1024, 512]⟩
abbrev S1x8x64x256 : Shape := ⟨4, ![1, 8, 64, 256]⟩
abbrev S1x256x4x128 : Shape := ⟨4, ![1, 256, 4, 128]⟩
abbrev S256x1024 : Shape := ⟨2, ![256, 1024]⟩
abbrev S704x1024 : Shape := ⟨2, ![704, 1024]⟩
abbrev S1 : Shape := ⟨1, ![1]⟩
abbrev S1x1 : Shape := ⟨2, ![1, 1]⟩
abbrev S256x128 : Shape := ⟨2, ![256, 128]⟩
abbrev S512x128 : Shape := ⟨2, ![512, 128]⟩
abbrev S1024x128 : Shape := ⟨2, ![1024, 128]⟩
abbrev S1x256x1x128 : Shape := ⟨4, ![1, 256, 1, 128]⟩
abbrev S512x1024 : Shape := ⟨2, ![512, 1024]⟩
abbrev S1x2x64x256 : Shape := ⟨4, ![1, 2, 64, 256]⟩
abbrev S2x64x256 : Shape := ⟨3, ![2, 64, 256]⟩
abbrev S128x256 : Shape := ⟨2, ![128, 256]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 28
  | .vmem => 25
  | .smem => 0
  | _ => 0

abbrev bufTy : (tb : Table) → Fin (tcTables nBuf tb) → BufTy
  | .hbm, ⟨0, _⟩ => ⟨S2048x1536, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x1x256x8x64, .f32⟩
  | .hbm, ⟨7, _⟩ => ⟨S2x1x256x4x128, .f32⟩
  | .hbm, ⟨8, _⟩ => ⟨S1x1024x1024, .f32⟩
  | .hbm, ⟨9, _⟩ => ⟨S1x2816x1024, .f32⟩
  | .hbm, ⟨10, _⟩ => ⟨S2x256x8x64, .f32⟩
  | .hbm, ⟨11, _⟩ => ⟨S2x8x64x256, .f32⟩
  | .hbm, ⟨12, _⟩ => ⟨S2x256x4x128, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S128, .f32⟩
  | .hbm, ⟨22, _⟩ => ⟨S1x128, .f32⟩
  | .hbm, ⟨23, _⟩ => ⟨S1024x1024, .f32⟩
  | .hbm, ⟨24, _⟩ => ⟨S2816x1024, .f32⟩
  | .hbm, ⟨25, _⟩ => ⟨S2048x512, .bf16⟩
  | .hbm, ⟨26, _⟩ => ⟨S1024x1024, .bf16⟩
  | .hbm, ⟨27, _⟩ => ⟨S2816x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x8x64x256, .f32⟩
  | .local _ .vmem, ⟨12, _⟩ => ⟨S1x8x64x256, .f32⟩
  | .local _ .vmem, ⟨13, _⟩ => ⟨S1x256x4x128, .f32⟩
  | .local _ .vmem, ⟨14, _⟩ => ⟨S1x256x4x128, .f32⟩
  | .local _ .vmem, ⟨15, _⟩ => ⟨S256x1024, .f32⟩
  | .local _ .vmem, ⟨16, _⟩ => ⟨S256x1024, .f32⟩
  | .local _ .vmem, ⟨17, _⟩ => ⟨S704x1024, .f32⟩
  | .local _ .vmem, ⟨18, _⟩ => ⟨S704x1024, .f32⟩
  | .local _ .vmem, ⟨19, _⟩ => ⟨S512x512, .bf16⟩
  | .local _ .vmem, ⟨20, _⟩ => ⟨S512x512, .bf16⟩
  | .local _ .vmem, ⟨21, _⟩ => ⟨S256x1024, .bf16⟩
  | .local _ .vmem, ⟨22, _⟩ => ⟨S256x1024, .bf16⟩
  | .local _ .vmem, ⟨23, _⟩ => ⟨S704x1024, .bf16⟩
  | .local _ .vmem, ⟨24, _⟩ => ⟨S704x1024, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2048x1536 : Shape := ⟨2, ![2048, 1536]⟩
abbrev S1x64 : Shape := ⟨2, ![1, 64]⟩
abbrev S1x128 : Shape := ⟨2, ![1, 128]⟩
abbrev S2x1x256x8x64 : Shape := ⟨5, ![2, 1, 256, 8, 64]⟩
abbrev S2x1x256x4x128 : Shape := ⟨5, ![2, 1, 256, 4, 128]⟩
abbrev S1x1024x1024 : Shape := ⟨3, ![1, 1024, 1024]⟩
abbrev S1x2816x1024 : Shape := ⟨3, ![1, 2816, 1024]⟩
abbrev S2x1024x1536 : Shape := ⟨3, ![2, 1024, 1536]⟩
abbrev S2x1024x512 : Shape := ⟨3, ![2, 1024, 512]⟩
abbrev S2x1024x8x64 : Shape := ⟨4, ![2, 1024, 8, 64]⟩
abbrev S2x1024x4x128 : Shape := ⟨4, ![2, 1024, 4, 128]⟩
abbrev S2x256x8x64 : Shape := ⟨4, ![2, 256, 8, 64]⟩
abbrev S2x1280x8x64 : Shape := ⟨4, ![2, 1280, 8, 64]⟩
abbrev S2x256x4x128 : Shape := ⟨4, ![2, 256, 4, 128]⟩
abbrev S2x1280x4x128 : Shape := ⟨4, ![2, 1280, 4, 128]⟩
abbrev S64 : Shape := ⟨1, ![64]⟩
abbrev S_ : Shape := ⟨0, ![]⟩
abbrev S2x8x1024x1280 : Shape := ⟨4, ![2, 8, 1024, 1280]⟩
abbrev S2x8x1024 : Shape := ⟨3, ![2, 8, 1024]⟩
abbrev S2x8x1024x1 : Shape := ⟨4, ![2, 8, 1024, 1]⟩
abbrev S2x4x2x1024x1280 : Shape := ⟨5, ![2, 4, 2, 1024, 1280]⟩
abbrev S2x4x1x1024x1280 : Shape := ⟨5, ![2, 4, 1, 1024, 1280]⟩
abbrev S2x4x1024x1280 : Shape := ⟨4, ![2, 4, 1024, 1280]⟩
abbrev S2x4x128x1024 : Shape := ⟨4, ![2, 4, 128, 1024]⟩
abbrev S2x1024x4 : Shape := ⟨3, ![2, 1024, 4]⟩
abbrev S2x1024x4x1 : Shape := ⟨4, ![2, 1024, 4, 1]⟩
abbrev S128 : Shape := ⟨1, ![128]⟩
abbrev S1x1x1x128 : Shape := ⟨4, ![1, 1, 1, 128]⟩
abbrev S2048x512 : Shape := ⟨2, ![2048, 512]⟩
abbrev S1024x1024 : Shape := ⟨2, ![1024, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x1x256x8x64, .f32⟩
  | .hbm, ⟨7, _⟩ => ⟨S2x1x256x4x128, .f32⟩
  | .hbm, ⟨8, _⟩ => ⟨S1x1024x1024, .f32⟩
  | .hbm, ⟨9, _⟩ => ⟨S1x2816x1024, .f32⟩
  | .hbm, ⟨10, _⟩ => ⟨S2048x1536, .f32⟩
  | .hbm, ⟨11, _⟩ => ⟨S2x1024x1536, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S2x1024x8x64, .f32⟩
  | .hbm, ⟨16, _⟩ => ⟨S2x1024x8x64, .f32⟩
  | .hbm, ⟨17, _⟩ => ⟨S2x1024x4x128, .f32⟩
  | .hbm, ⟨18, _⟩ => ⟨S2x256x8x64, .f32⟩
  | .hbm, ⟨19, _⟩ => ⟨S2x1280x8x64, .f32⟩
  | .hbm, ⟨20, _⟩ => ⟨S2x256x4x128, .f32⟩
  | .hbm, ⟨21, _⟩ => ⟨S2x1280x4x128, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x8x1024x1280, .f32⟩
  | .hbm, ⟨38, _⟩ => ⟨S_, .f32⟩
  | .hbm, ⟨39, _⟩ => ⟨S2x8x1024, .f32⟩
  | .hbm, ⟨40, _⟩ => ⟨S_, .f32⟩
  | .hbm, ⟨41, _⟩ => ⟨S2x8x1024, .f32⟩
  | .hbm, ⟨42, _⟩ => ⟨S2x8x1024, .f32⟩
  | .hbm, ⟨43, _⟩ => ⟨S2x8x1024x1, .f32⟩
  | .hbm, ⟨44, _⟩ => ⟨S2x8x1024x1280, .f32⟩
  | .hbm, ⟨45, _⟩ => ⟨S2x8x1024x1280, .f32⟩
  | .hbm, ⟨46, _⟩ => ⟨S2x8x1024x1280, .f32⟩
  | .hbm, ⟨47, _⟩ => ⟨S_, .f32⟩
  | .hbm, ⟨48, _⟩ => ⟨S2x8x1024, .f32⟩
  | .hbm, ⟨49, _⟩ => ⟨S2x8x1024x1, .f32⟩
  | .hbm, ⟨50, _⟩ => ⟨S2x8x1024x1280, .f32⟩
  | .hbm, ⟨51, _⟩ => ⟨S2x8x1024x1280, .f32⟩
  | .hbm, ⟨52, _⟩ => ⟨S2x4x2x1024x1280, .f32⟩
  | .hbm, ⟨53, _⟩ => ⟨S2x4x1x1024x1280, .f32⟩
  | .hbm, ⟨54, _⟩ => ⟨S2x4x1024x1280, .f32⟩
  | .hbm, ⟨55, _⟩ => ⟨S2x4x1x1024x1280, .f32⟩
  | .hbm, ⟨56, _⟩ => ⟨S2x4x1024x1280, .f32⟩
  | .hbm, ⟨57, _⟩ => ⟨S2x4x1024x1280, .f32⟩
  | .hbm, ⟨58, _⟩ => ⟨S2x4x1024x1280, .f32⟩
  | .hbm, ⟨59, _⟩ => ⟨S2x4x1024x1280, .f32⟩
  | .hbm, ⟨60, _⟩ => ⟨S2x4x128x1024, .f32⟩
  | .hbm, ⟨61, _⟩ => ⟨S2x1024x4x128, .f32⟩
  | .hbm, ⟨62, _⟩ => ⟨S2x1024x4x128, .f32⟩
  | .hbm, ⟨63, _⟩ => ⟨S_, .f32⟩
  | .hbm, ⟨64, _⟩ => ⟨S2x1024x4, .f32⟩
  | .hbm, ⟨65, _⟩ => ⟨S2x1024x4x1, .f32⟩
  | .hbm, ⟨66, _⟩ => ⟨S_, .f32⟩
  | .hbm, ⟨67, _⟩ => ⟨S2x1024x4x1, .f32⟩
  | .hbm, ⟨68, _⟩ => ⟨S2x1024x4x1, .f32⟩
  | .hbm, ⟨69, _⟩ => ⟨S_, .f32⟩
  | .hbm, ⟨70, _⟩ => ⟨S2x1024x4x1, .f32⟩
  | .hbm, ⟨71, _⟩ => ⟨S2x1024x4x1, .f32⟩
  | .hbm, ⟨72, _⟩ => ⟨S2x1024x4x1, .f32⟩
  | .hbm, ⟨73, _⟩ => ⟨S2x1024x4x128, .f32⟩
  | .hbm, ⟨74, _⟩ => ⟨S2x1024x4x128, .f32⟩
  | .hbm, ⟨75, _⟩ => ⟨S128, .f32⟩
  | .hbm, ⟨76, _⟩ => ⟨S1x1x1x128, .f32⟩
  | .hbm, ⟨77, _⟩ => ⟨S2x1024x4x128, .f32⟩
  | .hbm, ⟨78, _⟩ => ⟨S2x1024x4x128, .f32⟩
  | .hbm, ⟨79, _⟩ => ⟨S_, .f32⟩
  | .hbm, ⟨80, _⟩ => ⟨S2x1024x4x128, .f32⟩
  | .hbm, ⟨81, _⟩ => ⟨S2x1024x4x128, .f32⟩
  | .hbm, ⟨82, _⟩ => ⟨S2048x512, .f32⟩
  | .hbm, ⟨83, _⟩ => ⟨S2048x512, .bf16⟩
  | .hbm, ⟨84, _⟩ => ⟨S1024x1024, .f32⟩
  | .hbm, ⟨85, _⟩ => ⟨S1024x1024, .bf16⟩
  | .hbm, ⟨86, _⟩ => ⟨S2816x1024, .f32⟩
  | .hbm, ⟨87, _⟩ => ⟨S2816x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== FfnKernel.lean ====
abbrev S32x256x1024 : Shape := ⟨3, ![32, 256, 1024]⟩
abbrev S2x1024x1024 : Shape := ⟨3, ![2, 1024, 1024]⟩
abbrev S8192x512 : Shape := ⟨2, ![8192, 512]⟩
abbrev S2048x512 : Shape := ⟨2, ![2048, 512]⟩
abbrev S8x6144 : Shape := ⟨2, ![8, 6144]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S8192x1024 : Shape := ⟨2, ![8192, 1024]⟩
abbrev S2048x1024 : Shape := ⟨2, ![2048, 1024]⟩
abbrev S1024 : Shape := ⟨1, ![1024]⟩
abbrev S256x1024 : Shape := ⟨2, ![256, 1024]⟩
abbrev S256x512 : Shape := ⟨2, ![256, 512]⟩
abbrev S1x6144 : Shape := ⟨2, ![1, 6144]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S512x1024 : Shape := ⟨2, ![512, 1024]⟩

abbrev nBuf : Space → Nat
  | .hbm => 26
  | .vmem => 29
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S8192x512, .bf16⟩
  | .hbm, ⟨3, _⟩ => ⟨S2048x512, .bf16⟩
  | .hbm, ⟨4, _⟩ => ⟨S8192x512, .bf16⟩
  | .hbm, ⟨5, _⟩ => ⟨S2048x512, .bf16⟩
  | .hbm, ⟨6, _⟩ => ⟨S8x6144, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S2048x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S8x6144, .f32⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c3_i32 : BitVec 32 := 3#32
  let v3 : BitVec 1 := Scalar.cmpi .sge arg0 c3_i32
  let c40_i32 : BitVec 32 := 40#32
  let v4 : BitVec 1 := Scalar.cmpi .slt arg0 c40_i32
  let v5 : BitVec 1 := Scalar.andi v3 v4
  let v7 : BitVec 32 := Scalar.extui v5
  let c0_i32_1 : BitVec 32 := 0#32
  let v8 : BitVec 1 := Scalar.cmpi .ne v7 c0_i32_1
  v8

def k0_off1 (i : grid0.Coords) (c3_i32_9 : BitVec 32) : Fin 2 → Nat :=
  let c39_i32 : BitVec 32 := 39#32
  let c0_i32_10 : BitVec 32 := 0#32
  let arg0 : BitVec 32 := BitVec.ofNat 32 (i 0).val
  let v29 : BitVec 32 := Scalar.subi arg0 c3_i32_9
  let v30 : BitVec 32 := Scalar.maxsi c0_i32_10 v29
  let v31 : BitVec 32 := Scalar.minsi c39_i32 v30
  let c256_i32 : BitVec 32 := 256#32
  let v32 : BitVec 32 := Scalar.muli v31 c256_i32
  let c8192_i32 : BitVec 32 := 8192#32
  let v33 : BitVec 1 := Scalar.cmpi .slt v32 c8192_i32
  let c0_i32_19 : BitVec 32 := 0#32
  let c1_i32_18 : BitVec 32 := 1#32
  let c8192_i32_11 : BitVec 32 := 8192#32
  let v34 : BitVec 32 := Scalar.subi v32 c8192_i32_11
  let c0_i32_12 : BitVec 32 := 0#32
  let v36 : BitVec 1 := Scalar.cmpi .sgt v34 c0_i32_12
  let v37 : BitVec 32 := Scalar.extui v36
  let c0_i32_13 : BitVec 32 := 0#32
  let v38 : BitVec 1 := Scalar.cmpi .slt v34 c0_i32_13
  let v39 : BitVec 32 := Scalar.extui v38
  let v40 : BitVec 32 := Scalar.subi v37 v39
  let c1024_i32 : BitVec 32 := 1024#32
  let c0_i32_14 : BitVec 32 := 0#32
  let v41 : BitVec 1 := Scalar.cmpi .sgt c1024_i32 c0_i32_14
  let v42 : BitVec 32 := Scalar.extui v41
  let c0_i32_15 : BitVec 32 := 0#32
  let v43 : BitVec 1 := Scalar.cmpi .slt c1024_i32 c0_i32_15
  let v44 : BitVec 32 := Scalar.extui v43
  let v45 : BitVec 32 := Scalar.subi v42 v44
  let v46 : BitVec 1 := Scalar.cmpi .ne v40 v45
  let v47 : BitVec 32 := Scalar.remsi v34 c1024_i32
  let c0_i32_16 : BitVec 32 := 0#32
  let v48 : BitVec 1 := Scalar.cmpi .ne v47 c0_i32_16
  let v49 : BitVec 1 := Scalar.andi v46 v48
  let v35 : BitVec 32 := Scalar.divsi v34 c1024_i32
  let c1_i32_17 : BitVec 32 := 1#32
  let v50 : BitVec 32 := Scalar.subi v35 c1_i32_17
  let v51 : BitVec 32 := Scalar.select v49 v50 v35
  let v52 : BitVec 32 := Scalar.addi c1_i32_18 v51
  let v53 : BitVec 32 := Scalar.select v33 c0_i32_19 v52
  let v54 : Index := Scalar.indexCast v53
  let c0 : Index := 0#32
  ![v54.toNat, 0]
def k0_cond3 (i : grid0.Coords) : BitVec 1 :=
  let arg0 : BitVec 32 := BitVec.ofNat 32 (i 0).val
  let c3_i32 : BitVec 32 := 3#32
  let v3 : BitVec 1 := Scalar.cmpi .sge arg0 c3_i32
  let c40_i32 : BitVec 32 := 40#32
  let v4 : BitVec 1 := Scalar.cmpi .slt arg0 c40_i32
  let v5 : BitVec 1 := Scalar.andi v3 v4
  let v_true : BitVec 1 := 1#1
  let v6 : BitVec 1 := Scalar.xori v5 v_true
  let c3_i32_2 : BitVec 32 := 3#32
  let v9 : BitVec 1 := Scalar.cmpi .sge arg0 c3_i32_2
  let v10 : BitVec 1 := Scalar.andi v6 v9
  let v11 : BitVec 32 := Scalar.extui v10
  let c0_i32_3 : BitVec 32 := 0#32
  let v12 : BitVec 1 := Scalar.cmpi .ne v11 c0_i32_3
  v12

def k0_off2 (i : grid0.Coords) : Fin 2 → Nat :=
  let c39_i32 : BitVec 32 := 39#32
  let c0_i32_10 : BitVec 32 := 0#32
  let arg0 : BitVec 32 := BitVec.ofNat 32 (i 0).val
  let c3_i32_9 : BitVec 32 := 3#32
  let v29 : BitVec 32 := Scalar.subi arg0 c3_i32_9
  let v30 : BitVec 32 := Scalar.maxsi c0_i32_10 v29
  let v31 : BitVec 32 := Scalar.minsi c39_i32 v30
  let c256_i32 : BitVec 32 := 256#32
  let v32 : BitVec 32 := Scalar.muli v31 c256_i32
  let c8192_i32 : BitVec 32 := 8192#32
  let v33 : BitVec 1 := Scalar.cmpi .slt v32 c8192_i32
  let c0_i32_19 : BitVec 32 := 0#32
  let c1_i32_18 : BitVec 32 := 1#32
  let c8192_i32_11 : BitVec 32 := 8192#32
  let v34 : BitVec 32 := Scalar.subi v32 c8192_i32_11
  let c0_i32_12 : BitVec 32 := 0#32
  let v36 : BitVec 1 := Scalar.cmpi .sgt v34 c0_i32_12
  let v37 : BitVec 32 := Scalar.extui v36
  let c0_i32_13 : BitVec 32 := 0#32
  let v38 : BitVec 1 := Scalar.cmpi .slt v34 c0_i32_13
  let v39 : BitVec 32 := Scalar.extui v38
  let v40 : BitVec 32 := Scalar.subi v37 v39
  let c1024_i32 : BitVec 32 := 1024#32
  let c0_i32_14 : BitVec 32 := 0#32
  let v41 : BitVec 1 := Scalar.cmpi .sgt c1024_i32 c0_i32_14
  let v42 : BitVec 32 := Scalar.extui v41
  let c0_i32_15 : BitVec 32 := 0#32
  let v43 : BitVec 1 := Scalar.cmpi .slt c1024_i32 c0_i32_15
  let v44 : BitVec 32 := Scalar.extui v43
  let v45 : BitVec 32 := Scalar.subi v42 v44
  let v46 : BitVec 1 := Scalar.cmpi .ne v40 v45
  let v47 : BitVec 32 := Scalar.remsi v34 c1024_i32
  let c0_i32_16 : BitVec 32 := 0#32
  let v48 : BitVec 1 := Scalar.cmpi .ne v47 c0_i32_16
  let v49 : BitVec 1 := Scalar.andi v46 v48
  let v35 : BitVec 32 := Scalar.divsi v34 c1024_i32
  let c1_i32_17 : BitVec 32 := 1#32
  let v50 : BitVec 32 := Scalar.subi v35 c1_i32_17
  let v51 : BitVec 32 := Scalar.select v49 v50 v35
  let v52 : BitVec 32 := Scalar.addi c1_i32_18 v51
  let v53 : BitVec 32 := Scalar.select v33 c0_i32_19 v52
  let v54 : Index := Scalar.indexCast v53
  let c0 : Index := 0#32
  ![v54.toNat, 0]
def k0_cond5 (i : grid0.Coords) : BitVec 1 :=
  let arg0 : BitVec 32 := BitVec.ofNat 32 (i 0).val
  let c3_i32 : BitVec 32 := 3#32
  let v3 : BitVec 1 := Scalar.cmpi .sge arg0 c3_i32
  let c40_i32 : BitVec 32 := 40#32
  let v4 : BitVec 1 := Scalar.cmpi .slt arg0 c40_i32
  let v5 : BitVec 1 := Scalar.andi v3 v4
  let v_true : BitVec 1 := 1#1
  let v6 : BitVec 1 := Scalar.xori v5 v_true
  let c1_i32 : BitVec 32 := 1#32
  let v19 : BitVec 1 := Scalar.cmpi .sge arg0 c1_i32
  let c40_i32_5 : BitVec 32 := 40#32
  let v20 : BitVec 1 := Scalar.cmpi .sle arg0 c40_i32_5
  let v21 : BitVec 1 := Scalar.andi v19 v20
  let v22 : BitVec 1 := Scalar.andi v6 v21
  let v23 : BitVec 32 := Scalar.extui v22
  let c0_i32_6 : BitVec 32 := 0#32
  let v24 : BitVec 1 := Scalar.cmpi .ne v23 c0_i32_6
  v24

def k0_off3 (i : grid0.Coords) : Fin 2 → Nat :=
  let c39_i32 : BitVec 32 := 39#32
  let c0_i32_10 : BitVec 32 := 0#32
  let arg0 : BitVec 32 := BitVec.ofNat 32 (i 0).val
  let c1_i32_9 : BitVec 32 := 1#32
  let v29 : BitVec 32 := Scalar.subi arg0 c1_i32_9
  let v30 : BitVec 32 := Scalar.maxsi c0_i32_10 v29
  let v31 : BitVec 32 := Scalar.minsi c39_i32 v30
  let c256_i32 : BitVec 32 := 256#32
  let v32 : BitVec 32 := Scalar.muli v31 c256_i32
  let c8192_i32 : BitVec 32 := 8192#32
  let v33 : BitVec 1 := Scalar.cmpi .slt v32 c8192_i32
  let c0_i32_19 : BitVec 32 := 0#32
  let c1_i32_18 : BitVec 32 := 1#32
  let c8192_i32_11 : BitVec 32 := 8192#32
  let v34 : BitVec 32 := Scalar.subi v32 c8192_i32_11
  let c0_i32_12 : BitVec 32 := 0#32
  let v36 : BitVec 1 := Scalar.cmpi .sgt v34 c0_i32_12
  let v37 : BitVec 32 := Scalar.extui v36
  let c0_i32_13 : BitVec 32 := 0#32
  let v38 : BitVec 1 := Scalar.cmpi .slt v34 c0_i32_13
  let v39 : BitVec 32 := Scalar.extui v38
  let v40 : BitVec 32 := Scalar.subi v37 v39
  let c1024_i32 : BitVec 32 := 1024#32
  let c0_i32_14 : BitVec 32 := 0#32
  let v41 : BitVec 1 := Scalar.cmpi .sgt c1024_i32 c0_i32_14
  let v42 : BitVec 32 := Scalar.extui v41
  let c0_i32_15 : BitVec 32 := 0#32
  let v43 : BitVec 1 := Scalar.cmpi .slt c1024_i32 c0_i32_15
  let v44 : BitVec 32 := Scalar.extui v43
  let v45 : BitVec 32 := Scalar.subi v42 v44
  let v46 : BitVec 1 := Scalar.cmpi .ne v40 v45
  let v47 : BitVec 32 := Scalar.remsi v34 c1024_i32
  let c0_i32_16 : BitVec 32 := 0#32
  let v48 : BitVec 1 := Scalar.cmpi .ne v47 c0_i32_16
  let v49 : BitVec 1 := Scalar.andi v46 v48
  let v35 : BitVec 32 := Scalar.divsi v34 c1024_i32
  let c1_i32_17 : BitVec 32 := 1#32
  let v50 : BitVec 32 := Scalar.subi v35 c1_i32_17
  let v51 : BitVec 32 := Scalar.select v49 v50 v35
  let v52 : BitVec 32 := Scalar.addi c1_i32_18 v51
  let v53 : BitVec 32 := Scalar.select v33 c0_i32_19 v52
  let v54 : Index := Scalar.indexCast v53
  let c0 : Index := 0#32
  ![v54.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.subi v0 c0_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c32_i32 : BitVec 32 := 32#32
  let v1 : BitVec 32 := Scalar.subi v0 c32_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.subi v0 c0_i32_0
  let c0_i32_1 : BitVec 32 := 0#32
  let c31_i32 : BitVec 32 := 31#32
  let v2 : BitVec 32 := Scalar.maxsi c0_i32_1 v1
  let v3 : BitVec 32 := Scalar.minsi c31_i32 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c32_i32 : BitVec 32 := 32#32
  let v1 : BitVec 32 := Scalar.subi v0 c32_i32
  let c0_i32_0 : BitVec 32 := 0#32
  let c7_i32 : BitVec 32 := 7#32
  let v2 : BitVec 32 := Scalar.maxsi c0_i32_0 v1
  let v3 : BitVec 32 := Scalar.minsi c7_i32 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.subi v0 c0_i32_0
  let c0_i32_1 : BitVec 32 := 0#32
  let c31_i32 : BitVec 32 := 31#32
  let v2 : BitVec 32 := Scalar.maxsi c0_i32_1 v1
  let v3 : BitVec 32 := Scalar.minsi c31_i32 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c32_i32 : BitVec 32 := 32#32
  let v1 : BitVec 32 := Scalar.subi v0 c32_i32
  let c0_i32_0 : BitVec 32 := 0#32
  let c7_i32 : BitVec 32 := 7#32
  let v2 : BitVec 32 := Scalar.maxsi c0_i32_0 v1
  let v3 : BitVec 32 := Scalar.minsi c7_i32 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.subi v0 c0_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![v3.toNat, c0_i32_1.toNat]

def cc0_transform_15 (i : grid0.Coords) : Fin 2 → Nat :=
  let arg0 : BitVec 32 := BitVec.ofNat 32 (i 0).val
  let c3_i32 : BitVec 32 := 3#32
  let v0 : BitVec 32 := Scalar.subi arg0 c3_i32
  let c32_i32 : BitVec 32 := 32#32
  let v1 : BitVec 32 := Scalar.subi v0 c32_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![v3.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnReferenceIdeal.lean ====
abbrev S32x256x1024 : Shape := ⟨3, ![32, 256, 1024]⟩
abbrev S2x1024x1024 : Shape := ⟨3, ![2, 1024, 1024]⟩
abbrev S8192x512 : Shape := ⟨2, ![8192, 512]⟩
abbrev S2048x512 : Shape := ⟨2, ![2048, 512]⟩
abbrev S8x6144 : Shape := ⟨2, ![8, 6144]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x6144 : Shape := ⟨2, ![1, 6144]⟩
abbrev S6144 : Shape := ⟨1, ![6144]⟩
abbrev S1024 : Shape := ⟨1, ![1024]⟩
abbrev S8192x1024 : Shape := ⟨2, ![8192, 1024]⟩
abbrev S_ : Shape := ⟨0, ![]⟩
abbrev S1x1x1024 : Shape := ⟨3, ![1, 1, 1024]⟩
abbrev S32x256 : Shape := ⟨2, ![32, 256]⟩
abbrev S32x256x1 : Shape := ⟨3, ![32, 256, 1]⟩
abbrev S32x256x5632 : Shape := ⟨3, ![32, 256, 5632]⟩
abbrev S32x256x2816 : Shape := ⟨3, ![32, 256, 2816]⟩
abbrev S2x6144 : Shape := ⟨2, ![2, 6144]⟩
abbrev S2x1x6144 : Shape := ⟨3, ![2, 1, 6144]⟩
abbrev S2x1x1024 : Shape := ⟨3, ![2, 1, 1024]⟩
abbrev S2048x1024 : Shape := ⟨2, ![2048, 1024]⟩
abbrev S2x1024 : Shape := ⟨2, ![2, 1024]⟩
abbrev S2x1024x1 : Shape := ⟨3, ![2, 1024, 1]⟩
abbrev S2x1024x5632 : Shape := ⟨3, ![2, 1024, 5632]⟩
abbrev S2x1024x2816 : Shape := ⟨3, ![2, 1024, 2816]⟩

abbrev nBuf : Space → Nat
  | .hbm => 288
  | .vmem => 0
  | .smem => 0
  | _ => 0

abbrev hbmTy0_0 (i : Nat) : BufTy := match i % 128 with
  | 0 => ⟨S32x256x1024, .f32⟩
  | 1 => ⟨S2x1024x1024, .f32⟩
  | 2 => ⟨S8192x512, .bf16⟩
  | 3 => ⟨S2048x512, .bf16⟩
  | 4 => ⟨S8192x512, .bf16⟩
  | 5 => ⟨S2048x512, .bf16⟩
  | 6 => ⟨S8x6144, .f32⟩
  | 7 => ⟨S1024x1024, .bf16⟩
  | 8 => ⟨S1024x5632, .bf16⟩
  | 9 => ⟨S2816x1024, .bf16⟩
  | 10 => ⟨S1x1024, .f32⟩
  | 11 => ⟨S1x1024, .f32⟩
  | 12 => ⟨S1x1024, .f32⟩
  | 13 => ⟨S1x1024, .f32⟩
  | 14 => ⟨S1x6144, .f32⟩
  | 15 => ⟨S6144, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S8192x512, .f32⟩
  | 23 => ⟨S8192x512, .f32⟩
  | 24 => ⟨S8192x1024, .f32⟩
  | 25 => ⟨S32x256x1024, .f32⟩
  | 26 => ⟨S1024x1024, .f32⟩
  | 27 => ⟨S32x256x1024, .f32⟩
  | 28 => ⟨S_, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S32x256x1024, .f32⟩
  | 35 => ⟨S1024, .f32⟩
  | 36 => ⟨S1024, .f32⟩
  | 37 => ⟨S_, .f32⟩
  | 38 => ⟨S32x256, .f32⟩
  | 39 => ⟨S32x256x1, .f32⟩
  | 40 => ⟨S_, .f32⟩
  | 41 => ⟨S32x256x1, .f32⟩
  | 42 => ⟨S32x256x1, .f32⟩
  | 43 => ⟨S32x256x1024, .f32⟩
  | 44 => ⟨S32x256x1024, .f32⟩
  | 45 => ⟨S32x256x1024, .f32⟩
  | 46 => ⟨S_, .f32⟩
  | 47 => ⟨S32x256, .f32⟩
  | 48 => ⟨S32x256x1, .f32⟩
  | 49 => ⟨S_, .f32⟩
  | 50 => ⟨S32x256x1, .f32⟩
  | 51 => ⟨S32x256x1, .f32⟩
  | 52 => ⟨S32x256x1024, .f32⟩
  | 53 => ⟨S32x256x1024, .f32⟩
  | 54 => ⟨S_, .f32⟩
  | 55 => ⟨S32x256x1, .f32⟩
  | 56 => ⟨S32x256x1, .f32⟩
  | 57 => ⟨S32x256x1, .f32⟩
  | 58 => ⟨S32x256x1024, .f32⟩
  | 59 => ⟨S32x256x1024, .f32⟩
  | 60 => ⟨S1x1x1024, .f32⟩
  | 61 => ⟨S32x256x1024, .f32⟩
  | 62 => ⟨S32x256x1024, .f32⟩
  | 63 => ⟨S1x1x1024, .f32⟩
  | 64 => ⟨S32x256x1024, .f32⟩
  | 65 => ⟨S32x256x1024, .f32⟩
  | 66 => ⟨S_, .f32⟩
  | 67 => ⟨S32x256, .f32⟩
  | 68 => ⟨S32x256x1, .f32⟩
  | 69 => ⟨S_, .f32⟩
  | 70 => ⟨S32x256x1, .f32⟩
  | 71 => ⟨S32x256x1, .f32⟩
  | 72 => ⟨S32x256x1024, .f32⟩
  | 73 => ⟨S32x256x1024, .f32⟩
  | 74 => ⟨S32x256x1024, .f32⟩
  | 75 => ⟨S_, .f32⟩
  | 76 => ⟨S32x256, .f32⟩
  | 77 => ⟨S32x256x1, .f32⟩
  | 78 => ⟨S_, .f32⟩
  | 79 => ⟨S32x256x1, .f32⟩
  | 80 => ⟨S32x256x1, .f32⟩
  | 81 => ⟨S32x256x1024, .f32⟩
  | 82 => ⟨S32x256x1024, .f32⟩
  | 83 => ⟨S_, .f32⟩
  | 84 => ⟨S32x256x1, .f32⟩
  | 85 => ⟨S32x256x1, .f32⟩
  | 86 => ⟨S32x256x1, .f32⟩
  | 87 => ⟨S32x256x1024, .f32⟩
  | 88 => ⟨S32x256x1024, .f32⟩
  | 89 => ⟨S_, .f32⟩
  | 90 => ⟨S1024, .f32⟩
  | 91 => ⟨S1024, .f32⟩
  | 92 => ⟨S1x1x1024, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S1024x5632, .f32⟩
  | 99 => ⟨S32x256x5632, .f32⟩
  | 100 => ⟨S32x256x2816, .f32⟩
  | 101 => ⟨S32x256x2816, .f32⟩
  | 102 => ⟨S32x256x2816, .f32⟩
  | 103 => ⟨S32x256x2816, .f32⟩
  | 104 => ⟨S_, .f32⟩
  | 105 => ⟨S32x256x2816, .f32⟩
  | 106 => ⟨S32x256x2816, .f32⟩
  | 107 => ⟨S_, .f32⟩
  | 108 => ⟨S32x256x2816, .f32⟩
  | 109 => ⟨S32x256x2816, .f32⟩
  | 110 => ⟨S32x256x2816, .f32⟩
  | 111 => ⟨S32x256x2816, .f32⟩
  | 112 => ⟨S2816x1024, .f32⟩
  | 113 => ⟨S32x256x1024, .f32⟩
  | 114 => ⟨S_, .f32⟩
  | 115 => ⟨S32x256x1024, .f32⟩
  | 116 => ⟨S32x256x1024, .f32⟩
  | 117 => ⟨S1x1x1024, .f32⟩
  | 118 => ⟨S32x256x1024, .f32⟩
  | 119 => ⟨S32x256x1024, .f32⟩
  | 120 => ⟨S32x256x1024, .f32⟩
  | 121 => ⟨S1024, .f32⟩
  | 122 => ⟨S1024, .f32⟩
  | 123 => ⟨S_, .f32⟩
  | 124 => ⟨S32x256, .f32⟩
  | 125 => ⟨S32x256x1, .f32⟩
  | 126 => ⟨S_, .f32⟩
  | 127 => ⟨S32x256x1, .f32⟩
  | _ => ⟨S32x256x1024, .f32⟩

abbrev hbmTy0_1 (i : Nat) : BufTy := match i % 128 with
  | 0 => ⟨S32x256x1, .f32⟩
  | 1 => ⟨S32x256x1024, .f32⟩
  | 2 => ⟨S32x256x1024, .f32⟩
  | 3 => ⟨S32x256x1024, .f32⟩
  | 4 => ⟨S_, .f32⟩
  | 5 => ⟨S32x256, .f32⟩
  | 6 => ⟨S32x256x1, .f32⟩
  | 7 => ⟨S_, .f32⟩
  | 8 => ⟨S32x256x1, .f32⟩
  | 9 => ⟨S32x256x1, .f32⟩
  | 10 => ⟨S32x256x1024, .f32⟩
  | 11 => ⟨S32x256x1024, .f32⟩
  | 12 => ⟨S_, .f32⟩
  | 13 => ⟨S32x256x1, .f32⟩
  | 14 => ⟨S32x256x1, .f32⟩
  | 15 => ⟨S32x256x1, .f32⟩
  | 16 => ⟨S32x256x1024, .f32⟩
  | 17 => ⟨S32x256x1024, .f32⟩
  | 18 => ⟨S1x1x1024, .f32⟩
  | 19 => ⟨S32x256x1024, .f32⟩
  | 20 => ⟨S32x256x1024, .f32⟩
  | 21 => ⟨S1x1x1024, .f32⟩
  | 22 => ⟨S32x256x1024, .f32⟩
  | 23 => ⟨S32x256x1024, .f32⟩
  | 24 => ⟨S8192x1024, .f32⟩
  | 25 => ⟨S2x6144, .f32⟩
  | 26 => ⟨S2x1x6144, .f32⟩
  | 27 => ⟨S2x1x1024, .f32⟩
  | 28 => ⟨S2x1x1024, .f32⟩
  | 29 => ⟨S2x1x1024, .f32⟩
  | 30 => ⟨S2x1x1024, .f32⟩
  | 31 => ⟨S2x1x1024, .f32⟩
  | 32 => ⟨S2x1x1024, .f32⟩
  | 33 => ⟨S2048x512, .f32⟩
  | 34 => ⟨S2048x512, .f32⟩
  | 35 => ⟨S2048x1024, .f32⟩
  | 36 => ⟨S2x1024x1024, .f32⟩
  | 37 => ⟨S1024x1024, .f32⟩
  | 38 => ⟨S2x1024x1024, .f32⟩
  | 39 => ⟨S_, .f32⟩
  | 40 => ⟨S2x1024x1024, .f32⟩
  | 41 => ⟨S2x1024x1024, .f32⟩
  | 42 => ⟨S2x1024x1024, .f32⟩
  | 43 => ⟨S2x1024x1024, .f32⟩
  | 44 => ⟨S2x1024x1024, .f32⟩
  | 45 => ⟨S1024, .f32⟩
  | 46 => ⟨S1024, .f32⟩
  | 47 => ⟨S_, .f32⟩
  | 48 => ⟨S2x1024, .f32⟩
  | 49 => ⟨S2x1024x1, .f32⟩
  | 50 => ⟨S_, .f32⟩
  | 51 => ⟨S2x1024x1, .f32⟩
  | 52 => ⟨S2x1024x1, .f32⟩
  | 53 => ⟨S2x1024x1024, .f32⟩
  | 54 => ⟨S2x1024x1024, .f32⟩
  | 55 => ⟨S2x1024x1024, .f32⟩
  | 56 => ⟨S_, .f32⟩
  | 57 => ⟨S2x1024, .f32⟩
  | 58 => ⟨S2x1024x1, .f32⟩
  | 59 => ⟨S_, .f32⟩
  | 60 => ⟨S2x1024x1, .f32⟩
  | 61 => ⟨S2x1024x1, .f32⟩
  | 62 => ⟨S2x1024x1024, .f32⟩
  | 63 => ⟨S2x1024x1024, .f32⟩
  | 64 => ⟨S_, .f32⟩
  | 65 => ⟨S2x1024x1, .f32⟩
  | 66 => ⟨S2x1024x1, .f32⟩
  | 67 => ⟨S2x1024x1, .f32⟩
  | 68 => ⟨S2x1024x1024, .f32⟩
  | 69 => ⟨S2x1024x1024, .f32⟩
  | 70 => ⟨S1x1x1024, .f32⟩
  | 71 => ⟨S2x1024x1024, .f32⟩
  | 72 => ⟨S2x1024x1024, .f32⟩
  | 73 => ⟨S1x1x1024, .f32⟩
  | 74 => ⟨S2x1024x1024, .f32⟩
  | 75 => ⟨S2x1024x1024, .f32⟩
  | 76 => ⟨S_, .f32⟩
  | 77 => ⟨S2x1024, .f32⟩
  | 78 => ⟨S2x1024x1, .f32⟩
  | 79 => ⟨S_, .f32⟩
  | 80 => ⟨S2x1024x1, .f32⟩
  | 81 => ⟨S2x1024x1, .f32⟩
  | 82 => ⟨S2x1024x1024, .f32⟩
  | 83 => ⟨S2x1024x1024, .f32⟩
  | 84 => ⟨S2x1024x1024, .f32⟩
  | 85 => ⟨S_, .f32⟩
  | 86 => ⟨S2x1024, .f32⟩
  | 87 => ⟨S2x1024x1, .f32⟩
  | 88 => ⟨S_, .f32⟩
  | 89 => ⟨S2x1024x1, .f32⟩
  | 90 => ⟨S2x1024x1, .f32⟩
  | 91 => ⟨S2x1024x1024, .f32⟩
  | 92 => ⟨S2x1024x1024, .f32⟩
  | 93 => ⟨S_, .f32⟩
  | 94 => ⟨S2x1024x1, .f32⟩
  | 95 => ⟨S2x1024x1, .f32⟩
  | 96 => ⟨S2x1024x1, .f32⟩
  | 97 => ⟨S2x1024x1024, .f32⟩
  | 98 => ⟨S2x1024x1024, .f32⟩
  | 99 => ⟨S_, .f32⟩
  | 100 => ⟨S2x1x1024, .f32⟩
  | 101 => ⟨S2x1x1024, .f32⟩
  | 102 => ⟨S2x1024x1024, .f32⟩
  | 103 => ⟨S2x1024x1024, .f32⟩
  | 104 => ⟨S2x1024x1024, .f32⟩
  | 105 => ⟨S2x1024x1024, .f32⟩
  | 106 => ⟨S1024x5632, .f32⟩
  | 107 => ⟨S2x1024x5632, .f32⟩
  | 108 => ⟨S2x1024x2816, .f32⟩
  | 109 => ⟨S2x1024x2816, .f32⟩
  | 110 => ⟨S2x1024x2816, .f32⟩
  | 111 => ⟨S2x1024x2816, .f32⟩
  | 112 => ⟨S_, .f32⟩
  | 113 => ⟨S2x1024x2816, .f32⟩
  | 114 => ⟨S2x1024x2816, .f32⟩
  | 115 => ⟨S_, .f32⟩
  | 116 => ⟨S2x1024x2816, .f32⟩
  | 117 => ⟨S2x1024x2816, .f32⟩
  | 118 => ⟨S2x1024x2816, .f32⟩
  | 119 => ⟨S2x1024x2816, .f32⟩
  | 120 => ⟨S2816x1024, .f32⟩
  | 121 => ⟨S2x1024x1024, .f32⟩
  | 122 => ⟨S_, .f32⟩
  | 123 => ⟨S2x1024x1024, .f32⟩
  | 124 => ⟨S2x1024x1024, .f32⟩
  | 125 => ⟨S2x1024x1024, .f32⟩
  | 126 => ⟨S2x1024x1024, .f32⟩
  | 127 => ⟨S2x1024x1024, .f32⟩
  | _ => ⟨S32x256x1024, .f32⟩

abbrev hbmTy0_2 (i : Nat) : BufTy := match i % 128 with
  | 0 => ⟨S1024, .f32⟩
  | 1 => ⟨S1024, .f32⟩
  | 2 => ⟨S_, .f32⟩
  | 3 => ⟨S2x1024, .f32⟩
  | 4 => ⟨S2x1024x1, .f32⟩
  | 5 => ⟨S_, .f32⟩
  | 6 => ⟨S2x1024x1, .f32⟩
  | 7 => ⟨S2x1024x1, .f32⟩
  | 8 => ⟨S2x1024x1024, .f32⟩
  | 9 => ⟨S2x1024x1024, .f32⟩
  | 10 => ⟨S2x1024x1024, .f32⟩
  | 11 => ⟨S_, .f32⟩
  | 12 => ⟨S2x1024, .f32⟩
  | 13 => ⟨S2x1024x1, .f32⟩
  | 14 => ⟨S_, .f32⟩
  | 15 => ⟨S2x1024x1, .f32⟩
  | 16 => ⟨S2x1024x1, .f32⟩
  | 17 => ⟨S2x1024x1024, .f32⟩
  | 18 => ⟨S2x1024x1024, .f32⟩
  | 19 => ⟨S_, .f32⟩
  | 20 => ⟨S2x1024x1, .f32⟩
  | 21 => ⟨S2x1024x1, .f32⟩
  | 22 => ⟨S2x1024x1, .f32⟩
  | 23 => ⟨S2x1024x1024, .f32⟩
  | 24 => ⟨S2x1024x1024, .f32⟩
  | 25 => ⟨S1x1x1024, .f32⟩
  | 26 => ⟨S2x1024x1024, .f32⟩
  | 27 => ⟨S2x1024x1024, .f32⟩
  | 28 => ⟨S1x1x1024, .f32⟩
  | 29 => ⟨S2x1024x1024, .f32⟩
  | 30 => ⟨S2x1024x1024, .f32⟩
  | 31 => ⟨S2048x1024, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_11 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_12 : Ref sig .tc := ⟨.hbm, 123, rfl⟩
abbrev main_v88 : Ref sig .tc := ⟨.hbm, 124, rfl⟩
abbrev main_v89 : Ref sig .tc := ⟨.hbm, 125, rfl⟩
abbrev main_cst_13 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩
abbrev main_cst_15 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_17 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_18 : Ref sig .tc := ⟨.hbm, 175, rfl⟩
abbrev main_v134 : Ref sig .tc := ⟨.hbm, 176, rfl⟩
abbrev main_v135 : Ref sig .tc := ⟨.hbm, 177, rfl⟩
abbrev main_cst_19 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_20 : Ref sig .tc := ⟨.hbm, 184, rfl⟩
abbrev main_v141 : Ref sig .tc := ⟨.hbm, 185, rfl⟩
abbrev main_v142 : Ref sig .tc := ⟨.hbm, 186, rfl⟩
abbrev main_cst_21 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_22 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_23 : Ref sig .tc := ⟨.hbm, 204, rfl⟩
abbrev main_v158 : Ref sig .tc := ⟨.hbm, 205, rfl⟩
abbrev main_v159 : Ref sig .tc := ⟨.hbm, 206, rfl⟩
abbrev main_cst_24 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_25 : Ref sig .tc := ⟨.hbm, 213, rfl⟩
abbrev main_v165 : Ref sig .tc := ⟨.hbm, 214, rfl⟩
abbrev main_v166 : Ref sig .tc := ⟨.hbm, 215, rfl⟩
abbrev main_cst_26 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_27 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_28 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_call1_v0 : Ref sig .tc := ⟨.hbm, 238, rfl⟩
abbrev main_call1_v1 : Ref sig .tc := ⟨.hbm, 239, rfl⟩
abbrev main_call1_cst : Ref sig .tc := ⟨.hbm, 240, rfl⟩
abbrev main_call1_v2 : Ref sig .tc := ⟨.hbm, 241, rfl⟩
abbrev main_call1_v3 : Ref sig .tc := ⟨.hbm, 242, rfl⟩
abbrev main_call1_cst_0 : Ref sig .tc := ⟨.hbm, 243, rfl⟩
abbrev main_call1_v4 : Ref sig .tc := ⟨.hbm, 244, rfl⟩
abbrev main_call1_v5 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_29 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_30 : Ref sig .tc := ⟨.hbm, 258, rfl⟩
abbrev main_v197 : Ref sig .tc := ⟨.hbm, 259, rfl⟩
abbrev main_v198 : Ref sig .tc := ⟨.hbm, 260, rfl⟩
abbrev main_cst_31 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_32 : Ref sig .tc := ⟨.hbm, 267, rfl⟩
abbrev main_v204 : Ref sig .tc := ⟨.hbm, 268, rfl⟩
abbrev main_v205 : Ref sig .tc := ⟨.hbm, 269, rfl⟩
abbrev main_cst_33 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_34 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩

abbrev nD : Nat := 1
abbrev τ : Topo := Topo.v7x

variable {F : FTy → Type} [FloatOps F]
-- ==== ProjKernel.lean ====
abbrev S32x256x1024 : Shape := ⟨3, ![32, 256, 1024]⟩
abbrev S2x1024x1024 : Shape := ⟨3, ![2, 1024, 1024]⟩
abbrev S8x6144 : Shape := ⟨2, ![8, 6144]⟩
abbrev S1024x3072 : Shape := ⟨2, ![1024, 3072]⟩
abbrev S1024x256 : Shape := ⟨2, ![1024, 256]⟩
abbrev S8192x1024 : Shape := ⟨2, ![8192, 1024]⟩
abbrev S2048x1024 : Shape := ⟨2, ![2048, 1024]⟩
abbrev S8192x1536 : Shape := ⟨2, ![8192, 1536]⟩
abbrev S2048x1536 : Shape := ⟨2, ![2048, 1536]⟩
abbrev S32x8x64x256 : Shape := ⟨4, ![32, 8, 64, 256]⟩
abbrev S8192x4x128 : Shape := ⟨3, ![8192, 4, 128]⟩
abbrev S512x1024 : Shape := ⟨2, ![512, 1024]⟩
abbrev S512x256 : Shape := ⟨2, ![512, 256]⟩
abbrev S512x1536 : Shape := ⟨2, ![512, 1536]⟩
abbrev S2x8x64x256 : Shape := ⟨4, ![2, 8, 64, 256]⟩
abbrev S512x4x128 : Shape := ⟨3, ![512, 4, 128]⟩
abbrev S512x512 : Shape := ⟨2, ![512, 512]⟩
abbrev S256x512 : Shape := ⟨2, ![256, 512]⟩
abbrev S8x64x256 : Shape := ⟨3, ![8, 64, 256]⟩
abbrev S1x8x64x256 : Shape := ⟨4, ![1, 8, 64, 256]⟩
abbrev S1024x1536 : Shape := ⟨2, ![1024, 1536]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S512x128 : Shape := ⟨2, ![512, 128]⟩

abbrev nBuf : Space → Nat
  | .hbm => 13
  | .vmem => 22
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S8x6144, .f32⟩
  | .hbm, ⟨3, _⟩ => ⟨S1024x3072, .bf16⟩
  | .hbm, ⟨4, _⟩ => ⟨S1024x256, .f32⟩
  | .hbm, ⟨5, _⟩ => ⟨S8192x1024, .f32⟩
  | .hbm, ⟨6, _⟩ => ⟨S2048x1024, .f32⟩
  | .hbm, ⟨7, _⟩ => ⟨S8192x1536, .bf16⟩
  | .hbm, ⟨8, _⟩ => ⟨S2048x1536, .bf16⟩
  | .hbm, ⟨9, _⟩ => ⟨S8192x1536, .bf16⟩
  | .hbm, ⟨10, _⟩ => ⟨S2048x1536, .bf16⟩
  | .hbm, ⟨11, _⟩ => ⟨S32x8x64x256, .f32⟩
  | .hbm, ⟨12, _⟩ => ⟨S8192x4x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S1024x3072, .bf16⟩
  | .local _ .vmem, ⟨6, _⟩ => ⟨S512x256, .f32⟩
  | .local _ .vmem, ⟨7, _⟩ => ⟨S512x256, .f32⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | .local _ .vmem, ⟨12, _⟩ => ⟨S512x1536, .bf16⟩
  | .local _ .vmem, ⟨13, _⟩ => ⟨S512x1536, .bf16⟩
  | .local _ .vmem, ⟨14, _⟩ => ⟨S512x1536, .bf16⟩
  | .local _ .vmem, ⟨15, _⟩ => ⟨S512x1536, .bf16⟩
  | .local _ .vmem, ⟨16, _⟩ => ⟨S2x8x64x256, .f32⟩
  | .local _ .vmem, ⟨17, _⟩ => ⟨S2x8x64x256, .f32⟩
  | .local _ .vmem, ⟨18, _⟩ => ⟨S512x4x128, .f32⟩
  | .local _ .vmem, ⟨19, _⟩ => ⟨S512x4x128, .f32⟩
  | .local _ .vmem, ⟨20, _⟩ => ⟨S512x1024, .bf16⟩
  | .local _ .vmem, ⟨21, _⟩ => ⟨S512x1536, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![22], ![false]⟩

def k0_cond2 (i : grid0.Coords) : BitVec 1 :=
  let arg0 : BitVec 32 := BitVec.ofNat 32 (i 0).val
  let c2_i32 : BitVec 32 := 2#32
  let v3 : BitVec 1 := Scalar.cmpi .sge arg0 c2_i32
  let c20_i32 : BitVec 32 := 20#32
  let v4 : BitVec 1 := Scalar.cmpi .slt arg0 c20_i32
  let v5 : BitVec 1 := Scalar.andi v3 v4
  let c19_i32 : BitVec 32 := 19#32
  let c0_i32_2 : BitVec 32 := 0#32
  let c2_i32_1 : BitVec 32 := 2#32
  let v7 : BitVec 32 := Scalar.subi arg0 c2_i32_1
  let v8 : BitVec 32 := Scalar.maxsi c0_i32_2 v7
  let v9 : BitVec 32 := Scalar.minsi c19_i32 v8
  let c16_i32 : BitVec 32 := 16#32
  let v10 : BitVec 1 := Scalar.cmpi .sge v9 c16_i32
  let true_3 : BitVec 1 := 1#1
  let v11 : BitVec 1 := Scalar.xori v10 true_3
  let v12 : BitVec 1 := Scalar.andi v5 v11
  let v13 : BitVec 32 := Scalar.extui v12
  let c0_i32_4 : BitVec 32 := 0#32
  let v14 : BitVec 1 := Scalar.cmpi .ne v13 c0_i32_4
  v14

def k0_off1 (i : grid0.Coords) : Fin 2 → Nat :=
  let c19_i32_52 : BitVec 32 := 19#32
  let c0_i32_51 : BitVec 32 := 0#32
  let arg0 : BitVec 32 := BitVec.ofNat 32 (i 0).val
  let c0_i32_50 : BitVec 32 := 0#32
  let v75 : BitVec 32 := Scalar.subi arg0 c0_i32_50
  let v76 : BitVec 32 := Scalar.maxsi c0_i32_51 v75
  let v77 : BitVec 32 := Scalar.minsi c19_i32_52 v76
  let c512_i32 : BitVec 32 := 512#32
  let v84 : BitVec 32 := Scalar.muli v77 c512_i32
  let c8192_i32 : BitVec 32 := 8192#32
  let v85 : BitVec 1 := Scalar.cmpi .slt v84 c8192_i32
  let c0_i32_66 : BitVec 32 := 0#32
  let c1_i32_65 : BitVec 32 := 1#32
  let c8192_i32_58 : BitVec 32 := 8192#32
  let v86 : BitVec 32 := Scalar.subi v84 c8192_i32_58
  let c0_i32_59 : BitVec 32 := 0#32
  let v88 : BitVec 1 := Scalar.cmpi .sgt v86 c0_i32_59
  let v89 : BitVec 32 := Scalar.extui v88
  let c0_i32_60 : BitVec 32 := 0#32
  let v90 : BitVec 1 := Scalar.cmpi .slt v86 c0_i32_60
  let v91 : BitVec 32 := Scalar.extui v90
  let v92 : BitVec 32 := Scalar.subi v89 v91
  let c1024_i32 : BitVec 32 := 1024#32
  let c0_i32_61 : BitVec 32 := 0#32
  let v93 : BitVec 1 := Scalar.cmpi .sgt c1024_i32 c0_i32_61
  let v94 : BitVec 32 := Scalar.extui v93
  let c0_i32_62 : BitVec 32 := 0#32
  let v95 : BitVec 1 := Scalar.cmpi .slt c1024_i32 c0_i32_62
  let v96 : BitVec 32 := Scalar.extui v95
  let v97 : BitVec 32 := Scalar.subi v94 v96
  let v98 : BitVec 1 := Scalar.cmpi .ne v92 v97
  let v99 : BitVec 32 := Scalar.remsi v86 c1024_i32
  let c0_i32_63 : BitVec 32 := 0#32
  let v100 : BitVec 1 := Scalar.cmpi .ne v99 c0_i32_63
  let v101 : BitVec 1 := Scalar.andi v98 v100
  let v87 : BitVec 32 := Scalar.divsi v86 c1024_i32
  let c1_i32_64 : BitVec 32 := 1#32
  let v102 : BitVec 32 := Scalar.subi v87 c1_i32_64
  let v103 : BitVec 32 := Scalar.select v101 v102 v87
  let v104 : BitVec 32 := Scalar.addi c1_i32_65 v103
  let v105 : BitVec 32 := Scalar.select v85 c0_i32_66 v104
  let v106 : Index := Scalar.indexCast v105
  let c0_67 : Index := 0#32
  ![v106.toNat, 0]
def k0_cond3 (i : grid0.Coords) : BitVec 1 :=
  let arg0 : BitVec 32 := BitVec.ofNat 32 (i 0).val
  let c2_i32 : BitVec 32 := 2#32
  let v3 : BitVec 1 := Scalar.cmpi .sge arg0 c2_i32
  let c20_i32 : BitVec 32 := 20#32
  let v4 : BitVec 1 := Scalar.cmpi .slt arg0 c20_i32
  let v5 : BitVec 1 := Scalar.andi v3 v4
  let c19_i32 : BitVec 32 := 19#32
  let c0_i32_2 : BitVec 32 := 0#32
  let c2_i32_1 : BitVec 32 := 2#32
  let v7 : BitVec 32 := Scalar.subi arg0 c2_i32_1
  let v8 : BitVec 32 := Scalar.maxsi c0_i32_2 v7
  let v9 : BitVec 32 := Scalar.minsi c19_i32 v8
  let c16_i32 : BitVec 32 := 16#32
  let v10 : BitVec 1 := Scalar.cmpi .sge v9 c16_i32
  let v15 : BitVec 1 := Scalar.andi v5 v10
  let v16 : BitVec 32 := Scalar.extui v15
  let c0_i32_5 : BitVec 32 := 0#32
  let v17 : BitVec 1 := Scalar.cmpi .ne v16 c0_i32_5
  v17

def k0_off2 (i : grid0.Coords) : Fin 2 → Nat :=
  let c19_i32_61 : BitVec 32 := 19#32
  let c0_i32_60 : BitVec 32 := 0#32
  let arg0 : BitVec 32 := BitVec.ofNat 32 (i 0).val
  let c0_i32_59 : BitVec 32 := 0#32
  let v115 : BitVec 32 := Scalar.subi arg0 c0_i32_59
  let v116 : BitVec 32 := Scalar.maxsi c0_i32_60 v115
  let v117 : BitVec 32 := Scalar.minsi c19_i32_61 v116
  let c512_i32 : BitVec 32 := 512#32
  let v124 : BitVec 32 := Scalar.muli v117 c512_i32
  let c8192_i32 : BitVec 32 := 8192#32
  let v125 : BitVec 1 := Scalar.cmpi .slt v124 c8192_i32
  let c0_i32_75 : BitVec 32 := 0#32
  let c1_i32_74 : BitVec 32 := 1#32
  let c8192_i32_67 : BitVec 32 := 8192#32
  let v126 : BitVec 32 := Scalar.subi v124 c8192_i32_67
  let c0_i32_68 : BitVec 32 := 0#32
  let v128 : BitVec 1 := Scalar.cmpi .sgt v126 c0_i32_68
  let v129 : BitVec 32 := Scalar.extui v128
  let c0_i32_69 : BitVec 32 := 0#32
  let v130 : BitVec 1 := Scalar.cmpi .slt v126 c0_i32_69
  let v131 : BitVec 32 := Scalar.extui v130
  let v132 : BitVec 32 := Scalar.subi v129 v131
  let c1024_i32 : BitVec 32 := 1024#32
  let c0_i32_70 : BitVec 32 := 0#32
  let v133 : BitVec 1 := Scalar.cmpi .sgt c1024_i32 c0_i32_70
  let v134 : BitVec 32 := Scalar.extui v133
  let c0_i32_71 : BitVec 32 := 0#32
  let v135 : BitVec 1 := Scalar.cmpi .slt c1024_i32 c0_i32_71
  let v136 : BitVec 32 := Scalar.extui v135
  let v137 : BitVec 32 := Scalar.subi v134 v136
  let v138 : BitVec 1 := Scalar.cmpi .ne v132 v137
  let v139 : BitVec 32 := Scalar.remsi v126 c1024_i32
  let c0_i32_72 : BitVec 32 := 0#32
  let v140 : BitVec 1 := Scalar.cmpi .ne v139 c0_i32_72
  let v141 : BitVec 1 := Scalar.andi v138 v140
  let v127 : BitVec 32 := Scalar.divsi v126 c1024_i32
  let c1_i32_73 : BitVec 32 := 1#32
  let v142 : BitVec 32 := Scalar.subi v127 c1_i32_73
  let v143 : BitVec 32 := Scalar.select v141 v142 v127
  let v144 : BitVec 32 := Scalar.addi c1_i32_74 v143
  let v145 : BitVec 32 := Scalar.select v125 c0_i32_75 v144
  let v146 : Index := Scalar.indexCast v145
  let c0_76 : Index := 0#32
  ![v146.toNat, 0]
def k0_cond6 (i : grid0.Coords) : BitVec 1 :=
  let arg0 : BitVec 32 := BitVec.ofNat 32 (i 0).val
  let c2_i32 : BitVec 32 := 2#32
  let v3 : BitVec 1 := Scalar.cmpi .sge arg0 c2_i32
  let c20_i32 : BitVec 32 := 20#32
  let v4 : BitVec 1 := Scalar.cmpi .slt arg0 c20_i32
  let v5 : BitVec 1 := Scalar.andi v3 v4
  let v_true : BitVec 1 := 1#1
  let v6 : BitVec 1 := Scalar.xori v5 v_true
  let c20_i32_10 : BitVec 32 := 20#32
  let v28 : BitVec 1 := Scalar.cmpi .slt arg0 c20_i32_10
  let v29 : BitVec 1 := Scalar.andi v6 v28
  let v30 : BitVec 32 := Scalar.extui v29
  let c0_i32_11 : BitVec 32 := 0#32
  let v31 : BitVec 1 := Scalar.cmpi .ne v30 c0_i32_11
  v31

def k0_off3 (i : grid0.Coords) : Fin 2 → Nat :=
  let c19_i32_14 : BitVec 32 := 19#32
  let c0_i32_13 : BitVec 32 := 0#32
  let arg0 : BitVec 32 := BitVec.ofNat 32 (i 0).val
  let c0_i32_12 : BitVec 32 := 0#32
  let v32 : BitVec 32 := Scalar.subi arg0 c0_i32_12
  let v33 : BitVec 32 := Scalar.maxsi c0_i32_13 v32
  let v34 : BitVec 32 := Scalar.minsi c19_i32_14 v33
  let c512_i32 : BitVec 32 := 512#32
  let v41 : BitVec 32 := Scalar.muli v34 c512_i32
  let c8192_i32 : BitVec 32 := 8192#32
  let v42 : BitVec 1 := Scalar.cmpi .slt v41 c8192_i32
  let c0_i32_27 : BitVec 32 := 0#32
  let c1_i32_26 : BitVec 32 := 1#32
  let c8192_i32_19 : BitVec 32 := 8192#32
  let v43 : BitVec 32 := Scalar.subi v41 c8192_i32_19
  let c0_i32_20 : BitVec 32 := 0#32
  let v45 : BitVec 1 := Scalar.cmpi .sgt v43 c0_i32_20
  let v46 : BitVec 32 := Scalar.extui v45
  let c0_i32_21 : BitVec 32 := 0#32
  let v47 : BitVec 1 := Scalar.cmpi .slt v43 c0_i32_21
  let v48 : BitVec 32 := Scalar.extui v47
  let v49 : BitVec 32 := Scalar.subi v46 v48
  let c1024_i32 : BitVec 32 := 1024#32
  let c0_i32_22 : BitVec 32 := 0#32
  let v50 : BitVec 1 := Scalar.cmpi .sgt c1024_i32 c0_i32_22
  let v51 : BitVec 32 := Scalar.extui v50
  let c0_i32_23 : BitVec 32 := 0#32
  let v52 : BitVec 1 := Scalar.cmpi .slt c1024_i32 c0_i32_23
  let v53 : BitVec 32 := Scalar.extui v52
  let v54 : BitVec 32 := Scalar.subi v51 v53
  let v55 : BitVec 1 := Scalar.cmpi .ne v49 v54
  let v56 : BitVec 32 := Scalar.remsi v43 c1024_i32
  let c0_i32_24 : BitVec 32 := 0#32
  let v57 : BitVec 1 := Scalar.cmpi .ne v56 c0_i32_24
  let v58 : BitVec 1 := Scalar.andi v55 v57
  let v44 : BitVec 32 := Scalar.divsi v43 c1024_i32
  let c1_i32_25 : BitVec 32 := 1#32
  let v59 : BitVec 32 := Scalar.subi v44 c1_i32_25
  let v60 : BitVec 32 := Scalar.select v58 v59 v44
  let v61 : BitVec 32 := Scalar.addi c1_i32_26 v60
  let v62 : BitVec 32 := Scalar.select v42 c0_i32_27 v61
  let v63 : Index := Scalar.indexCast v62
  let c0_28 : Index := 0#32
  ![v63.toNat, 0]
def k0_cond4 (i : grid0.Coords) : BitVec 1 :=
  let arg0 : BitVec 32 := BitVec.ofNat 32 (i 0).val
  let c2_i32 : BitVec 32 := 2#32
  let v3 : BitVec 1 := Scalar.cmpi .sge arg0 c2_i32
  let c20_i32 : BitVec 32 := 20#32
  let v4 : BitVec 1 := Scalar.cmpi .slt arg0 c20_i32
  let v5 : BitVec 1 := Scalar.andi v3 v4
  let v_true : BitVec 1 := 1#1
  let v6 : BitVec 1 := Scalar.xori v5 v_true
  let c2_i32_6 : BitVec 32 := 2#32
  let v18 : BitVec 1 := Scalar.cmpi .sge arg0 c2_i32_6
  let v19 : BitVec 1 := Scalar.andi v6 v18
  let v20 : BitVec 32 := Scalar.extui v19
  let c0_i32_7 : BitVec 32 := 0#32
  let v21 : BitVec 1 := Scalar.cmpi .ne v20 c0_i32_7
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg0 : BitVec 32 := BitVec.ofNat 32 (i 0).val
  let c2_i32 : BitVec 32 := 2#32
  let v3 : BitVec 1 := Scalar.cmpi .sge arg0 c2_i32
  let c20_i32 : BitVec 32 := 20#32
  let v4 : BitVec 1 := Scalar.cmpi .slt arg0 c20_i32
  let v5 : BitVec 1 := Scalar.andi v3 v4
  let v_true : BitVec 1 := 1#1
  let v6 : BitVec 1 := Scalar.xori v5 v_true
  let c1_i32 : BitVec 32 := 1#32
  let v22 : BitVec 1 := Scalar.cmpi .sge arg0 c1_i32
  let c20_i32_8 : BitVec 32 := 20#32
  let v23 : BitVec 1 := Scalar.cmpi .sle arg0 c20_i32_8
  let v24 : BitVec 1 := Scalar.andi v22 v23
  let v25 : BitVec 1 := Scalar.andi v6 v24
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c16_i32 : BitVec 32 := 16#32
  let v1 : BitVec 32 := Scalar.subi v0 c16_i32
  let c0_i32_0 : BitVec 32 := 0#32
  let c3_i32 : BitVec 32 := 3#32
  let v2 : BitVec 32 := Scalar.maxsi c0_i32_0 v1
  let v3 : BitVec 32 := Scalar.minsi c3_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c16_i32 : BitVec 32 := 16#32
  let v1 : BitVec 32 := Scalar.subi v0 c16_i32
  let c0_i32 : BitVec 32 := 0#32
  let c3_i32 : BitVec 32 := 3#32
  let v2 : BitVec 32 := Scalar.maxsi c0_i32 v1
  let v3 : BitVec 32 := Scalar.minsi c3_i32 v2
  let c2_i32_0 : BitVec 32 := 2#32
  let c0_i32_1 : BitVec 32 := 0#32
  let v4 : BitVec 1 := Scalar.cmpi .eq c2_i32_0 c0_i32_1
  let c1_i32 : BitVec 32 := 1#32
  let v5 : BitVec 32 := Scalar.select v4 c1_i32 c2_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let c0_i32_6 : BitVec 32 := 0#32
  ![v13.toNat, c0_i32_5.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c16_i32 : BitVec 32 := 16#32
  let v1 : BitVec 32 := Scalar.subi v0 c16_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.subi v0 c16_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

def cc0_transform_9 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_10 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjReferenceIdeal.lean ====
abbrev S32x256x1024 : Shape := ⟨3, ![32, 256, 1024]⟩
abbrev S2x1024x1024 : Shape := ⟨3, ![2, 1024, 1024]⟩
abbrev S8x6144 : Shape := ⟨2, ![8, 6144]⟩
abbrev S1024x3072 : Shape := ⟨2, ![1024, 3072]⟩
abbrev S1024x256 : Shape := ⟨2, ![1024, 256]⟩
abbrev S1x6144 : Shape := ⟨2, ![1, 6144]⟩
abbrev S6144 : Shape := ⟨1, ![6144]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x3072 : Shape := ⟨3, ![32, 256, 3072]⟩
abbrev S32x256x512 : Shape := ⟨3, ![32, 256, 512]⟩
abbrev S32x256x1536 : Shape := ⟨3, ![32, 256, 1536]⟩
abbrev S2x6144 : Shape := ⟨2, ![2, 6144]⟩
abbrev S2x1x6144 : Shape := ⟨3, ![2, 1, 6144]⟩
abbrev S2x1x1024 : Shape := ⟨3, ![2, 1, 1024]⟩
abbrev S2x1024 : Shape := ⟨2, ![2, 1024]⟩
abbrev S2x1024x1 : Shape := ⟨3, ![2, 1024, 1]⟩
abbrev S2x1024x3072 : Shape := ⟨3, ![2, 1024, 3072]⟩
abbrev S2x1024x512 : Shape := ⟨3, ![2, 1024, 512]⟩
abbrev S2x1024x1536 : Shape := ⟨3, ![2, 1024, 1536]⟩
abbrev S8192x1536 : Shape := ⟨2, ![8192, 1536]⟩
abbrev S1024x128 : Shape := ⟨2, ![1024, 128]⟩
abbrev S1024x1x4x2x16 : Shape := ⟨5, ![1024, 1, 4, 2, 16]⟩
abbrev S2x1024x4x4x2x16 : Shape := ⟨6, ![2, 1024, 4, 4, 2, 16]⟩
abbrev S2x1024x4x4x1x16 : Shape := ⟨6, ![2, 1024, 4, 4, 1, 16]⟩
abbrev S2x1024x4x4x16 : Shape := ⟨5, ![2, 1024, 4, 4, 16]⟩
abbrev S1024x1x4x1x16 : Shape := ⟨5, ![1024, 1, 4, 1, 16]⟩
abbrev S1024x1x4x16 : Shape := ⟨4, ![1024, 1, 4, 16]⟩
abbrev S1x1024x1x4x16 : Shape := ⟨5, ![1, 1024, 1, 4, 16]⟩
abbrev S2048x1536 : Shape := ⟨2, ![2048, 1536]⟩
abbrev S32x256x8x64 : Shape := ⟨4, ![32, 256, 8, 64]⟩
abbrev S32x8x64x256 : Shape := ⟨4, ![32, 8, 64, 256]⟩
abbrev S8192x4x128 : Shape := ⟨3, ![8192, 4, 128]⟩

abbrev nBuf : Space → Nat
  | .hbm => 184
  | .vmem => 0
  | .smem => 0
  | _ => 0

abbrev hbmTy0_0 (i : Nat) : BufTy := match i % 128 with
  | 0 => ⟨S32x256x1024, .f32⟩
  | 1 => ⟨S2x1024x1024, .f32⟩
  | 2 => ⟨S8x6144, .f32⟩
  | 3 => ⟨S1024x3072, .bf16⟩
  | 4 => ⟨S1024x256, .f32⟩
  | 5 => ⟨S1x6144, .f32⟩
  | 6 => ⟨S6144, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S_, .f32⟩
  | 14 => ⟨S32x256, .f32⟩
  | 15 => ⟨S32x256x1, .f32⟩
  | 16 => ⟨S_, .f32⟩
  | 17 => ⟨S32x256x1, .f32⟩
  | 18 => ⟨S32x256x1, .f32⟩
  | 19 => ⟨S32x256x1024, .f32⟩
  | 20 => ⟨S32x256x1024, .f32⟩
  | 21 => ⟨S32x256x1024, .f32⟩
  | 22 => ⟨S_, .f32⟩
  | 23 => ⟨S32x256, .f32⟩
  | 24 => ⟨S32x256x1, .f32⟩
  | 25 => ⟨S_, .f32⟩
  | 26 => ⟨S32x256x1, .f32⟩
  | 27 => ⟨S32x256x1, .f32⟩
  | 28 => ⟨S32x256x1024, .f32⟩
  | 29 => ⟨S32x256x1024, .f32⟩
  | 30 => ⟨S_, .f32⟩
  | 31 => ⟨S32x256x1, .f32⟩
  | 32 => ⟨S32x256x1, .f32⟩
  | 33 => ⟨S32x256x1, .f32⟩
  | 34 => ⟨S32x256x1024, .f32⟩
  | 35 => ⟨S32x256x1024, .f32⟩
  | 36 => ⟨S_, .f32⟩
  | 37 => ⟨S1024, .f32⟩
  | 38 => ⟨S1024, .f32⟩
  | 39 => ⟨S1x1x1024, .f32⟩
  | 40 => ⟨S32x256x1024, .f32⟩
  | 41 => ⟨S32x256x1024, .f32⟩
  | 42 => ⟨S1x1x1024, .f32⟩
  | 43 => ⟨S32x256x1024, .f32⟩
  | 44 => ⟨S32x256x1024, .f32⟩
  | 45 => ⟨S1024x3072, .f32⟩
  | 46 => ⟨S32x256x3072, .f32⟩
  | 47 => ⟨S32x256x512, .f32⟩
  | 48 => ⟨S32x256x512, .f32⟩
  | 49 => ⟨S32x256x512, .f32⟩
  | 50 => ⟨S32x256x1536, .f32⟩
  | 51 => ⟨S2x6144, .f32⟩
  | 52 => ⟨S2x1x6144, .f32⟩
  | 53 => ⟨S2x1x1024, .f32⟩
  | 54 => ⟨S2x1x1024, .f32⟩
  | 55 => ⟨S2x1x1024, .f32⟩
  | 56 => ⟨S2x1x1024, .f32⟩
  | 57 => ⟨S2x1x1024, .f32⟩
  | 58 => ⟨S2x1x1024, .f32⟩
  | 59 => ⟨S_, .f32⟩
  | 60 => ⟨S2x1024, .f32⟩
  | 61 => ⟨S2x1024x1, .f32⟩
  | 62 => ⟨S_, .f32⟩
  | 63 => ⟨S2x1024x1, .f32⟩
  | 64 => ⟨S2x1024x1, .f32⟩
  | 65 => ⟨S2x1024x1024, .f32⟩
  | 66 => ⟨S2x1024x1024, .f32⟩
  | 67 => ⟨S2x1024x1024, .f32⟩
  | 68 => ⟨S_, .f32⟩
  | 69 => ⟨S2x1024, .f32⟩
  | 70 => ⟨S2x1024x1, .f32⟩
  | 71 => ⟨S_, .f32⟩
  | 72 => ⟨S2x1024x1, .f32⟩
  | 73 => ⟨S2x1024x1, .f32⟩
  | 74 => ⟨S2x1024x1024, .f32⟩
  | 75 => ⟨S2x1024x1024, .f32⟩
  | 76 => ⟨S_, .f32⟩
  | 77 => ⟨S2x1024x1, .f32⟩
  | 78 => ⟨S2x1024x1, .f32⟩
  | 79 => ⟨S2x1024x1, .f32⟩
  | 80 => ⟨S2x1024x1024, .f32⟩
  | 81 => ⟨S2x1024x1024, .f32⟩
  | 82 => ⟨S_, .f32⟩
  | 83 => ⟨S2x1x1024, .f32⟩
  | 84 => ⟨S2x1x1024, .f32⟩
  | 85 => ⟨S2x1024x1024, .f32⟩
  | 86 => ⟨S2x1024x1024, .f32⟩
  | 87 => ⟨S2x1024x1024, .f32⟩
  | 88 => ⟨S2x1024x1024, .f32⟩
  | 89 => ⟨S1024x3072, .f32⟩
  | 90 => ⟨S2x1024x3072, .f32⟩
  | 91 => ⟨S2x1024x512, .f32⟩
  | 92 => ⟨S2x1024x512, .f32⟩
  | 93 => ⟨S2x1024x512, .f32⟩
  | 94 => ⟨S2x1024x1536, .f32⟩
  | 95 => ⟨S_, .f32⟩
  | 96 => ⟨S32x256x512, .f32⟩
  | 97 => ⟨S32x256x512, .f32⟩
  | 98 => ⟨S32x256x1536, .f32⟩
  | 99 => ⟨S8192x1536, .f32⟩
  | 100 => ⟨S8192x1536, .bf16⟩
  | 101 => ⟨S1024x128, .f32⟩
  | 102 => ⟨S1024x128, .f32⟩
  | 103 => ⟨S1024x1x4x2x16, .f32⟩
  | 104 => ⟨S1024x1x4x2x16, .f32⟩
  | 105 => ⟨S2x1024x4x4x2x16, .f32⟩
  | 106 => ⟨S2x1024x4x4x1x16, .f32⟩
  | 107 => ⟨S2x1024x4x4x16, .f32⟩
  | 108 => ⟨S2x1024x4x4x1x16, .f32⟩
  | 109 => ⟨S2x1024x4x4x16, .f32⟩
  | 110 => ⟨S1024x1x4x1x16, .f32⟩
  | 111 => ⟨S1024x1x4x16, .f32⟩
  | 112 => ⟨S1x1024x1x4x16, .f32⟩
  | 113 => ⟨S2x1024x4x4x16, .f32⟩
  | 114 => ⟨S2x1024x4x4x16, .f32⟩
  | 115 => ⟨S1024x1x4x1x16, .f32⟩
  | 116 => ⟨S1024x1x4x16, .f32⟩
  | 117 => ⟨S1x1024x1x4x16, .f32⟩
  | 118 => ⟨S2x1024x4x4x16, .f32⟩
  | 119 => ⟨S2x1024x4x4x16, .f32⟩
  | 120 => ⟨S2x1024x4x4x16, .f32⟩
  | 121 => ⟨S1024x1x4x1x16, .f32⟩
  | 122 => ⟨S1024x1x4x16, .f32⟩
  | 123 => ⟨S1x1024x1x4x16, .f32⟩
  | 124 => ⟨S2x1024x4x4x16, .f32⟩
  | 125 => ⟨S2x1024x4x4x16, .f32⟩
  | 126 => ⟨S1024x1x4x1x16, .f32⟩
  | 127 => ⟨S1024x1x4x16, .f32⟩
  | _ => ⟨S32x256x1024, .f32⟩

abbrev hbmTy0_1 (i : Nat) : BufTy := match i % 128 with
  | 0 => ⟨S1x1024x1x4x16, .f32⟩
  | 1 => ⟨S2x1024x4x4x16, .f32⟩
  | 2 => ⟨S2x1024x4x4x16, .f32⟩
  | 3 => ⟨S2x1024x4x4x16, .f32⟩
  | 4 => ⟨S2x1024x4x4x1x16, .f32⟩
  | 5 => ⟨S2x1024x4x4x1x16, .f32⟩
  | 6 => ⟨S2x1024x4x4x2x16, .f32⟩
  | 7 => ⟨S2x1024x512, .f32⟩
  | 8 => ⟨S_, .f32⟩
  | 9 => ⟨S2x1024x512, .f32⟩
  | 10 => ⟨S2x1024x512, .f32⟩
  | 11 => ⟨S1024x128, .f32⟩
  | 12 => ⟨S1024x128, .f32⟩
  | 13 => ⟨S1024x1x4x2x16, .f32⟩
  | 14 => ⟨S1024x1x4x2x16, .f32⟩
  | 15 => ⟨S2x1024x4x4x2x16, .f32⟩
  | 16 => ⟨S2x1024x4x4x1x16, .f32⟩
  | 17 => ⟨S2x1024x4x4x16, .f32⟩
  | 18 => ⟨S2x1024x4x4x1x16, .f32⟩
  | 19 => ⟨S2x1024x4x4x16, .f32⟩
  | 20 => ⟨S1024x1x4x1x16, .f32⟩
  | 21 => ⟨S1024x1x4x16, .f32⟩
  | 22 => ⟨S1x1024x1x4x16, .f32⟩
  | 23 => ⟨S2x1024x4x4x16, .f32⟩
  | 24 => ⟨S2x1024x4x4x16, .f32⟩
  | 25 => ⟨S1024x1x4x1x16, .f32⟩
  | 26 => ⟨S1024x1x4x16, .f32⟩
  | 27 => ⟨S1x1024x1x4x16, .f32⟩
  | 28 => ⟨S2x1024x4x4x16, .f32⟩
  | 29 => ⟨S2x1024x4x4x16, .f32⟩
  | 30 => ⟨S2x1024x4x4x16, .f32⟩
  | 31 => ⟨S1024x1x4x1x16, .f32⟩
  | 32 => ⟨S1024x1x4x16, .f32⟩
  | 33 => ⟨S1x1024x1x4x16, .f32⟩
  | 34 => ⟨S2x1024x4x4x16, .f32⟩
  | 35 => ⟨S2x1024x4x4x16, .f32⟩
  | 36 => ⟨S1024x1x4x1x16, .f32⟩
  | 37 => ⟨S1024x1x4x16, .f32⟩
  | 38 => ⟨S1x1024x1x4x16, .f32⟩
  | 39 => ⟨S2x1024x4x4x16, .f32⟩
  | 40 => ⟨S2x1024x4x4x16, .f32⟩
  | 41 => ⟨S2x1024x4x4x16, .f32⟩
  | 42 => ⟨S2x1024x4x4x1x16, .f32⟩
  | 43 => ⟨S2x1024x4x4x1x16, .f32⟩
  | 44 => ⟨S2x1024x4x4x2x16, .f32⟩
  | 45 => ⟨S2x1024x512, .f32⟩
  | 46 => ⟨S2x1024x1536, .f32⟩
  | 47 => ⟨S2048x1536, .f32⟩
  | 48 => ⟨S2048x1536, .bf16⟩
  | 49 => ⟨S8192x1536, .f32⟩
  | 50 => ⟨S8192x1536, .bf16⟩
  | 51 => ⟨S2048x1536, .f32⟩
  | 52 => ⟨S2048x1536, .bf16⟩
  | 53 => ⟨S32x256x8x64, .f32⟩
  | 54 => ⟨S32x8x64x256, .f32⟩
  | 55 => ⟨S8192x4x128, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩

abbrev nD : Nat := 1
abbrev τ : Topo := Topo.v7x

variable {F : FTy → Type} [FloatOps F]
-- ==== Proof.AttnTile.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Attn

open Idealize.ShloMosaic Idealize.ShloMosaic.TcCoe Idealize.SL.Sem
open Cert.KernelIdeal Cert.KernelIdeal.Gen

/-- The lane number of each entry of a tile. -/
abbrev lanes : IVec S256x128 32 := iota .tc S256x128 32 [1] iota_S256x128_d1_w32

/-- The two masked copies of a tile of queries, one above the other. -/
def qq (q : Vec Ideal S256x128 .bf16) : FVec Ideal S512x128 .bf16 := k0_pay12 lanes q

/-- Scores of the masked queries against the latent keys. -/
def scoreL (q : Vec Ideal S256x128 .bf16) (k : Vec Ideal S1024x128 .bf16) : FVec Ideal S512x1024 .f32 :=
  matmul dot_S512x128_S1024x128_S512x1024_1_1_0_0_n_n none (φ₂ := .bf16) (qq q) k (constant S512x1024 .f32 0x00000000#32)

/-- Scores of the masked queries against the cached keys. -/
def scoreC (q : Vec Ideal S256x128 .bf16) (ck : Vec Ideal S1x2x64x256 .f32) : FVec Ideal S512x256 .f32 :=
  matmul dot_S512x128_S128x256_S512x256_1_0_0_1_n_n none (qq q)
    (truncf .bf16 (shapeCast S128x256 (shapeCast S2x64x256 ck shapeCasts_S1x2x64x256_S2x64x256) shapeCasts_S2x64x256_S128x256) bitsLt_bf16_f32)
    (constant S512x256 .f32 0x00000000#32)

/-- The largest score of each row. -/
def rowMax (sl : FVec Ideal S512x1024 .f32) (sc : FVec Ideal S512x256 .f32) : FVec Ideal S512x1 .f32 :=
  maximumf
    (shapeCast S512x1 (multiReduction .maximumf [1] S512 sl 0xFF800000#32 reduces_S512x1024_S512 (.inl rfl) rfl) shapeCasts_S512_S512x1)
    (shapeCast S512x1 (multiReduction .maximumf [1] S512 sc 0xFF800000#32 reduces_S512x256_S512 (.inl rfl) rfl) shapeCasts_S512_S512x1)

/-- The exponentials against the values and a block of ones, over both groups of keys. -/
def accum (sl : FVec Ideal S512x1024 .f32) (sc : FVec Ideal S512x256 .f32) (mx : FVec Ideal S512x1 .f32)
    (v : Vec Ideal S1024x128 .bf16) (cv : Vec Ideal S1x256x1x128 .f32) : FVec Ideal S512x256 .f32 :=
  addf
    (matmul dot_S512x1024_S1024x256_S512x256_1_0_0_1_n_n none
      (truncf .bf16 (exp (subf sl (broadcastTo S512x1024 mx broadcasts_S512x1_S512x1024))) bitsLt_bf16_f32)
      (concatenate S1024x256 1 [⟨S1024x128, v⟩, ⟨S1024x128, broadcast S1024x128 (Scalar.ofBits (F := Ideal) .bf16 0x3F80#16)⟩] concatenates_S1024x128_S1024x128_S1024x256_d1)
      (constant S512x256 .f32 0x00000000#32))
    (matmul dot_S512x256_S256x256_S512x256_1_0_0_1_n_n none
      (truncf .bf16 (exp (subf sc (broadcastTo S512x256 mx broadcasts_S512x1_S512x256))) bitsLt_bf16_f32)
      (concatenate S256x256 1 [⟨S256x128, truncf .bf16 (shapeCast S256x128 cv shapeCasts_S1x256x1x128_S256x128) bitsLt_bf16_f32⟩, ⟨S256x128, broadcast S256x128 (Scalar.ofBits (F := Ideal) .bf16 0x3F80#16)⟩] concatenates_S256x128_S256x128_S256x256_d1)
      (constant S512x256 .f32 0x00000000#32))

/-- The tile's result from the accumulated sums. -/
def finish (lam : FVec Ideal S1x1 .f32) (acc : FVec Ideal S512x256 .f32) (g : Vec Ideal S1x128 .f32) : FVec Ideal S256x128 .bf16 :=
  k0_pay11 lam (extractStridedSlice S512x128 ![0, 0] acc slices_S512x256_o0_0_S512x128)
    (extractStridedSlice S512x128 ![0, 128] acc slices_S512x256_o0_128_S512x128) (k0_pay10 (F := Ideal)) g

/-- One tile of the attention: 256 queries of one head against all keys. -/
def tile (lam : FVec Ideal S1x1 .f32) (q : Vec Ideal S256x128 .bf16) (k v : Vec Ideal S1024x128 .bf16)
    (cv : Vec Ideal S1x256x1x128 .f32) (ck : Vec Ideal S1x2x64x256 .f32) (g : Vec Ideal S1x128 .f32) : FVec Ideal S256x128 .bf16 :=
  finish lam (accum (scoreL q k) (scoreC q ck) (rowMax (scoreL q k) (scoreC q ck)) v cv) g

variable (lam : FVec Ideal S1x1 .f32) (q : Vec Ideal S256x128 .bf16) (k v : Vec Ideal S1024x128 .bf16) (cv : Vec Ideal S1x256x1x128 .f32) (ck : Vec Ideal S1x2x64x256 .f32) (g : Vec Ideal S1x128 .f32)

/-- The piece stored at rectangle 23 is a tile. -/
theorem piece23 : k0_pay1 lam (k0_pay51 lanes q (k0_pay48 (F := Ideal)) (k0_pay49 lanes) k v cv ck) (k0_pay52 lanes q (k0_pay48 (F := Ideal)) (k0_pay49 lanes) k v cv ck) (Scalar.ofBits .f32 0x3F800000#32) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 22 is a tile. -/
theorem piece22 : k0_pay47 lam v (k0_pay42 cv) (k0_pay44 lanes q ck) (k0_pay45 lanes q k ck) (k0_pay46 lanes q k ck) (Scalar.ofBits .bf16 0x3F80#16) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 21 is a tile. -/
theorem piece21 : k0_pay40 (k0_pay38 lam (k0_pay35 lanes q) v (k0_pay36 cv) (k0_pay37 lanes q k) ck) (k0_pay39 g) = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 20 is a tile. -/
theorem piece20 : k0_pay34 (k0_pay32 lam (k0_pay31 lanes q) k v cv ck) (k0_pay33 lam (k0_pay31 lanes q) k v cv ck) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 16 is a tile. -/
theorem piece16 : k0_pay30 lam (k0_pay24 cv) (k0_pay28 lanes q k v ck) (k0_pay29 lanes q k ck) (Scalar.ofBits .bf16 0x3F80#16) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 12 is a tile. -/
theorem piece12 : k0_pay22 lam v (k0_pay18 cv) (k0_pay19 lanes q k) (k0_pay20 lanes q ck) (k0_pay21 lanes q k) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 8 is a tile. -/
theorem piece8 : k0_pay16 (k0_pay14 lam (k0_pay12 lanes q) k v (k0_pay13 cv) ck) (k0_pay15 lam (k0_pay12 lanes q) k v (k0_pay13 cv) ck) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- The piece stored at rectangle 3 is a tile. -/
theorem piece3 : k0_pay11 lam (k0_pay8 lanes q (k0_pay5 (F := Ideal)) (k0_pay6 q) k v cv ck) (k0_pay9 lanes q (k0_pay5 (F := Ideal)) (k0_pay6 q) k v cv ck) (k0_pay10 (F := Ideal)) g = tile lam q k v cv ck g := by
  dsimp only [tile, finish, accum, rowMax, scoreC, scoreL, qq, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay1]

/-- Every stored piece of the output window is the tile of its own head and chunk. -/
theorem out_tiles (x0 x1 x2 x3 : Vec Ideal S1x64 .f32) (x4 : Vec Ideal S1x128 .f32) (x5 : Vec Ideal S512x512 .bf16)
    (x6 x7 : Vec Ideal S1024x512 .bf16) (x8 : Vec Ideal S1x8x64x256 .f32) (x9 : Vec Ideal S1x256x4x128 .f32)
    (x10 : Vec Ideal S256x1024 .f32) (x11 : Vec Ideal S704x1024 .f32) :
    out0_12 x0 x1 x2 x3 x4 x5 x6 x7 x8 x9 x10 x11 =
      View.canon [
        ⟨r0_23, tile (k0_pay4 (View.ld x0 r0_2) (View.ld x1 r0_2) (View.ld x2 r0_2) (View.ld x3 r0_2)) (View.ld x5 r0_23) (View.ld x6 r0_17) (View.ld x7 r0_17) (View.ld x9 r0_18) (View.ld x8 r0_19) (View.ld x4 r0_7)⟩,
        ⟨r0_22, tile (k0_pay4 (View.ld x0 r0_2) (View.ld x1 r0_2) (View.ld x2 r0_2) (View.ld x3 r0_2)) (View.ld x5 r0_22) (View.ld x6 r0_13) (View.ld x7 r0_13) (View.ld x9 r0_14) (View.ld x8 r0_15) (View.ld x4 r0_7)⟩,
        ⟨r0_21, tile (k0_pay4 (View.ld x0 r0_2) (View.ld x1 r0_2) (View.ld x2 r0_2) (View.ld x3 r0_2)) (View.ld x5 r0_21) (View.ld x6 r0_9) (View.ld x7 r0_9) (View.ld x9 r0_10) (View.ld x8 r0_11) (View.ld x4 r0_7)⟩,
        ⟨r0_20, tile (k0_pay4 (View.ld x0 r0_2) (View.ld x1 r0_2) (View.ld x2 r0_2) (View.ld x3 r0_2)) (View.ld x5 r0_20) (View.ld x6 r0_4) (View.ld x7 r0_4) (View.ld x9 r0_5) (View.ld x8 r0_6) (View.ld x4 r0_7)⟩,
        ⟨r0_16, tile (k0_pay4 (View.ld x0 r0_2) (View.ld x1 r0_2) (View.ld x2 r0_2) (View.ld x3 r0_2)) (View.ld x5 r0_16) (View.ld x6 r0_17) (View.ld x7 r0_17) (View.ld x9 r0_18) (View.ld x8 r0_19) (View.ld x4 r0_7)⟩,
        ⟨r0_12, tile (k0_pay4 (View.ld x0 r0_2) (View.ld x1 r0_2) (View.ld x2 r0_2) (View.ld x3 r0_2)) (View.ld x5 r0_12) (View.ld x6 r0_13) (View.ld x7 r0_13) (View.ld x9 r0_14) (View.ld x8 r0_15) (View.ld x4 r0_7)⟩,
        ⟨r0_8, tile (k0_pay4 (View.ld x0 r0_2) (View.ld x1 r0_2) (View.ld x2 r0_2) (View.ld x3 r0_2)) (View.ld x5 r0_8) (View.ld x6 r0_9) (View.ld x7 r0_9) (View.ld x9 r0_10) (View.ld x8 r0_11) (View.ld x4 r0_7)⟩,
        ⟨r0_3, tile (k0_pay4 (View.ld x0 r0_2) (View.ld x1 r0_2) (View.ld x2 r0_2) (View.ld x3 r0_2)) (View.ld x5 r0_3) (View.ld x6 r0_4) (View.ld x7 r0_4) (View.ld x9 r0_5) (View.ld x8 r0_6) (View.ld x4 r0_7)⟩] := by
  unfold_out out0_12
  have e : (lanes : IVec S256x128 32) = iota .tc S256x128 32 [1] iota_S256x128_d1_w32 := rfl
  rw [← e, piece23, piece22, piece21, piece20, piece16, piece12, piece8, piece3]

end Cert.Proof.Attn

end
-- ==== Proof.AttnMath.lean ====
module

public import Idealize.ShloMosaic.Lib.Pointwise

@[expose] public section

noncomputable section

namespace Cert.Proof.AttnMath

open Idealize.ShloMosaic

/-- A sum of real numbers, taken among the extended reals, is that real sum. -/
theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- The largest of finitely many (at least one) real numbers is a real number. -/
theorem fold_max_real {n : ℕ} [NeZero n] (f : Fin n → ℝ) :
    ∃ M : ℝ, Finset.fold max (⊥ : EReal) (fun i => ((f i : ℝ) : EReal)) Finset.univ = (M : EReal) := by
  have key : ∀ s : Finset (Fin n), s.Nonempty →
      ∃ M : ℝ, Finset.fold max (⊥ : EReal) (fun i => ((f i : ℝ) : EReal)) s = (M : EReal) := by
    intro s hs
    induction hs using Finset.Nonempty.cons_induction with
    | singleton a => exact ⟨f a, by rw [Finset.fold_singleton]; exact max_eq_left bot_le⟩
    | cons a s ha hs ih =>
      obtain ⟨M, hM⟩ := ih
      exact ⟨max (f a) M, by rw [Finset.fold_cons, hM]; exact (EReal.coe_strictMono.monotone.map_max).symm⟩
  exact key _ ⟨0, Finset.mem_univ _⟩

/-- A weighted mean with exponential weights, over two groups of keys. -/
def mean {m n : ℕ} (a : Fin m → ℝ) (b : Fin n → ℝ) (va : Fin m → ℝ) (vb : Fin n → ℝ) : ℝ :=
  (∑ i, Real.exp (a i) * va i + ∑ i, Real.exp (b i) * vb i) / (∑ i, Real.exp (a i) + ∑ i, Real.exp (b i))

theorem exp_shift (x M : ℝ) : Ideal.exp ((x : EReal) - (M : EReal)) = ((Real.exp x * Real.exp (-M) : ℝ) : EReal) := by
  rw [← EReal.coe_sub, Ideal.exp_coe, sub_eq_add_neg, Real.exp_add]

theorem weight_pos {m n : ℕ} [NeZero m] (a : Fin m → ℝ) (b : Fin n → ℝ) :
    0 < ∑ i, Real.exp (a i) + ∑ i, Real.exp (b i) :=
  add_pos_of_pos_of_nonneg (Finset.sum_pos (fun i _ => Real.exp_pos _) ⟨0, Finset.mem_univ _⟩)
    (Finset.sum_nonneg fun i _ => (Real.exp_pos _).le)

/-- Exponentials shifted by `M`, summed against values and normalised by their own sum, are the weighted mean. -/
theorem mean_of_shift {m n : ℕ} [NeZero m] (a : Fin m → ℝ) (b : Fin n → ℝ) (va : Fin m → ℝ) (vb : Fin n → ℝ) (M : ℝ) :
    ((∑ i, Ideal.exp ((a i : EReal) - (M : EReal)) * (va i : EReal)) + ∑ i, Ideal.exp ((b i : EReal) - (M : EReal)) * (vb i : EReal))
      * Ideal.div 1 ((∑ i, Ideal.exp ((a i : EReal) - (M : EReal)) * 1) + ∑ i, Ideal.exp ((b i : EReal) - (M : EReal)) * 1)
      = (mean a b va vb : EReal) := by
  have h := weight_pos a b
  have hM := Real.exp_pos (-M)
  simp only [exp_shift, mul_one, ← EReal.coe_mul, coe_sum, ← EReal.coe_add]
  rw [Ideal.div_coe, one_mul, ← EReal.coe_mul]
  · congr 1
    unfold mean
    have e1 : ∀ {k : ℕ} (f g : Fin k → ℝ), ∑ i, Real.exp (f i) * Real.exp (-M) * g i = (∑ i, Real.exp (f i) * g i) * Real.exp (-M) := by
      intro k f g; rw [Finset.sum_mul]; exact Finset.sum_congr rfl fun i _ => by ring
    have e2 : ∀ {k : ℕ} (f : Fin k → ℝ), ∑ i, Real.exp (f i) * Real.exp (-M) = (∑ i, Real.exp (f i)) * Real.exp (-M) := by
      intro k f; rw [Finset.sum_mul]
    rw [e1, e1, e2, e2, ← add_mul, ← add_mul]
    have h' := h.ne'
    have hM' := hM.ne'
    field_simp
  · simp only [← Finset.sum_mul, ← add_mul]
    exact (mul_pos h hM).ne'

/-- The difference of two normalised exponential weightings, summed against values key by key, is the difference of the means. -/
theorem mean_of_softmax {n : ℕ} [NeZero n] (x y v : Fin n → ℝ) (lam M N : ℝ) :
    (∑ i, (v i : EReal) * (Ideal.div (Ideal.exp ((x i : EReal) - (M : EReal))) (∑ j, Ideal.exp ((x j : EReal) - (M : EReal)))
        - (lam : EReal) * Ideal.div (Ideal.exp ((y i : EReal) - (N : EReal))) (∑ j, Ideal.exp ((y j : EReal) - (N : EReal)))))
      = (((∑ i, Real.exp (x i) * v i) / (∑ i, Real.exp (x i)) - lam * ((∑ i, Real.exp (y i) * v i) / (∑ i, Real.exp (y i))) : ℝ) : EReal) := by
  have hp : ∀ (f : Fin n → ℝ) (C : ℝ), (∑ i, Real.exp (f i)) ≠ 0 ∧ (∑ i, Real.exp (f i) * Real.exp (-C)) ≠ 0 := fun f C =>
    ⟨(Finset.sum_pos (fun i _ => Real.exp_pos _) ⟨0, Finset.mem_univ _⟩).ne',
     (Finset.sum_pos (fun i _ => mul_pos (Real.exp_pos _) (Real.exp_pos _)) ⟨0, Finset.mem_univ _⟩).ne'⟩
  simp only [exp_shift, coe_sum]
  have hd : ∀ (f : Fin n → ℝ) (C : ℝ) (i : Fin n),
      Ideal.div ((Real.exp (f i) * Real.exp (-C) : ℝ) : EReal) ((∑ j, Real.exp (f j) * Real.exp (-C) : ℝ) : EReal)
        = ((Real.exp (f i) / ∑ j, Real.exp (f j) : ℝ) : EReal) := fun f C i => by
    rw [Ideal.div_coe (hp f C).2, ← EReal.coe_mul]
    congr 1
    have h1 := (hp f C).1
    have h2 := (Real.exp_pos (-C)).ne'
    rw [← Finset.sum_mul]
    field_simp
  simp only [hd, ← EReal.coe_mul, ← EReal.coe_sub, coe_sum]
  congr 1
  rw [Finset.sum_div, Finset.sum_div, Finset.mul_sum, ← Finset.sum_sub_distrib]
  exact Finset.sum_congr rfl fun i _ => by ring

/-- A product of two rows of 128 lanes, the first masked to its lower half, is the product of the lower halves. -/
theorem dot_lo (a b : Fin 128 → ℝ) :
    (∑ x : Fin 128, (if (x : ℕ) < 64 then ((a x : ℝ) : EReal) else 0) * ((b x : ℝ) : EReal))
      = ((∑ d : Fin 64, a ⟨d, by omega⟩ * b ⟨d, by omega⟩ : ℝ) : EReal) := by
  rw [show (∑ x : Fin 128, (if (x : ℕ) < 64 then ((a x : ℝ) : EReal) else 0) * ((b x : ℝ) : EReal))
      = ∑ x : Fin (64 + 64), (if ((x : Fin 128) : ℕ) < 64 then ((a x : ℝ) : EReal) else 0) * ((b x : ℝ) : EReal) from rfl,
    Fin.sum_univ_add, ← coe_sum]
  have h2 : ∀ i : Fin 64, (if ((Fin.natAdd 64 i : Fin 128) : ℕ) < 64 then ((a (Fin.natAdd 64 i) : ℝ) : EReal) else 0) * ((b (Fin.natAdd 64 i) : ℝ) : EReal) = 0 := by
    intro i
    rw [if_neg (by simp), zero_mul]
  rw [Finset.sum_eq_zero (fun i _ => h2 i), add_zero]
  refine Finset.sum_congr rfl fun i _ => ?_
  rw [if_pos (by simp), EReal.coe_mul]
  rfl

/-- A product of two rows of 128 lanes, the first masked to its upper half, is the product of the upper halves. -/
theorem dot_hi (a b : Fin 128 → ℝ) :
    (∑ x : Fin 128, (if 64 ≤ (x : ℕ) then ((a x : ℝ) : EReal) else 0) * ((b x : ℝ) : EReal))
      = ((∑ d : Fin 64, a ⟨64 + d, by omega⟩ * b ⟨64 + d, by omega⟩ : ℝ) : EReal) := by
  rw [show (∑ x : Fin 128, (if 64 ≤ (x : ℕ) then ((a x : ℝ) : EReal) else 0) * ((b x : ℝ) : EReal))
      = ∑ x : Fin (64 + 64), (if 64 ≤ ((x : Fin 128) : ℕ) then ((a x : ℝ) : EReal) else 0) * ((b x : ℝ) : EReal) from rfl,
    Fin.sum_univ_add, ← coe_sum]
  have h2 : ∀ i : Fin 64, (if 64 ≤ ((Fin.castAdd 64 i : Fin 128) : ℕ) then ((a (Fin.castAdd 64 i) : ℝ) : EReal) else 0) * ((b (Fin.castAdd 64 i) : ℝ) : EReal) = 0 := by
    intro i
    rw [if_neg (by simp), zero_mul]
  rw [Finset.sum_eq_zero (fun i _ => h2 i), zero_add]
  refine Finset.sum_congr rfl fun i _ => ?_
  rw [if_pos (by simp), EReal.coe_mul]
  rfl

/-- Two groups of keys, the first before the second. -/
def cat (C : Fin 256 → ℝ) (S : Fin 1024 → ℝ) (κ : Fin 1280) : ℝ := if h : (κ : ℕ) < 256 then C ⟨κ, h⟩ else S ⟨κ - 256, by omega⟩

/-- The weighted mean over both groups in one row is the mean over the two groups apart. -/
theorem mean_cat (C vc : Fin 256 → ℝ) (S vs : Fin 1024 → ℝ) :
    (∑ κ, Real.exp (cat C S κ) * cat vc vs κ) / (∑ κ, Real.exp (cat C S κ)) = mean S C vs vc := by
  have h : ∀ F : Fin 1280 → ℝ, ∑ κ, F κ = ∑ j : Fin 256, F ⟨j, by omega⟩ + ∑ j : Fin 1024, F ⟨256 + j, by omega⟩ := fun F =>
    Fin.sum_univ_add (a := 256) (b := 1024) F
  have c1 : ∀ (C : Fin 256 → ℝ) (S : Fin 1024 → ℝ) (j : Fin 256), cat C S ⟨j, by omega⟩ = C j := fun C S j => dif_pos j.isLt
  have c2 : ∀ (C : Fin 256 → ℝ) (S : Fin 1024 → ℝ) (j : Fin 1024), cat C S ⟨256 + j, by omega⟩ = S j := fun C S j => by
    unfold cat
    rw [dif_neg (show ¬ 256 + (j : ℕ) < 256 by omega)]
    exact congrArg S (Fin.ext (by simp))
  rw [h, h]
  simp only [c1, c2]
  unfold mean
  rw [add_comm, add_comm (∑ j, Real.exp (C j))]

/-- The word of minus infinity. -/
theorem ofBits_negInf : Ideal.ofBits .f32 0xFF800000#32 = ⊥ := by simp [Ideal.ofBits, Ideal.ieee]

/-- The word of plus infinity. -/
theorem ofBits_inf : Ideal.ofBits .f32 0x7F800000#32 = ⊤ := by simp [Ideal.ofBits, Ideal.ieee]

/-- The initial value of the layer's lambda is a real number. -/
theorem ofBits_lam : ∃ r : ℝ, Ideal.ofBits .f32 0x3E4CCCCD#32 = (r : EReal) :=
  ⟨_, by simp [Ideal.ofBits, Ideal.ieee]; rfl⟩

/-- An extended real below plus infinity in absolute value is a real number. -/
theorem real_of_abs_lt (x : EReal) (h : x ≠ ⊤ ∧ x ≠ ⊥) : ∃ r : ℝ, x = (r : EReal) :=
  ⟨x.toReal, (EReal.coe_toReal h.1 h.2).symm⟩

/-- The root-mean-square normalisation of a row of 128 lanes, times a weight and the layer's constant. -/
def rms (D : Fin 128 → EReal) (g : EReal) (e : Fin 128) : EReal :=
  D e * Ideal.rsqrt (Ideal.div (∑ x, D x * D x) (Ideal.ofBits .f32 0x43000000#32) + Ideal.ofBits .f32 0x3727C5AC#32) * g
    * Ideal.ofBits .f32 0x3F4CCCCD#32

end Cert.Proof.AttnMath

end
-- ==== Proof.AttnRow.lean ====
module

public import proofs.«01_k».proof.Proof.AttnTile
public import proofs.«01_k».proof.Proof.AttnMath
public import Idealize.ShloMosaic.Lib.Pointwise
public import Idealize.ShloMosaic.Lib.Pipeline.ValueKit

@[expose] public section

set_option maxRecDepth 16384
set_option backward.proofsInPublic true

noncomputable section

namespace Cert.Proof.Attn

open Idealize.ShloMosaic Idealize.ShloMosaic.TcCoe Idealize.SL.Sem
open Cert.Proof.AttnMath Cert.KernelIdeal Cert.KernelIdeal.Gen

/-- The lower lanes are those whose number is below 64. -/
theorem mask_lt : ∀ j : Fin 128, IntOp.cmpi .slt (BitVec.ofNat 32 j) 64#32 = if (j : ℕ) < 64 then 1#1 else 0#1 := by decide

/-- The upper lanes are those whose number is 64 or more. -/
theorem mask_ge : ∀ j : Fin 128, IntOp.cmpi .sge (BitVec.ofNat 32 j) 64#32 = if 64 ≤ (j : ℕ) then 1#1 else 0#1 := by decide

/-- The first masked copy holds the lower lanes of the queries. -/
theorem qq_lo (q : Vec Ideal S256x128 .bf16) (r : Fin 256) (j : Fin 128) :
    qq q (ix2 ⟨r, by omega⟩ j) = if (j : ℕ) < 64 then q (ix2 r j) else 0 := by
  pointwise [qq, k0_pay12]
  rw [mask_lt]
  split <;> rfl

/-- The second masked copy holds the upper lanes of the queries. -/
theorem qq_hi (q : Vec Ideal S256x128 .bf16) (r : Fin 256) (j : Fin 128) :
    qq q (ix2 ⟨256 + r, by omega⟩ j) = if 64 ≤ (j : ℕ) then q (ix2 r j) else 0 := by
  pointwise [qq, k0_pay12]
  rw [mask_ge]
  split <;> rfl

theorem scoreL_apply (q : Vec Ideal S256x128 .bf16) (k : Vec Ideal S1024x128 .bf16) (r : Fin 512) (j : Fin 1024) :
    scoreL q k (ix2 r j) = ∑ x : Fin 128, qq q (ix2 r x) * k (ix2 j x) := by
  pointwise [scoreL]

theorem scoreC_apply (q : Vec Ideal S256x128 .bf16) (ck : Vec Ideal S1x2x64x256 .f32) (r : Fin 512) (j : Fin 256) :
    scoreC q ck (ix2 r j) = ∑ x : Fin 128, qq q (ix2 r x) * ck (ix4 0 ⟨x / 64, by omega⟩ ⟨x % 64, by omega⟩ j) := by
  pointwise [scoreC]

section real
variable (qr : Fin 256 → Fin 128 → ℝ) (kr vr : Fin 1024 → Fin 128 → ℝ) (cvr ckr : Fin 256 → Fin 128 → ℝ)

/-- The latent scores of the lower (upper) half of a pair of heads, in real numbers. -/
def sL (o : ℕ) (ho : o ≤ 64) (r : Fin 256) (j : Fin 1024) : ℝ := ∑ d : Fin 64, qr r ⟨o + d, by omega⟩ * kr j ⟨o + d, by omega⟩

/-- The cached scores of the lower (upper) half of a pair of heads, in real numbers. -/
def sC (o : ℕ) (ho : o ≤ 64) (r : Fin 256) (j : Fin 256) : ℝ := ∑ d : Fin 64, qr r ⟨o + d, by omega⟩ * ckr j ⟨o + d, by omega⟩

variable (q : Vec Ideal S256x128 .bf16) (k v : Vec Ideal S1024x128 .bf16) (cv : Vec Ideal S1x256x1x128 .f32) (ck : Vec Ideal S1x2x64x256 .f32)
  (hq : ∀ r j, q (ix2 r j) = ((qr r j : ℝ) : EReal)) (hk : ∀ r j, k (ix2 r j) = ((kr r j : ℝ) : EReal))
  (hv : ∀ r j, v (ix2 r j) = ((vr r j : ℝ) : EReal))
  (hcv : ∀ r j, cv (ix4 0 r 0 j) = ((cvr r j : ℝ) : EReal))
  (hck : ∀ r (x : Fin 128), ck (ix4 0 ⟨x / 64, by omega⟩ ⟨x % 64, by omega⟩ r) = ((ckr r x : ℝ) : EReal))

include hq hk in
theorem scoreL_lo (r : Fin 256) (j : Fin 1024) :
    scoreL q k (ix2 ⟨r, by omega⟩ j) = ((sL qr kr 0 (by omega) r j : ℝ) : EReal) := by
  rw [scoreL_apply]
  simp only [qq_lo, hq, hk]
  rw [dot_lo (fun x => qr r x) (fun x => kr j x)]
  simp only [sL, Nat.zero_add]

include hq hk in
theorem scoreL_hi (r : Fin 256) (j : Fin 1024) :
    scoreL q k (ix2 ⟨256 + r, by omega⟩ j) = ((sL qr kr 64 (by omega) r j : ℝ) : EReal) := by
  rw [scoreL_apply]
  simp only [qq_hi, hq, hk]
  rw [dot_hi (fun x => qr r x) (fun x => kr j x)]
  rfl

include hq hck in
theorem scoreC_lo (r : Fin 256) (j : Fin 256) :
    scoreC q ck (ix2 ⟨r, by omega⟩ j) = ((sC qr ckr 0 (by omega) r j : ℝ) : EReal) := by
  rw [scoreC_apply]
  simp only [qq_lo, hq, hck]
  rw [dot_lo (fun x => qr r x) (fun x => ckr j x)]
  simp only [sC, Nat.zero_add]

include hq hck in
theorem scoreC_hi (r : Fin 256) (j : Fin 256) :
    scoreC q ck (ix2 ⟨256 + r, by omega⟩ j) = ((sC qr ckr 64 (by omega) r j : ℝ) : EReal) := by
  rw [scoreC_apply]
  simp only [qq_hi, hq, hck]
  rw [dot_hi (fun x => qr r x) (fun x => ckr j x)]
  rfl

end real

theorem rowMax_apply (sl : FVec Ideal S512x1024 .f32) (sc : FVec Ideal S512x256 .f32) (r : Fin 512) :
    rowMax sl sc (ix2 r 0) = max (Finset.fold max (Ideal.ofBits .f32 0xFF800000#32) (fun x : Fin 1024 => sl (ix2 r x)) Finset.univ)
      (Finset.fold max (Ideal.ofBits .f32 0xFF800000#32) (fun x : Fin 256 => sc (ix2 r x)) Finset.univ) := by
  pointwise [rowMax]

theorem accum_lo (sl : FVec Ideal S512x1024 .f32) (sc : FVec Ideal S512x256 .f32) (mx : FVec Ideal S512x1 .f32)
    (v : Vec Ideal S1024x128 .bf16) (cv : Vec Ideal S1x256x1x128 .f32) (r : Fin 512) (e : Fin 128) :
    accum sl sc mx v cv (ix2 r ⟨e, by omega⟩)
      = (∑ x : Fin 1024, Ideal.exp (sl (ix2 r x) - mx (ix2 r 0)) * v (ix2 x e))
        + ∑ x : Fin 256, Ideal.exp (sc (ix2 r x) - mx (ix2 r 0)) * cv (ix4 0 x 0 e) := by
  pointwise [accum]

theorem accum_hi (sl : FVec Ideal S512x1024 .f32) (sc : FVec Ideal S512x256 .f32) (mx : FVec Ideal S512x1 .f32)
    (v : Vec Ideal S1024x128 .bf16) (cv : Vec Ideal S1x256x1x128 .f32) (r : Fin 512) (e : Fin 128) :
    accum sl sc mx v cv (ix2 r ⟨128 + e, by omega⟩)
      = (∑ x : Fin 1024, Ideal.exp (sl (ix2 r x) - mx (ix2 r 0)) * 1)
        + ∑ x : Fin 256, Ideal.exp (sc (ix2 r x) - mx (ix2 r 0)) * 1 := by
  pointwise [accum]

/-- A row of the accumulated sums divided by its own weight is the weighted mean of the values. -/
theorem ratio (sl : FVec Ideal S512x1024 .f32) (sc : FVec Ideal S512x256 .f32)
    (v : Vec Ideal S1024x128 .bf16) (cv : Vec Ideal S1x256x1x128 .f32) (r : Fin 512) (e : Fin 128)
    (a : Fin 1024 → ℝ) (b : Fin 256 → ℝ) (va : Fin 1024 → ℝ) (vb : Fin 256 → ℝ)
    (ha : ∀ j, sl (ix2 r j) = ((a j : ℝ) : EReal)) (hb : ∀ j, sc (ix2 r j) = ((b j : ℝ) : EReal))
    (hva : ∀ j, v (ix2 j e) = ((va j : ℝ) : EReal)) (hvb : ∀ j, cv (ix4 0 j 0 e) = ((vb j : ℝ) : EReal)) :
    accum sl sc (rowMax sl sc) v cv (ix2 r ⟨e, by omega⟩)
        * Ideal.div 1 (accum sl sc (rowMax sl sc) v cv (ix2 r ⟨128 + e, by omega⟩))
      = ((mean a b va vb : ℝ) : EReal) := by
  obtain ⟨M, hM⟩ := fold_max_real a
  obtain ⟨N, hN⟩ := fold_max_real b
  have hm : rowMax sl sc (ix2 r 0) = ((max M N : ℝ) : EReal) := by
    rw [rowMax_apply]
    simp only [ha, hb, ofBits_negInf]
    rw [hM, hN]
    exact (EReal.coe_strictMono.monotone.map_max).symm
  rw [accum_lo, accum_hi, hm]
  simp only [ha, hb, hva, hvb]
  exact mean_of_shift a b va vb (max M N)

theorem finish_apply (lam : FVec Ideal S1x1 .f32) (acc : FVec Ideal S512x256 .f32) (g : Vec Ideal S1x128 .f32) (r : Fin 256) (j : Fin 128) :
    finish lam acc g (ix2 r j) = rms (fun e => acc (ix2 ⟨r, by omega⟩ ⟨e, by omega⟩) * Ideal.div 1 (acc (ix2 ⟨r, by omega⟩ ⟨128 + e, by omega⟩))
      - lam (ix2 0 0) * (acc (ix2 ⟨256 + r, by omega⟩ ⟨e, by omega⟩) * Ideal.div 1 (acc (ix2 ⟨256 + r, by omega⟩ ⟨128 + e, by omega⟩))))
      (g (ix2 0 j)) j := by
  pointwise [finish, k0_pay11, k0_pay10, rms]

/-- What one lane of a row attends to: the difference of the two heads' weighted means. -/
def diff (qr : Fin 256 → Fin 128 → ℝ) (kr vr : Fin 1024 → Fin 128 → ℝ) (cvr ckr : Fin 256 → Fin 128 → ℝ) (lam : ℝ) (r : Fin 256) (e : Fin 128) : ℝ :=
  mean (sL qr kr 0 (by omega) r) (sC qr ckr 0 (by omega) r) (fun j => vr j e) (fun j => cvr j e)
    - lam * mean (sL qr kr 64 (by omega) r) (sC qr ckr 64 (by omega) r) (fun j => vr j e) (fun j => cvr j e)

/-- A tile over real inputs, entry by entry: the normalised difference of the two heads' attention. -/
theorem tile_apply (qr : Fin 256 → Fin 128 → ℝ) (kr vr : Fin 1024 → Fin 128 → ℝ) (cvr ckr : Fin 256 → Fin 128 → ℝ) (lr : ℝ)
    (lam : FVec Ideal S1x1 .f32) (q : Vec Ideal S256x128 .bf16) (k v : Vec Ideal S1024x128 .bf16) (cv : Vec Ideal S1x256x1x128 .f32)
    (ck : Vec Ideal S1x2x64x256 .f32) (g : Vec Ideal S1x128 .f32) (hl : lam (ix2 0 0) = (lr : EReal))
    (hq : ∀ r j, q (ix2 r j) = ((qr r j : ℝ) : EReal)) (hk : ∀ r j, k (ix2 r j) = ((kr r j : ℝ) : EReal))
    (hv : ∀ r j, v (ix2 r j) = ((vr r j : ℝ) : EReal))
    (hcv : ∀ r j, cv (ix4 0 r 0 j) = ((cvr r j : ℝ) : EReal))
    (hck : ∀ r (x : Fin 128), ck (ix4 0 ⟨x / 64, by omega⟩ ⟨x % 64, by omega⟩ r) = ((ckr r x : ℝ) : EReal))
    (r : Fin 256) (j : Fin 128) :
    tile lam q k v cv ck g (ix2 r j) = rms (fun e => ((diff qr kr vr cvr ckr lr r e : ℝ) : EReal)) (g (ix2 0 j)) j := by
  rw [tile, finish_apply, hl]
  congr 1
  funext e
  rw [ratio (scoreL q k) (scoreC q ck) v cv ⟨r, by omega⟩ e (sL qr kr 0 (by omega) r) (sC qr ckr 0 (by omega) r) (fun j => vr j e) (fun j => cvr j e)
      (fun j => scoreL_lo qr kr q k hq hk r j) (fun j => scoreC_lo qr ckr q ck hq hck r j) (fun j => hv j e) (fun j => hcv j e),
    ratio (scoreL q k) (scoreC q ck) v cv ⟨256 + r, by omega⟩ e (sL qr kr 64 (by omega) r) (sC qr ckr 64 (by omega) r) (fun j => vr j e) (fun j => cvr j e)
      (fun j => scoreL_hi qr kr q k hq hk r j) (fun j => scoreC_hi qr ckr q ck hq hck r j) (fun j => hv j e) (fun j => hcv j e),
    ← EReal.coe_mul, ← EReal.coe_sub]
  rfl

end Cert.Proof.Attn

end
-- ==== Proof.AttnRef.lean ====
module

public import proofs.«01_k».proof.Proof.Gen.ReferenceIdeal.Read
public import proofs.«01_k».proof.Proof.AttnRow

@[expose] public section

set_option maxRecDepth 16384
set_option backward.proofsInPublic true

noncomputable section

namespace Cert.Proof.AttnRef

open Idealize.ShloMosaic Idealize.ShloMosaic.TcCoe Idealize.SL.Sem
open Cert.Proof.AttnMath Cert.ReferenceIdeal Cert.ReferenceIdeal.Gen Cert.ReferenceIdeal.Read

section terms

variable (x0 : FVec Ideal S2048x1536 .bf16) (x1 x2 x3 x4 : FVec Ideal S1x64 .f32) (x5 : FVec Ideal S1x128 .f32)
  (x6 : FVec Ideal S2x1x256x8x64 .f32) (x7 : FVec Ideal S2x1x256x4x128 .f32)

/-- A score of the reference: the product of a query row with a cached key or a key of the batch. -/
theorem scores_apply (b : Fin 2) (h : Fin 8) (n : Fin 1024) (κ : Fin 1280) :
    val_main_v24 (F := Ideal) x0 x6 (ix4 b h n κ)
      = ∑ d : Fin 64, x0 (ix2 ⟨b * 1024 + n, by omega⟩ ⟨h * 64 + d, by omega⟩) *
        if hκ : (κ : ℕ) < 256 then x6 (ix5 b 0 ⟨κ, hκ⟩ h d)
        else x0 (ix2 ⟨b * 1024 + (κ - 256), by omega⟩ ⟨512 + (h * 64 + d), by omega⟩) := by
  pointwise [val_main_v24, val_main_v9, val_main_v8, val_main_v6, val_main_v5, val_main_v3, val_main_v2, val_main_v1, val_main_v0]

/-- A value of the reference: a cached one or one of the batch. -/
theorem vals_apply (b : Fin 2) (h : Fin 4) (e : Fin 128) (κ : Fin 1280) :
    val_main_v11 (F := Ideal) x0 x7 (ix4 b κ h e)
      = if hκ : (κ : ℕ) < 256 then x7 (ix5 b 0 ⟨κ, hκ⟩ h e)
        else x0 (ix2 ⟨b * 1024 + (κ - 256), by omega⟩ ⟨1024 + (h * 128 + e), by omega⟩) := by
  pointwise [val_main_v11, val_main_v10, val_main_v7, val_main_v4, val_main_v1, val_main_v0]

/-- The maximum over the last axis, at an index. -/
theorem max_read (y : FVec Ideal S2x8x1024x1280 .f32) (c : FVec Ideal S_ .f32) (b : Fin 2) (h : Fin 8) (n : Fin 1024) :
    Host.reduce FloatOps.maximumf y c reducesTo_S2x8x1024x1280_S2x8x1024_d3 h_S_ (ix3 b h n)
      = Finset.fold max (c (Shape.Idx.first h_S_)) (fun x => y (ix4 b h n x)) Finset.univ := by
  pointwise []

/-- The maximum a row of scores is shifted by. -/
theorem max_apply (b : Fin 2) (h : Fin 8) (n : Fin 1024) :
    val_main_v27 (F := Ideal) x0 x6 (ix3 b h n) = Finset.fold max ⊥ (fun x => val_main_v24 (F := Ideal) x0 x6 (ix4 b h n x)) Finset.univ := by
  rw [val_main_v27_apply]
  unfold val_main_v25
  generalize val_main_v24 (F := Ideal) x0 x6 = y
  rw [max_read]
  show max (Ideal.ofBits .f32 0xFF800000#32) (Finset.fold max (Ideal.ofBits .f32 0xFF800000#32) _ _) = _
  rw [ofBits_negInf]
  exact max_eq_right bot_le

/-- The softmax weights of a row. -/
theorem soft_apply (b : Fin 2) (h : Fin 8) (n : Fin 1024) (κ : Fin 1280) :
    val_main_v35 (F := Ideal) x0 x6 (ix4 b h n κ)
      = Ideal.div (Ideal.exp (val_main_v24 (F := Ideal) x0 x6 (ix4 b h n κ) - val_main_v27 (F := Ideal) x0 x6 (ix3 b h n)))
          (∑ x, Ideal.exp (val_main_v24 (F := Ideal) x0 x6 (ix4 b h n x) - val_main_v27 (F := Ideal) x0 x6 (ix3 b h n))) := by
  pointwise [val_main_v35, val_main_v34, val_main_v33, val_main_v32, val_main_cst_4, val_main_v31, val_main_v30, val_main_v29, val_main_v28]

/-- The layer's lambda. -/
theorem lam_apply (i : S_.Idx) :
    val_main_v23 (F := Ideal) x1 x2 x3 x4 i
      = Ideal.exp (∑ x, x1 (ix2 0 x) * x2 (ix2 0 x)) - Ideal.exp (∑ x, x3 (ix2 0 x) * x4 (ix2 0 x)) + Ideal.ofBits .f32 0x3E4CCCCD#32 := by
  pointwise [val_main_v23, val_main_v22, val_main_v21, val_main_v20, val_main_v19, val_main_v18, val_main_v17, val_main_v16, val_main_v15,
    val_main_v14, val_main_v13, val_main_v12, val_main_cst, val_main_cst_0, val_main_cst_1]

/-- The first head of each pair. -/
theorem lo_read (y : FVec Ideal S2x8x1024x1280 .f32) (b : Fin 2) (h : Fin 4) (n : Fin 1024) (κ : Fin 1280) :
    shapeCast S2x4x1024x1280 (extractStridedSlice S2x4x1x1024x1280 ![0, 0, 0, 0, 0] (shapeCast S2x4x2x1024x1280 y shapeCasts_S2x8x1024x1280_S2x4x2x1024x1280)
      slices_S2x4x2x1024x1280_S2x4x1x1024x1280_0_0_0_0_0) shapeCasts_S2x4x1x1024x1280_S2x4x1024x1280 (ix4 b h n κ) = y (ix4 b ⟨h * 2, by omega⟩ n κ) := by
  pointwise []

/-- The second head of each pair. -/
theorem hi_read (y : FVec Ideal S2x8x1024x1280 .f32) (b : Fin 2) (h : Fin 4) (n : Fin 1024) (κ : Fin 1280) :
    shapeCast S2x4x1024x1280 (extractStridedSlice S2x4x1x1024x1280 ![0, 0, 1, 0, 0] (shapeCast S2x4x2x1024x1280 y shapeCasts_S2x8x1024x1280_S2x4x2x1024x1280)
      slices_S2x4x2x1024x1280_S2x4x1x1024x1280_0_0_1_0_0) shapeCasts_S2x4x1x1024x1280_S2x4x1024x1280 (ix4 b h n κ) = y (ix4 b ⟨h * 2 + 1, by omega⟩ n κ) := by
  pointwise []

/-- The difference of the two heads' weights. -/
theorem weights_apply (b : Fin 2) (h : Fin 4) (n : Fin 1024) (κ : Fin 1280) :
    val_main_v43 (F := Ideal) x0 x1 x2 x3 x4 x6 (ix4 b h n κ)
      = val_main_v35 (F := Ideal) x0 x6 (ix4 b ⟨h * 2, by omega⟩ n κ)
        - val_main_v23 (F := Ideal) x1 x2 x3 x4 ix0 * val_main_v35 (F := Ideal) x0 x6 (ix4 b ⟨h * 2 + 1, by omega⟩ n κ) := by
  rw [val_main_v43_apply, val_main_v42_apply, val_main_v41_apply]
  unfold val_main_v38 val_main_v37 val_main_v40 val_main_v39 val_main_v36
  generalize val_main_v35 (F := Ideal) x0 x6 = y
  generalize val_main_v23 (F := Ideal) x1 x2 x3 x4 = z
  rw [lo_read, hi_read, show idx_main_v41 (ix4 b h n κ) = ix0 from funext fun a => a.elim0]
  rfl

/-- What a row attends to, before it is normalised. -/
def attend (b : Fin 2) (h : Fin 4) (n : Fin 1024) (e : Fin 128) : EReal :=
  ∑ x : Fin 1280, val_main_v11 (F := Ideal) x0 x7 (ix4 b x h e) * val_main_v43 (F := Ideal) x0 x1 x2 x3 x4 x6 (ix4 b h n x)

/-- An entry of the reference's first result. -/
theorem out_apply (R : Fin 2048) (C : Fin 512) :
    val_main_v63 (F := Ideal) x0 x1 x2 x3 x4 x5 x6 x7 (ix2 R C)
      = rms (attend x0 x1 x2 x3 x4 x6 x7 ⟨R / 1024, by omega⟩ ⟨C / 128, by omega⟩ ⟨R % 1024, by omega⟩) (x5 (ix2 0 ⟨C % 128, by omega⟩)) ⟨C % 128, by omega⟩ := by
  pointwise [rms, attend, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45,
    val_main_v44, val_main_cst_5, val_main_cst_6, val_main_cst_7, val_main_cst_8]

section real

variable (qr : Fin 256 → Fin 128 → ℝ) (kr vr : Fin 1024 → Fin 128 → ℝ) (cvr ckr : Fin 256 → Fin 128 → ℝ) (lr : ℝ)
  (r : Fin 256) (b : Fin 2) (h : Fin 4) (n : Fin 1024)
  (hq : ∀ j : Fin 128, x0 (ix2 ⟨b * 1024 + n, by omega⟩ ⟨h * 128 + j, by omega⟩) = ((qr r j : ℝ) : EReal))
  (hk : ∀ (m : Fin 1024) (j : Fin 128), x0 (ix2 ⟨b * 1024 + m, by omega⟩ ⟨512 + (h * 128 + j), by omega⟩) = ((kr m j : ℝ) : EReal))
  (hv : ∀ (m : Fin 1024) (j : Fin 128), x0 (ix2 ⟨b * 1024 + m, by omega⟩ ⟨1024 + (h * 128 + j), by omega⟩) = ((vr m j : ℝ) : EReal))
  (hcv : ∀ (m : Fin 256) (j : Fin 128), x7 (ix5 b 0 m h j) = ((cvr m j : ℝ) : EReal))
  (hck : ∀ (m : Fin 256) (x : Fin 128), x6 (ix5 b 0 m ⟨h * 2 + x / 64, by omega⟩ ⟨x % 64, by omega⟩) = ((ckr m x : ℝ) : EReal))
  (hl : val_main_v23 (F := Ideal) x1 x2 x3 x4 ix0 = (lr : EReal))

include hq hk hck in
/-- The scores of one head of a pair are real numbers. -/
theorem scores_real (p : Fin 2) (κ : Fin 1280) :
    val_main_v24 (F := Ideal) x0 x6 (ix4 b ⟨h * 2 + p, by omega⟩ n κ)
      = ((cat (Attn.sC qr ckr (p * 64) (by omega) r) (Attn.sL qr kr (p * 64) (by omega) r) κ : ℝ) : EReal) := by
  rw [scores_apply]
  unfold cat
  have q1 : ∀ d : Fin 64, x0 (ix2 ⟨b * 1024 + n, by omega⟩ ⟨(h * 2 + p) * 64 + d, by omega⟩) = ((qr r ⟨p * 64 + d, by omega⟩ : ℝ) : EReal) := fun d => by
    rw [← hq]
    exact congrArg (fun z => x0 (ix2 _ z)) (Fin.ext (by show (h * 2 + p : ℕ) * 64 + d = h * 128 + (p * 64 + d); omega))
  split
  · rename_i hκ
    rw [Attn.sC, ← coe_sum]
    refine Finset.sum_congr rfl fun d _ => ?_
    rw [EReal.coe_mul, ← hck]
    refine congrArg₂ (· * ·) (q1 d) (congrArg₂ (fun z w => x6 (ix5 b 0 ⟨κ, hκ⟩ z w)) (Fin.ext ?_) (Fin.ext ?_))
    · show (h * 2 + p : ℕ) = h * 2 + (p * 64 + d) / 64
      omega
    · show (d : ℕ) = (p * 64 + d) % 64
      omega
  · rename_i hκ
    rw [Attn.sL, ← coe_sum]
    refine Finset.sum_congr rfl fun d _ => ?_
    rw [EReal.coe_mul, ← hk]
    refine congrArg₂ (· * ·) (q1 d) (congrArg (fun z => x0 (ix2 _ z)) (Fin.ext ?_))
    show 512 + ((h * 2 + p : ℕ) * 64 + d) = 512 + (h * 128 + (p * 64 + d))
    omega

include hv hcv in
/-- The values are real numbers. -/
theorem vals_real (e : Fin 128) (κ : Fin 1280) :
    val_main_v11 (F := Ideal) x0 x7 (ix4 b κ h e) = ((cat (fun m => cvr m e) (fun m => vr m e) κ : ℝ) : EReal) := by
  rw [vals_apply]
  unfold cat
  split
  · exact hcv _ _
  · rw [← hv]

include hq hk hv hcv hck hl in
/-- What a row attends to is the difference of the two heads' weighted means. -/
theorem attend_real (e : Fin 128) :
    attend x0 x1 x2 x3 x4 x6 x7 b h n e = ((Attn.diff qr kr vr cvr ckr lr r e : ℝ) : EReal) := by
  have s0 : ∀ κ, val_main_v24 (F := Ideal) x0 x6 (ix4 b ⟨h * 2, by omega⟩ n κ) = _ := scores_real x0 x6 qr kr ckr r b h n hq hk hck 0
  have s1 : ∀ κ, val_main_v24 (F := Ideal) x0 x6 (ix4 b ⟨h * 2 + 1, by omega⟩ n κ) = _ := scores_real x0 x6 qr kr ckr r b h n hq hk hck 1
  obtain ⟨M, hM⟩ := fold_max_real (cat (Attn.sC qr ckr ((0 : Fin 2) * 64) (by decide) r) (Attn.sL qr kr ((0 : Fin 2) * 64) (by decide) r))
  obtain ⟨N, hN⟩ := fold_max_real (cat (Attn.sC qr ckr ((1 : Fin 2) * 64) (by decide) r) (Attn.sL qr kr ((1 : Fin 2) * 64) (by decide) r))
  unfold attend
  simp only [weights_apply, soft_apply, max_apply, s0, s1, hM, hN, hl, vals_real x0 x7 vr cvr b h hv hcv]
  rw [mean_of_softmax, mean_cat, mean_cat]
  rfl

end real

end terms

/-- A tile whose operands are the blocks of one batch and one pair of heads holds the reference's entries. -/
theorem core (A0 : Vec Ideal S2048x1536 .bf16) (A1 A2 A3 A4 : Vec Ideal S1x64 .f32) (A5 : Vec Ideal S1x128 .f32)
    (A6 : Vec Ideal S2x1x256x8x64 .f32) (A7 : Vec Ideal S2x1x256x4x128 .f32)
    (B0 : S2048x1536.Idx → ℝ) (B6 : S2x1x256x8x64.Idx → ℝ) (B7 : S2x1x256x4x128.Idx → ℝ) (lr : ℝ)
    (h0 : ∀ i, A0 i = ((B0 i : ℝ) : EReal)) (h6 : ∀ i, A6 i = ((B6 i : ℝ) : EReal)) (h7 : ∀ i, A7 i = ((B7 i : ℝ) : EReal))
    (hlr : val_main_v23 (F := Ideal) A1 A2 A3 A4 ix0 = (lr : EReal))
    (lam : FVec Ideal Cert.KernelIdeal.S1x1 .f32) (q : Vec Ideal Cert.KernelIdeal.S256x128 .bf16) (k v : Vec Ideal Cert.KernelIdeal.S1024x128 .bf16)
    (cv : Vec Ideal Cert.KernelIdeal.S1x256x1x128 .f32) (ck : Vec Ideal Cert.KernelIdeal.S1x2x64x256 .f32) (g : Vec Ideal S1x128 .f32)
    (b : Fin 2) (h : Fin 4) (o : ℕ) (ho : o + 256 ≤ 1024)
    (hl : lam (ix2 0 0) = val_main_v23 (F := Ideal) A1 A2 A3 A4 ix0)
    (hq : ∀ (r : Fin 256) (j : Fin 128) (R : Fin 2048) (C : Fin 1536), (R : ℕ) = b * 1024 + (o + r) → (C : ℕ) = h * 128 + j → q (ix2 r j) = A0 (ix2 R C))
    (hk : ∀ (r : Fin 1024) (j : Fin 128) (R : Fin 2048) (C : Fin 1536), (R : ℕ) = b * 1024 + r → (C : ℕ) = 512 + (h * 128 + j) → k (ix2 r j) = A0 (ix2 R C))
    (hv : ∀ (r : Fin 1024) (j : Fin 128) (R : Fin 2048) (C : Fin 1536), (R : ℕ) = b * 1024 + r → (C : ℕ) = 1024 + (h * 128 + j) → v (ix2 r j) = A0 (ix2 R C))
    (hcv : ∀ (r : Fin 256) (j : Fin 128), cv (ix4 0 r 0 j) = A7 (ix5 b 0 r h j))
    (hck : ∀ (r : Fin 256) (p : Fin 2) (d : Fin 64) (H : Fin 8), (H : ℕ) = h * 2 + p → ck (ix4 0 p d r) = A6 (ix5 b 0 r H d))
    (hg : ∀ j : Fin 128, g (ix2 0 j) = A5 (ix2 0 j)) (r : Fin 256) (e : Fin 128) (i : S2048x512.Idx)
    (hi0 : (i 0 : ℕ) = b * 1024 + (o + r)) (hi1 : (i 1 : ℕ) = h * 128 + e) :
    Attn.tile lam q k v cv ck g (ix2 r e) = val_main_v63 (F := Ideal) A0 A1 A2 A3 A4 A5 A6 A7 i := by
  have hi : i = ix2 ⟨b * 1024 + (o + r), by omega⟩ ⟨h * 128 + e, by omega⟩ := by
    funext a
    match a with
    | ⟨0, _⟩ => exact Fin.ext hi0
    | ⟨1, _⟩ => exact Fin.ext hi1
  rw [hi, Attn.tile_apply (fun r j => B0 (ix2 ⟨b * 1024 + (o + r), by omega⟩ ⟨h * 128 + j, by omega⟩))
    (fun r j => B0 (ix2 ⟨b * 1024 + r, by omega⟩ ⟨512 + (h * 128 + j), by omega⟩))
    (fun r j => B0 (ix2 ⟨b * 1024 + r, by omega⟩ ⟨1024 + (h * 128 + j), by omega⟩))
    (fun r j => B7 (ix5 b 0 r h j)) (fun r x => B6 (ix5 b 0 r ⟨h * 2 + x / 64, by omega⟩ ⟨x % 64, by omega⟩)) lr
    lam q k v cv ck g (hl.trans hlr) (fun r j => (hq r j _ _ rfl rfl).trans (h0 _)) (fun r j => (hk r j _ _ rfl rfl).trans (h0 _)) (fun r j => (hv r j _ _ rfl rfl).trans (h0 _))
    (fun r j => (hcv r j).trans (h7 _)) (fun r x => (hck r _ _ _ rfl).trans (h6 _)), out_apply]
  have e1 : ((h * 128 + e : ℕ)) % 128 = e := by omega
  have e2 : ((h * 128 + e : ℕ)) / 128 = h := by omega
  have e3 : ((b * 1024 + (o + r) : ℕ)) / 1024 = b := by omega
  have e4 : ((b * 1024 + (o + r) : ℕ)) % 1024 = o + r := by omega
  simp only [e1, e2, e3, e4, hg]
  congr 1
  funext e'
  exact (attend_real A0 A1 A2 A3 A4 A6 A7 (fun r j => B0 (ix2 ⟨b * 1024 + (o + r), by omega⟩ ⟨h * 128 + j, by omega⟩))
    (fun r j => B0 (ix2 ⟨b * 1024 + r, by omega⟩ ⟨512 + (h * 128 + j), by omega⟩))
    (fun r j => B0 (ix2 ⟨b * 1024 + r, by omega⟩ ⟨1024 + (h * 128 + j), by omega⟩))
    (fun r j => B7 (ix5 b 0 r h j)) (fun r x => B6 (ix5 b 0 r ⟨h * 2 + x / 64, by omega⟩ ⟨x % 64, by omega⟩)) lr
    r b h ⟨o + r, by omega⟩ (fun j => h0 _) (fun m j => h0 _) (fun m j => h0 _) (fun m j => h7 _) (fun m j => h6 _) hlr e').symm

end Cert.Proof.AttnRef

end
-- ==== Proof.AttnPoint.lean ====
module

public import proofs.«01_k».proof.Proof.Gen.KernelIdeal.Value
public import proofs.«01_k».proof.Proof.AttnTile
public import proofs.«01_k».proof.Proof.AttnRef
public import Idealize.ShloMosaic.Lib.Pipeline.ValueKit
public import Idealize.ShloMosaic.Lib.Claim

@[expose] public section

set_option maxRecDepth 16384
set_option backward.proofsInPublic true

noncomputable section

namespace Cert.Proof.Attn

open Idealize.ShloMosaic Idealize.ShloMosaic.TcCoe Idealize.SL.Sem
open Cert.Proof.AttnMath Cert.KernelIdeal Cert.KernelIdeal.Gen

variable (m : (ℓ : Loc nD τ sig) → Buf (Elt Ideal) ℓ)

/-- The blocks the windows of the query, key, value and cache arrays read at a point of the grid. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![t.val, 0] ∧ win0_6.index t = ![t.val / 2, 1] ∧ win0_7.index t = ![t.val / 2, 2]
    ∧ win0_8.index t = ![t.val / 2, 0, 0, 0] ∧ win0_9.index t = ![t.val / 2, 0, 0, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

section blocks

variable (c : Dev nD) (t : Fin cfg0.N) (b : Fin 2) (hb : (b : ℕ) = t.val / 2)

include hb in
/-- The block of queries. -/
theorem blk5 (i j : Fin 512) (R : Fin 2048) (C : Fin 1536) (hR : (R : ℕ) = b * 1024 + (t.val % 2 * 512 + i)) (hC : (C : ℕ) = j) :
    iblk m c 5 t (ix2 i j) = m ((c : Thread nD τ).loc main_arg0) (ix2 R C) := by
  have ht : t.val < 4 := lt_of_lt_of_eq t.isLt N_0
  blk_ext [iblk, V, idx t]

include hb in
/-- The block of keys. -/
theorem blk6 (i : Fin 1024) (j : Fin 512) (R : Fin 2048) (C : Fin 1536) (hR : (R : ℕ) = b * 1024 + i) (hC : (C : ℕ) = 512 + j) :
    iblk m c 6 t (ix2 i j) = m ((c : Thread nD τ).loc main_arg0) (ix2 R C) := by
  have ht : t.val < 4 := lt_of_lt_of_eq t.isLt N_0
  blk_ext [iblk, V, idx t]

include hb in
/-- The block of values. -/
theorem blk7 (i : Fin 1024) (j : Fin 512) (R : Fin 2048) (C : Fin 1536) (hR : (R : ℕ) = b * 1024 + i) (hC : (C : ℕ) = 1024 + j) :
    iblk m c 7 t (ix2 i j) = m ((c : Thread nD τ).loc main_arg0) (ix2 R C) := by
  have ht : t.val < 4 := lt_of_lt_of_eq t.isLt N_0
  blk_ext [iblk, V, idx t]

include hb in
/-- The block of cached keys. -/
theorem blk8 (h H : Fin 8) (d : Fin 64) (κ : Fin 256) (hH : (H : ℕ) = h) :
    iblk m c 8 t (ix4 0 h d κ) = m ((c : Thread nD τ).loc main_arg6) (ix5 b 0 κ H d) := by
  have ht : t.val < 4 := lt_of_lt_of_eq t.isLt N_0
  obtain rfl := Fin.ext hH
  blk_point [iblk, V, idx t]

include hb in
/-- The block of cached values. -/
theorem blk9 (κ : Fin 256) (h H : Fin 4) (e : Fin 128) (hH : (H : ℕ) = h) :
    iblk m c 9 t (ix4 0 κ h e) = m ((c : Thread nD τ).loc main_arg7) (ix5 b 0 κ H e) := by
  have ht : t.val < 4 := lt_of_lt_of_eq t.isLt N_0
  obtain rfl := Fin.ext hH
  blk_point [iblk, V, idx t]

/-- Block 0 is its whole array. -/
theorem blk0 (d : Fin 64) : iblk m c 0 t (ix2 0 d) = m ((c : Thread nD τ).loc main_arg1) (ix2 0 d) := by
  blk_point [iblk, V, idx t]
/-- Block 1 is its whole array. -/
theorem blk1 (d : Fin 64) : iblk m c 1 t (ix2 0 d) = m ((c : Thread nD τ).loc main_arg2) (ix2 0 d) := by
  blk_point [iblk, V, idx t]
/-- Block 2 is its whole array. -/
theorem blk2 (d : Fin 64) : iblk m c 2 t (ix2 0 d) = m ((c : Thread nD τ).loc main_arg3) (ix2 0 d) := by
  blk_point [iblk, V, idx t]
/-- Block 3 is its whole array. -/
theorem blk3 (d : Fin 64) : iblk m c 3 t (ix2 0 d) = m ((c : Thread nD τ).loc main_arg4) (ix2 0 d) := by
  blk_point [iblk, V, idx t]
/-- Block 4 is its whole array. -/
theorem blk4 (d : Fin 128) : iblk m c 4 t (ix2 0 d) = m ((c : Thread nD τ).loc main_arg5) (ix2 0 d) := by
  blk_point [iblk, V, idx t]

end blocks

/-- The layer's lambda, as the body computes it, is the reference's. -/
theorem lam_eq (l1 l2 l3 l4 : Vec Ideal S1x64 .f32) (A1 A2 A3 A4 : Vec Ideal S1x64 .f32) (i : Cert.ReferenceIdeal.S_.Idx)
    (h1 : ∀ d, l1 (ix2 0 d) = A1 (ix2 0 d)) (h2 : ∀ d, l2 (ix2 0 d) = A2 (ix2 0 d))
    (h3 : ∀ d, l3 (ix2 0 d) = A3 (ix2 0 d)) (h4 : ∀ d, l4 (ix2 0 d) = A4 (ix2 0 d)) :
    k0_pay4 (F := Ideal) l1 l2 l3 l4 (ix2 0 0) = Cert.ReferenceIdeal.Read.val_main_v23 (F := Ideal) A1 A2 A3 A4 i := by
  rw [AttnRef.lam_apply]
  pointwise [k0_pay4, h1, h2, h3, h4]

/-- The layer's lambda over real vectors is a real number. -/
theorem lam_real (A1 A2 A3 A4 : Vec Ideal S1x64 .f32) (B1 B2 B3 B4 : S1x64.Idx → ℝ) (i : Cert.ReferenceIdeal.S_.Idx)
    (h1 : ∀ i, A1 i = ((B1 i : ℝ) : EReal)) (h2 : ∀ i, A2 i = ((B2 i : ℝ) : EReal))
    (h3 : ∀ i, A3 i = ((B3 i : ℝ) : EReal)) (h4 : ∀ i, A4 i = ((B4 i : ℝ) : EReal)) :
    ∃ r : ℝ, Cert.ReferenceIdeal.Read.val_main_v23 (F := Ideal) A1 A2 A3 A4 i = (r : EReal) := by
  obtain ⟨r, hr⟩ := ofBits_lam
  refine ⟨Real.exp (∑ d : Fin 64, B1 (ix2 0 d) * B2 (ix2 0 d)) - Real.exp (∑ d : Fin 64, B3 (ix2 0 d) * B4 (ix2 0 d)) + r, ?_⟩
  rw [AttnRef.lam_apply, hr]
  simp only [h1, h2, h3, h4, ← EReal.coe_mul]
  rw [coe_sum, coe_sum, Ideal.exp_coe, Ideal.exp_coe, ← EReal.coe_sub, ← EReal.coe_add]

variable (c : Dev nD) (t : Fin cfg0.N)
  (B0 : S2048x1536.Idx → ℝ) (B1 B2 B3 B4 : S1x64.Idx → ℝ) (B6 : S2x1x256x8x64.Idx → ℝ) (B7 : S2x1x256x4x128.Idx → ℝ)
  (h0 : ∀ i, m ((c : Thread nD τ).loc main_arg0) i = ((B0 i : ℝ) : EReal))
  (h1 : ∀ i, m ((c : Thread nD τ).loc main_arg1) i = ((B1 i : ℝ) : EReal))
  (h2 : ∀ i, m ((c : Thread nD τ).loc main_arg2) i = ((B2 i : ℝ) : EReal))
  (h3 : ∀ i, m ((c : Thread nD τ).loc main_arg3) i = ((B3 i : ℝ) : EReal))
  (h4 : ∀ i, m ((c : Thread nD τ).loc main_arg4) i = ((B4 i : ℝ) : EReal))
  (h6 : ∀ i, m ((c : Thread nD τ).loc main_arg6) i = ((B6 i : ℝ) : EReal))
  (h7 : ∀ i, m ((c : Thread nD τ).loc main_arg7) i = ((B7 i : ℝ) : EReal))

/-- The reference's first result over the kernel's arguments. -/
abbrev refAtt : Vec Ideal S2048x512 .bf16 :=
  Cert.ReferenceIdeal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

include h0 h1 h2 h3 h4 h6 h7 in
/-- What the body leaves in its output block at a point is the reference's block. -/
theorem point (y : S512x512.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = refAtt m c (((cfg0.win 12).blk t).view.emb y) := by
  have ht : t.val < 4 := lt_of_lt_of_eq t.isLt N_0
  obtain ⟨lr, hlr⟩ := lam_real (m ((c : Thread nD τ).loc main_arg1)) (m ((c : Thread nD τ).loc main_arg2))
    (m ((c : Thread nD τ).loc main_arg3)) (m ((c : Thread nD τ).loc main_arg4)) B1 B2 B3 B4 ix0 h1 h2 h3 h4
  obtain ⟨b, hb⟩ : ∃ b : Fin 2, (b : ℕ) = t.val / 2 := ⟨⟨t.val / 2, by omega⟩, rfl⟩
  obtain_idx i : S2048x512 := [(b : ℕ) * 1024 + (t.val % 2 * 512 + (y 0 : ℕ)), (y 1 : ℕ)] with hi
  have hemb : ((cfg0.win 12).blk t).view.emb y = i := by blk_ext [idx t]
  rw [hemb, out_tiles]
  clear hemb
  canon_tiles x hx
  case piece0 =>
    idx_vars x
    obtain ⟨h, hh⟩ : ∃ h : Fin 4, (h : ℕ) = 3 := ⟨3, rfl⟩
    refine AttnRef.core _ _ _ _ _ _ _ _ B0 B6 B7 lr h0 h6 h7 hlr _ _ _ _ _ _ _ b h (t.val % 2 * 512 + 256) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece1 =>
    idx_vars x
    obtain ⟨h, hh⟩ : ∃ h : Fin 4, (h : ℕ) = 2 := ⟨2, rfl⟩
    refine AttnRef.core _ _ _ _ _ _ _ _ B0 B6 B7 lr h0 h6 h7 hlr _ _ _ _ _ _ _ b h (t.val % 2 * 512 + 256) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece2 =>
    idx_vars x
    obtain ⟨h, hh⟩ : ∃ h : Fin 4, (h : ℕ) = 1 := ⟨1, rfl⟩
    refine AttnRef.core _ _ _ _ _ _ _ _ B0 B6 B7 lr h0 h6 h7 hlr _ _ _ _ _ _ _ b h (t.val % 2 * 512 + 256) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece3 =>
    idx_vars x
    obtain ⟨h, hh⟩ : ∃ h : Fin 4, (h : ℕ) = 0 := ⟨0, rfl⟩
    refine AttnRef.core _ _ _ _ _ _ _ _ B0 B6 B7 lr h0 h6 h7 hlr _ _ _ _ _ _ _ b h (t.val % 2 * 512 + 256) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece4 =>
    idx_vars x
    obtain ⟨h, hh⟩ : ∃ h : Fin 4, (h : ℕ) = 3 := ⟨3, rfl⟩
    refine AttnRef.core _ _ _ _ _ _ _ _ B0 B6 B7 lr h0 h6 h7 hlr _ _ _ _ _ _ _ b h (t.val % 2 * 512 + 0) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece5 =>
    idx_vars x
    obtain ⟨h, hh⟩ : ∃ h : Fin 4, (h : ℕ) = 2 := ⟨2, rfl⟩
    refine AttnRef.core _ _ _ _ _ _ _ _ B0 B6 B7 lr h0 h6 h7 hlr _ _ _ _ _ _ _ b h (t.val % 2 * 512 + 0) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece6 =>
    idx_vars x
    obtain ⟨h, hh⟩ : ∃ h : Fin 4, (h : ℕ) = 1 := ⟨1, rfl⟩
    refine AttnRef.core _ _ _ _ _ _ _ _ B0 B6 B7 lr h0 h6 h7 hlr _ _ _ _ _ _ _ b h (t.val % 2 * 512 + 0) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j
  case piece7 =>
    idx_vars x
    obtain ⟨h, hh⟩ : ∃ h : Fin 4, (h : ℕ) = 0 := ⟨0, rfl⟩
    refine AttnRef.core _ _ _ _ _ _ _ _ B0 B6 B7 lr h0 h6 h7 hlr _ _ _ _ _ _ _ b h (t.val % 2 * 512 + 0) (by omega)
      (lam_eq _ _ _ _ (m ((c : Thread nD τ).loc main_arg1)) (m ((c : Thread nD τ).loc main_arg2)) (m ((c : Thread nD τ).loc main_arg3))
        (m ((c : Thread nD τ).loc main_arg4)) _ ?_ ?_ ?_ ?_) ?_ ?_ ?_ ?_ ?_ ?_ _ _ i (by omega) (by omega)
    · intro d; pointwise; exact blk0 m c t d
    · intro d; pointwise; exact blk1 m c t d
    · intro d; pointwise; exact blk2 m c t d
    · intro d; pointwise; exact blk3 m c t d
    · intro r j R C hR hC; pointwise; exact blk5 m c t b hb _ _ R C (by (try dsimp only) <;> omega) (by (try dsimp only) <;> omega)
    · intro r j R C hR hC; pointwise; exact blk6 m c t b hb _ _ R C (by (try dsimp only) <;> omega) (by (try dsimp only) <;> omega)
    · intro r j R C hR hC; pointwise; exact blk7 m c t b hb _ _ R C (by (try dsimp only) <;> omega) (by (try dsimp only) <;> omega)
    · intro r j; pointwise; exact blk9 m c t b hb _ _ h _ hh
    · intro r p d H hH; pointwise; exact blk8 m c t b hb _ H _ _ (by (try dsimp only) <;> omega)
    · intro j; pointwise; exact blk4 m c t j

include h0 h1 h2 h3 h4 h6 h7 in
/-- The attention result after the run is the reference's. -/
theorem final12 : (dats m 0 c).arrAt 12 (cfgs 0).N = refAtt m c := by
  refine (dats m 0 c).arrAt_eq_of_covers 12 _ (by decide +kernel) fun t hf y => ?_
  blk_simp
  rw [after0_12]
  exact point m c t B0 B1 B2 B3 B4 B6 B7 h0 h1 h2 h3 h4 h6 h7 y

/-- The copied output projection after the run is the reference's. -/
theorem final13 : (dats m 0 c).arrAt 13 (cfgs 0).N = Cert.ReferenceIdeal.Read.val_main_v65 (F := Ideal) (m ((c : Thread nD τ).loc main_arg8)) := by
  refine (dats m 0 c).arrAt_eq_of_covers 13 _ (by decide +kernel) fun t hf y => ?_
  blk_simp
  rw [after0_13]
  frame_out
  pointwise [k0_pay2, Cert.ReferenceIdeal.Read.val_main_v65, Cert.ReferenceIdeal.Read.val_main_v64]
  blk_point [iblk, V, idx t]

/-- The copied down projection after the run is the reference's. -/
theorem final14 : (dats m 0 c).arrAt 14 (cfgs 0).N = Cert.ReferenceIdeal.Read.val_main_v67 (F := Ideal) (m ((c : Thread nD τ).loc main_arg9)) := by
  refine (dats m 0 c).arrAt_eq_of_covers 14 _ (by decide +kernel) fun t hf y => ?_
  blk_simp
  rw [after0_14]
  frame_out
  pointwise [k0_pay3, Cert.ReferenceIdeal.Read.val_main_v67, Cert.ReferenceIdeal.Read.val_main_v66]
  blk_point [iblk, V, idx t]

end Cert.Proof.Attn

end
-- ==== Proof.Finite.lean ====
/- The precondition, read: every element of the arguments it names is a real number, no infinity. -/
module

public import proofs.«01_k».proof.Defs
public import proofs.«01_k».proof.Proof.AttnMath
public import proofs.«01_k».proof.Proof.Gen.Pre_finite

@[expose] public section

noncomputable section

namespace Cert.Proof.Attn

open Idealize.ShloMosaic Cert.Proof.AttnMath

/-- An extended real whose absolute value compares below the f32 word of plus infinity is a real number. -/
theorem real_of_cmp (x : EReal) (h : Ideal.cmp .olt (max x (-x)) (Ideal.ofBits .f32 0x7F800000#32) = 1#1) :
    ∃ r : ℝ, x = (r : EReal) := by
  rw [ofBits_inf] at h
  have h' : max x (-x) < ⊤ := by
    by_contra hn
    simp [Ideal.cmp, hn] at h
  refine real_of_abs_lt x ⟨?_, ?_⟩
  · rintro rfl
    simp at h'
  · rintro rfl
    simp at h'

/-- An array every element of which is a real number is the image of an array of reals. -/
theorem lift {ι : Type} (x : ι → EReal) (h : ∀ i, Ideal.cmp .olt (max (x i) (-x i)) (Ideal.ofBits .f32 0x7F800000#32) = 1#1) :
    ∃ B : ι → ℝ, ∀ i, x i = ((B i : ℝ) : EReal) := by
  choose B hB using fun i => real_of_cmp (x i) (h i)
  exact ⟨B, hB⟩

end Cert.Proof.Attn

end
-- ==== Proof.FfnKernelIdealStage.lean ====
/- The stages of the `out_proj_ffn` kernel as functions of the vectors they read: the mixed output projection of a row
   block, the first residual and its layer norm, the modulated rows the feed-forward part takes, the feed-forward part, and
   the second residual and its layer norm. The kernel computes each at two places, once where the pipeline is full and
   once where it fills or drains; the two are the same function. -/
module

public import proofs.«01_k».proof.Proof.Gen.FfnKernelIdeal.Skeleton
public import proofs.«01_k».proof.Proof.Gen.FfnKernelIdeal.Frame
public import Idealize.ShloMosaic.Lib.Pipeline.Value

@[expose] public section

noncomputable section

namespace Cert.FfnKernelIdeal.Hand

open Cert.FfnKernelIdeal Cert.FfnKernelIdeal.Gen
open Idealize.ShloMosaic Idealize.ShloMosaic.TcCoe

variable {F : FTy → Type} [FloatOps F]

/-- The two halves of the output projection's weights by rows. -/
def top (w : Vec F S1024x1024 .bf16) : Vec F S512x1024 .bf16 :=
  View.ld w (Rect.unit (s := S1024x1024) ![0, 0] S512x1024.size inb_S1024x1024_S512x1024_0_0)
def bot (w : Vec F S1024x1024 .bf16) : Vec F S512x1024 .bf16 :=
  View.ld w (Rect.unit (s := S1024x1024) ![512, 0] S512x1024.size inb_S1024x1024_S512x1024_512_0)
/-- The two halves of the feed-forward part's first weights by columns. -/
def upA (w : Vec F S1024x5632 .bf16) : Vec F S1024x2816 .bf16 :=
  View.ld w (Rect.unit (s := S1024x5632) ![0, 0] S1024x2816.size inb_S1024x5632_S1024x2816_0_0)
def upB (w : Vec F S1024x5632 .bf16) : Vec F S1024x2816 .bf16 :=
  View.ld w (Rect.unit (s := S1024x5632) ![0, 2816] S1024x2816.size inb_S1024x5632_S1024x2816_0_2816)
/-- The modulation table's row at an offset. -/
def rowAt (md : Vec F S8x6144 .f32) (off : Fin 2 → Nat) (h : ∀ a, off a + S1x6144.size a ≤ S8x6144.size a) :
    Vec F S1x6144 .f32 := View.ld md (Rect.unit (s := S8x6144) off S1x6144.size h)

/-- The grid coordinate as a word. -/
abbrev gp (i : grid0.Coords) : BitVec 32 := BitVec.ofNat 32 (i 0).val
/-- 1024 as the kernel writes it. -/
abbrev cst : F .f32 := Scalar.ofBits .f32 0x44800000#32
/-- Whether the first residual's row block is a context block. -/
abbrev isCtx (i : grid0.Coords) : BitVec 1 :=
  Scalar.cmpi .slt (Scalar.minsi 39#32 (Scalar.maxsi 0#32 (Scalar.subi (gp i) 1#32))) 32#32

/-- The mixed rows: the attention rows and the Hyena rows times the halves of the weights. -/
def mixF (i : grid0.Coords) (ac al hc hl : Vec F S256x512 .bf16) (wo : Vec F S1024x1024 .bf16) : Vec F S256x1024 .f32 :=
  k0_pay12 i al ac (top wo) hl hc (bot wo)
/-- The first residual, normed. -/
def x1F (i : grid0.Coords) (row : Vec F S1x6144 .f32) (xc xl mix : Vec F S256x1024 .f32) (g b : Vec F S1x1024 .f32) :
    Vec F S256x1024 .f32 :=
  k0_pay10 (k0_pay34 (k0_pay30 row) (k0_pay33 xl) (isCtx i) xc mix g b)
/-- The rows the feed-forward part takes. -/
def hF (i : grid0.Coords) (row : Vec F S1x6144 .f32) (xc xl mix : Vec F S256x1024 .f32) (g b : Vec F S1x1024 .f32) :
    Vec F S256x1024 .bf16 :=
  k0_pay11 (k0_pay31 row) (k0_pay32 row) (k0_pay35 (k0_pay30 row) (k0_pay33 xl) (isCtx i) xc mix g b)
    (k0_pay36 (k0_pay30 row) (k0_pay33 xl) (isCtx i) xc mix g b)
/-- The feed-forward part. -/
def yF (h : Vec F S256x1024 .bf16) (wu : Vec F S1024x5632 .bf16) (wd : Vec F S2816x1024 .bf16) : Vec F S256x1024 .f32 :=
  k0_pay8 h (upA wu) (upB wu) wd
/-- The first residual passed on. -/
def xoF (x1 : Vec F S256x1024 .f32) : Vec F S256x1024 .f32 := k0_pay9 x1
/-- The second residual, normed. -/
def normF (row : Vec F S1x6144 .f32) (xo y : Vec F S256x1024 .f32) (g b : Vec F S1x1024 .f32) : Vec F S256x1024 .f32 :=
  k0_pay27 (k0_pay25 row xo y) (k0_pay26 row xo y) cst g b
/-- What the context's block ends holding: the second residual at a context block, what it held elsewhere. -/
def outC (i : grid0.Coords) (row : Vec F S1x6144 .f32) (xo y : Vec F S256x1024 .f32) (g b : Vec F S1x1024 .f32)
    (old : Vec F S256x1024 .f32) : Vec F S256x1024 .f32 :=
  k0_pay28 (gp i) (k0_pay25 row xo y) (k0_pay26 row xo y) cst g b old
/-- The same of the latent's block. -/
def outL (i : grid0.Coords) (row : Vec F S1x6144 .f32) (xo y : Vec F S256x1024 .f32) (g b : Vec F S1x1024 .f32)
    (old : Vec F S256x1024 .f32) : Vec F S256x1024 .f32 :=
  k0_pay29 (gp i) (k0_pay25 row xo y) (k0_pay26 row xo y) cst g b old

/-! ## The full pipeline's stages are the same functions -/

theorem full_mix (i : grid0.Coords) (ac al hc hl : Vec F S256x512 .bf16) (wo : Vec F S1024x1024 .bf16) :
    k0_pay7 (Scalar.minsi 39#32 (Scalar.maxsi 0#32 (Scalar.subi (gp i) 0#32))) (k0_pay24 (gp i) al ac (top wo)) hl hc (bot wo)
      = mixF i ac al hc hl wo := rfl
theorem full_mix' (i : grid0.Coords) (ac al hc hl : Vec F S256x512 .bf16) (wt wb : Vec F S512x1024 .bf16) :
    k0_pay7 (Scalar.minsi 39#32 (Scalar.maxsi 0#32 (Scalar.subi (gp i) 0#32))) (k0_pay24 (gp i) al ac wt) hl hc wb
      = k0_pay12 i al ac wt hl hc wb := rfl
theorem full_y' (h : Vec F S256x1024 .bf16) (a b : Vec F S1024x2816 .bf16) (wd : Vec F S2816x1024 .bf16) :
    k0_pay3 (k0_pay18 h a b wd) = k0_pay8 h a b wd := rfl
theorem full_x1 (i : grid0.Coords) (row : Vec F S1x6144 .f32) (xc xl mix : Vec F S256x1024 .f32) (g b : Vec F S1x1024 .f32) :
    k0_pay5 (k0_pay22 (k0_pay21 (gp i) row xl xc mix) g b) = x1F i row xc xl mix g b := rfl
theorem full_h (i : grid0.Coords) (row : Vec F S1x6144 .f32) (xc xl mix : Vec F S256x1024 .f32) (g b : Vec F S1x1024 .f32) :
    k0_pay6 (k0_pay23 (k0_pay19 row) (k0_pay20 row) (k0_pay21 (gp i) row xl xc mix) g b) = hF i row xc xl mix g b := rfl
theorem full_y (h : Vec F S256x1024 .bf16) (wu : Vec F S1024x5632 .bf16) (wd : Vec F S2816x1024 .bf16) :
    k0_pay3 (k0_pay18 h (upA wu) (upB wu) wd) = yF h wu wd := rfl
theorem full_xo (x1 : Vec F S256x1024 .f32) : k0_pay4 x1 = xoF x1 := rfl
theorem full_outC (i : grid0.Coords) (row : Vec F S1x6144 .f32) (xo y : Vec F S256x1024 .f32) (g b : Vec F S1x1024 .f32)
    (old : Vec F S256x1024 .f32) :
    k0_pay16 (gp i) (k0_pay13 row xo y) (k0_pay14 row xo y) cst g b old = outC i row xo y g b old := rfl
theorem full_outL (i : grid0.Coords) (row : Vec F S1x6144 .f32) (xo y : Vec F S256x1024 .f32) (g b : Vec F S1x1024 .f32)
    (old : Vec F S256x1024 .f32) :
    k0_pay17 (gp i) (k0_pay13 row xo y) (k0_pay14 row xo y) cst g b old = outL i row xo y g b old := rfl

end Cert.FfnKernelIdeal.Hand

end
-- ==== Proof.FfnKernelIdealBody.lean ====
/- The body of the `out_proj_ffn` kernel run once for every kind of grid point: from the windows' buffers and the scratch at
   named contents to the contents the stages of `FfnKernelIdealStage` give. -/
module

public import proofs.«01_k».proof.Proof.FfnKernelIdealStage

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The condition of the third stage outside the full pipeline. -/
abbrev c4 (i : grid0.Coords) : BitVec 1 :=
  Scalar.cmpi .ne (Scalar.extui (Scalar.andi (Scalar.xori (Scalar.andi (Scalar.cmpi .sge (gp i) 3#32) (Scalar.cmpi .slt (gp i) 40#32)) 1#1)
    (Scalar.andi (Scalar.cmpi .sge (gp i) 2#32) (Scalar.cmpi .sle (gp i) 41#32))) : BitVec 32) 0#32
/-- The condition of the first stage outside the full pipeline. -/
abbrev c6 (i : grid0.Coords) : BitVec 1 :=
  Scalar.cmpi .ne (Scalar.extui (Scalar.andi (Scalar.xori (Scalar.andi (Scalar.cmpi .sge (gp i) 3#32) (Scalar.cmpi .slt (gp i) 40#32)) 1#1)
    (Scalar.cmpi .slt (gp i) 40#32)) : BitVec 32) 0#32

theorem hz2 : (![0, 0] : Fin 2 → Nat) = fun _ => 0 := funext fun a => by fin_cases a <;> rfl

/-- One store over a whole buffer, last, leaves its payload. -/
theorem read_whole {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero h inb y⟩), View.canon_unit_zero h]

variable (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S8x6144 .f32) (harg7 : arg7.IsWhole) (arg8 : Memref sig .tc .vmem S1024x1024 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x1024 .f32) (harg21 : arg21.IsWhole)
variable (x1 : Vec F S256x1024 .f32) (x2 : Vec F S256x1024 .f32) (x3 : Vec F S256x512 .bf16) (x4 : Vec F S256x512 .bf16) (x5 : Vec F S256x512 .bf16) (x6 : Vec F S256x512 .bf16) (x7 : Vec F S8x6144 .f32) (x8 : Vec F S1024x1024 .bf16) (x9 : Vec F S1024x5632 .bf16) (x10 : Vec F S2816x1024 .bf16) (x11 : Vec F S1x1024 .f32) (x12 : Vec F S1x1024 .f32) (x13 : Vec F S1x1024 .f32) (x14 : Vec F S1x1024 .f32) (x15 : Vec F S256x1024 .f32) (x16 : Vec F S256x1024 .f32) (x17 : Vec F S256x1024 .f32) (x18 : Vec F S256x1024 .f32) (x19 : Vec F S256x1024 .f32) (x20 : Vec F S256x1024 .bf16) (x21 : Vec F S256x1024 .f32)

set_option maxHeartbeats 8000000 in
/-- The body at a point where of the six conditions [1, 6] hold. -/
theorem run0 (c : Dev nD) (E : Set ℕ) (i : grid0.Coords)
    (h1 : k0_cond1 i = 1#1) (h2 : ¬k0_cond2 i = 1#1) (h3 : ¬k0_cond3 i = 1#1) (h4 : ¬c4 i = 1#1) (h5 : ¬k0_cond5 i = 1#1) (h6 : c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (k0_pay1 (F := F))
        ∗ owns (c : Thread nD τ) arg16 fullShare (k0_pay2 (F := F))
        ∗ owns (c : Thread nD τ) arg17 fullShare (mixF i x3 x4 x5 x6 x8)
        ∗ owns (c : Thread nD τ) arg18 fullShare x18
        ∗ owns (c : Thread nD τ) arg19 fullShare x19
        ∗ owns (c : Thread nD τ) arg20 fullShare x20
        ∗ owns (c : Thread nD τ) arg21 fullShare x21) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists _; isplitr; swap; iexact H15; rotate_left
  isplitl [H16]; iexists _; isplitr; swap; iexact H16; rotate_left
  isplitl [H17]; iexists _; isplitr; swap; iexact H17; rotate_left
  isplitl [H18]; iexists f18; isplitr; (ipureintro; rfl); iexact H18
  isplitl [H19]; iexists f19; isplitr; (ipureintro; rfl); iexact H19
  isplitl [H20]; iexists f20; isplitr; (ipureintro; rfl); iexact H20
  iexists f21; isplitr; (ipureintro; rfl); iexact H21
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [5, 6] hold. -/
theorem run1 (c : Dev nD) (E : Set ℕ) (i : grid0.Coords)
    (h1 : ¬k0_cond1 i = 1#1) (h2 : ¬k0_cond2 i = 1#1) (h3 : ¬k0_cond3 i = 1#1) (h4 : ¬c4 i = 1#1) (h5 : k0_cond5 i = 1#1) (h6 : c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare (mixF i x3 x4 x5 x6 x8)
        ∗ owns (c : Thread nD τ) arg18 fullShare (x1F i (rowAt x7 (k0_off3 i) (k0_off3_inb i h5)) x1 x2 x17 x11 x12)
        ∗ owns (c : Thread nD τ) arg19 fullShare x19
        ∗ owns (c : Thread nD τ) arg20 fullShare (hF i (rowAt x7 (k0_off3 i) (k0_off3_inb i h5)) x1 x2 x17 x11 x12)
        ∗ owns (c : Thread nD τ) arg21 fullShare x21) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists f15; isplitr; (ipureintro; rfl); iexact H15
  isplitl [H16]; iexists f16; isplitr; (ipureintro; rfl); iexact H16
  isplitl [H17]; iexists _; isplitr; swap; iexact H17; rotate_left
  isplitl [H18]; iexists _; isplitr; swap; iexact H18; rotate_left
  isplitl [H19]; iexists f19; isplitr; (ipureintro; rfl); iexact H19
  isplitl [H20]; iexists _; isplitr; swap; iexact H20; rotate_left
  iexists f21; isplitr; (ipureintro; rfl); iexact H21
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [4, 5, 6] hold. -/
theorem run2 (c : Dev nD) (E : Set ℕ) (i : grid0.Coords)
    (h1 : ¬k0_cond1 i = 1#1) (h2 : ¬k0_cond2 i = 1#1) (h3 : ¬k0_cond3 i = 1#1) (h4 : c4 i = 1#1) (h5 : k0_cond5 i = 1#1) (h6 : c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare (mixF i x3 x4 x5 x6 x8)
        ∗ owns (c : Thread nD τ) arg18 fullShare (x1F i (rowAt x7 (k0_off3 i) (k0_off3_inb i h5)) x1 x2 x17 x11 x12)
        ∗ owns (c : Thread nD τ) arg19 fullShare (xoF x18)
        ∗ owns (c : Thread nD τ) arg20 fullShare (hF i (rowAt x7 (k0_off3 i) (k0_off3_inb i h5)) x1 x2 x17 x11 x12)
        ∗ owns (c : Thread nD τ) arg21 fullShare (yF x20 x9 x10)) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists f15; isplitr; (ipureintro; rfl); iexact H15
  isplitl [H16]; iexists f16; isplitr; (ipureintro; rfl); iexact H16
  isplitl [H17]; iexists _; isplitr; swap; iexact H17; rotate_left
  isplitl [H18]; iexists _; isplitr; swap; iexact H18; rotate_left
  isplitl [H19]; iexists _; isplitr; swap; iexact H19; rotate_left
  isplitl [H20]; iexists _; isplitr; swap; iexact H20; rotate_left
  iexists _; isplitr; swap; iexact H21; rotate_left
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [2] hold. -/
theorem runFull (c : Dev nD) (E : Set ℕ) (i : grid0.Coords)
    (h1 : ¬k0_cond1 i = 1#1) (h2 : k0_cond2 i = 1#1) (h3 : ¬k0_cond3 i = 1#1) (h4 : ¬c4 i = 1#1) (h5 : ¬k0_cond5 i = 1#1) (h6 : ¬c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (outC i (rowAt x7 (k0_off1 i 3#32) (k0_off1_inb i h2 1)) x19 x21 x13 x14 x15)
        ∗ owns (c : Thread nD τ) arg16 fullShare (outL i (rowAt x7 (k0_off1 i 3#32) (k0_off1_inb i h2 1)) x19 x21 x13 x14 x16)
        ∗ owns (c : Thread nD τ) arg17 fullShare (mixF i x3 x4 x5 x6 x8)
        ∗ owns (c : Thread nD τ) arg18 fullShare (x1F i (rowAt x7 (k0_off1 i 1#32) (k0_off1_inb i h2 0)) x1 x2 x17 x11 x12)
        ∗ owns (c : Thread nD τ) arg19 fullShare (xoF x18)
        ∗ owns (c : Thread nD τ) arg20 fullShare (hF i (rowAt x7 (k0_off1 i 1#32) (k0_off1_inb i h2 0)) x1 x2 x17 x11 x12)
        ∗ owns (c : Thread nD τ) arg21 fullShare (yF x20 x9 x10)) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists _; isplitr; swap; iexact H15; rotate_left
  isplitl [H16]; iexists _; isplitr; swap; iexact H16; rotate_left
  isplitl [H17]; iexists _; isplitr; swap; iexact H17; rotate_left
  isplitl [H18]; iexists _; isplitr; swap; iexact H18; rotate_left
  isplitl [H19]; iexists _; isplitr; swap; iexact H19; rotate_left
  isplitl [H20]; iexists _; isplitr; swap; iexact H20; rotate_left
  iexists _; isplitr; swap; iexact H21; rotate_left
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [3, 4, 5] hold. -/
theorem run40 (c : Dev nD) (E : Set ℕ) (i : grid0.Coords)
    (h1 : ¬k0_cond1 i = 1#1) (h2 : ¬k0_cond2 i = 1#1) (h3 : k0_cond3 i = 1#1) (h4 : c4 i = 1#1) (h5 : k0_cond5 i = 1#1) (h6 : ¬c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (outC i (rowAt x7 (k0_off2 i) (k0_off2_inb i h3)) x19 x21 x13 x14 x15)
        ∗ owns (c : Thread nD τ) arg16 fullShare (outL i (rowAt x7 (k0_off2 i) (k0_off2_inb i h3)) x19 x21 x13 x14 x16)
        ∗ owns (c : Thread nD τ) arg17 fullShare x17
        ∗ owns (c : Thread nD τ) arg18 fullShare (x1F i (rowAt x7 (k0_off3 i) (k0_off3_inb i h5)) x1 x2 x17 x11 x12)
        ∗ owns (c : Thread nD τ) arg19 fullShare (xoF x18)
        ∗ owns (c : Thread nD τ) arg20 fullShare (hF i (rowAt x7 (k0_off3 i) (k0_off3_inb i h5)) x1 x2 x17 x11 x12)
        ∗ owns (c : Thread nD τ) arg21 fullShare (yF x20 x9 x10)) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists _; isplitr; swap; iexact H15; rotate_left
  isplitl [H16]; iexists _; isplitr; swap; iexact H16; rotate_left
  isplitl [H17]; iexists f17; isplitr; (ipureintro; rfl); iexact H17
  isplitl [H18]; iexists _; isplitr; swap; iexact H18; rotate_left
  isplitl [H19]; iexists _; isplitr; swap; iexact H19; rotate_left
  isplitl [H20]; iexists _; isplitr; swap; iexact H20; rotate_left
  iexists _; isplitr; swap; iexact H21; rotate_left
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [3, 4] hold. -/
theorem run41 (c : Dev nD) (E : Set ℕ) (i : grid0.Coords)
    (h1 : ¬k0_cond1 i = 1#1) (h2 : ¬k0_cond2 i = 1#1) (h3 : k0_cond3 i = 1#1) (h4 : c4 i = 1#1) (h5 : ¬k0_cond5 i = 1#1) (h6 : ¬c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (outC i (rowAt x7 (k0_off2 i) (k0_off2_inb i h3)) x19 x21 x13 x14 x15)
        ∗ owns (c : Thread nD τ) arg16 fullShare (outL i (rowAt x7 (k0_off2 i) (k0_off2_inb i h3)) x19 x21 x13 x14 x16)
        ∗ owns (c : Thread nD τ) arg17 fullShare x17
        ∗ owns (c : Thread nD τ) arg18 fullShare x18
        ∗ owns (c : Thread nD τ) arg19 fullShare (xoF x18)
        ∗ owns (c : Thread nD τ) arg20 fullShare x20
        ∗ owns (c : Thread nD τ) arg21 fullShare (yF x20 x9 x10)) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists _; isplitr; swap; iexact H15; rotate_left
  isplitl [H16]; iexists _; isplitr; swap; iexact H16; rotate_left
  isplitl [H17]; iexists f17; isplitr; (ipureintro; rfl); iexact H17
  isplitl [H18]; iexists f18; isplitr; (ipureintro; rfl); iexact H18
  isplitl [H19]; iexists _; isplitr; swap; iexact H19; rotate_left
  isplitl [H20]; iexists f20; isplitr; (ipureintro; rfl); iexact H20
  iexists _; isplitr; swap; iexact H21; rotate_left
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

set_option maxHeartbeats 8000000 in
/-- The body at a point where of the six conditions [3] hold. -/
theorem run42 (c : Dev nD) (E : Set ℕ) (i : grid0.Coords)
    (h1 : ¬k0_cond1 i = 1#1) (h2 : ¬k0_cond2 i = 1#1) (h3 : k0_cond3 i = 1#1) (h4 : ¬c4 i = 1#1) (h5 : ¬k0_cond5 i = 1#1) (h6 : ¬c6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare (outC i (rowAt x7 (k0_off2 i) (k0_off2_inb i h3)) x19 x21 x13 x14 x15)
        ∗ owns (c : Thread nD τ) arg16 fullShare (outL i (rowAt x7 (k0_off2 i) (k0_off2_inb i h3)) x19 x21 x13 x14 x16)
        ∗ owns (c : Thread nD τ) arg17 fullShare x17
        ∗ owns (c : Thread nD τ) arg18 fullShare x18
        ∗ owns (c : Thread nD τ) arg19 fullShare x19
        ∗ owns (c : Thread nD τ) arg20 fullShare x20
        ∗ owns (c : Thread nD τ) arg21 fullShare x21) -∗ K ⟨⟩))
      ⊢ wp frame (wpE (defs₀ (F := F)) Variants.none c none) E (cc0_out_proj_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_proj_ffn_eq_skeleton]; unfold cc0_out_proj_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  isplitl [H13]; iexists f13; isplitr; (ipureintro; rfl); iexact H13
  isplitl [H14]; iexists f14; isplitr; (ipureintro; rfl); iexact H14
  isplitl [H15]; iexists _; isplitr; swap; iexact H15; rotate_left
  isplitl [H16]; iexists _; isplitr; swap; iexact H16; rotate_left
  isplitl [H17]; iexists f17; isplitr; (ipureintro; rfl); iexact H17
  isplitl [H18]; iexists f18; isplitr; (ipureintro; rfl); iexact H18
  isplitl [H19]; iexists f19; isplitr; (ipureintro; rfl); iexact H19
  isplitl [H20]; iexists f20; isplitr; (ipureintro; rfl); iexact H20
  iexists f21; isplitr; (ipureintro; rfl); iexact H21
  all_goals
    ipureintro
    refine (read_whole _ _ hz2 _ _).trans ?_
    try sl_unfold_words
    try simp only [View.readAt_eq_ld, View.ld_unit_zero (S := S256x1024) hz2, View.ld_unit_zero (S := S256x512) hz2, View.ld_unit_zero (S := S2816x1024) hz2, View.ld_unit_zero (S := S1x1024) hz2]
    try simp only [full_mix', full_x1, full_h, full_y', full_xo, full_outC, full_outL]
    try simp only [mixF, x1F, hF, yF, xoF, outC, outL, rowAt, top, bot, upA, upB]

end Cert.FfnKernelIdeal.Hand

end
-- ==== Proof.FfnKernelIdealRun.lean ====
/- The run of the `out_proj_ffn` kernel: what its scratch and its two output blocks hold at every grid point, and the launch. -/
module

public import proofs.«01_k».proof.Proof.FfnKernelIdealBody
public import Idealize.ShloMosaic.Lib.Pipeline.Frame
public import Idealize.ShloMosaic.Lib.Claim

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The grid's facts -/

/-- The point before. -/
def pr (t : Fin cfg0.N) : Fin cfg0.N := ⟨t.val - 1, Nat.lt_of_le_of_lt (Nat.sub_le _ _) t.isLt⟩

/-- The modulation table's row for row block `b`: row 0 for the context, then one row for every four latent blocks. -/
def modRow (b : ℕ) : ℕ := if min b 39 < 32 then 0 else 1 + (min b 39 - 32) / 4
theorem modRow_le (b : ℕ) : modRow b ≤ 2 := by unfold modRow; split <;> omega
theorem modRow_inb (b : ℕ) : ∀ a, (![modRow b, 0] : Fin 2 → Nat) a + S1x6144.size a ≤ S8x6144.size a := by
  have := modRow_le b
  refine Fin.forall_fin_two.mpr ⟨?_, ?_⟩
  · show modRow b + 1 ≤ 8; omega
  · show 0 + 6144 ≤ 6144; omega
/-- Row block `b`'s modulation row. -/
def rowB (md : Vec F S8x6144 .f32) (b : ℕ) : Vec F S1x6144 .f32 := rowAt md ![modRow b, 0] (modRow_inb b)
theorem rowAt_eq (md : Vec F S8x6144 .f32) (b : ℕ) (off : Fin 2 → Nat) (h) (e : off = ![modRow b, 0]) :
    rowAt md off h = rowB md b := by subst e; rfl

theorem off1_3 : ∀ t : Fin cfg0.N, 3 ≤ t.val → k0_off1 (grid0.coords t) 3#32 = ![modRow (t.val - 3), 0] := by decide +kernel
theorem off1_1 : ∀ t : Fin cfg0.N, 3 ≤ t.val → k0_off1 (grid0.coords t) 1#32 = ![modRow (t.val - 1), 0] := by decide +kernel
theorem off2_ : ∀ t : Fin cfg0.N, 3 ≤ t.val → k0_off2 (grid0.coords t) = ![modRow (t.val - 3), 0] := by decide +kernel
theorem off3_ : ∀ t : Fin cfg0.N, 1 ≤ t.val → k0_off3 (grid0.coords t) = ![modRow (t.val - 1), 0] := by decide +kernel

theorem cond1_iff : ∀ t : Fin cfg0.N, k0_cond1 (grid0.coords t) = 1#1 ↔ t.val = 0 := by decide +kernel
theorem cond2_iff : ∀ t : Fin cfg0.N, k0_cond2 (grid0.coords t) = 1#1 ↔ 3 ≤ t.val ∧ t.val ≤ 39 := by decide +kernel
theorem cond3_iff : ∀ t : Fin cfg0.N, k0_cond3 (grid0.coords t) = 1#1 ↔ 40 ≤ t.val := by decide +kernel
theorem cond4_iff : ∀ t : Fin cfg0.N, c4 (grid0.coords t) = 1#1 ↔ t.val = 2 ∨ t.val = 40 ∨ t.val = 41 := by decide +kernel
theorem cond5_iff : ∀ t : Fin cfg0.N, k0_cond5 (grid0.coords t) = 1#1 ↔ t.val = 1 ∨ t.val = 2 ∨ t.val = 40 := by decide +kernel
theorem cond6_iff : ∀ t : Fin cfg0.N, c6 (grid0.coords t) = 1#1 ↔ t.val ≤ 2 := by decide +kernel

theorem flush14 : ∀ t : Fin cfg0.N, (cfg0.win 14).flush t = true ↔ (3 ≤ t.val ∧ t.val ≤ 33) ∨ t.val = 42 := by decide +kernel
theorem flush15 : ∀ t : Fin cfg0.N, (cfg0.win 15).flush t = true ↔ 35 ≤ t.val := by decide +kernel

/-- The block number the second residual is at. -/
abbrev blk4 (i : grid0.Coords) : BitVec 32 := Scalar.minsi 39#32 (Scalar.maxsi 0#32 (Scalar.subi (gp i) 3#32))
theorem maskC : ∀ t : Fin cfg0.N, Scalar.andi (Scalar.cmpi .sge (blk4 (grid0.coords t)) 0#32) (Scalar.cmpi .slt (blk4 (grid0.coords t)) 32#32)
    = if t.val ≤ 34 then 1#1 else 0#1 := by decide +kernel
theorem maskL : ∀ t : Fin cfg0.N, Scalar.andi (Scalar.cmpi .sge (blk4 (grid0.coords t)) 32#32) (Scalar.cmpi .slt (blk4 (grid0.coords t)) 40#32)
    = if t.val ≤ 34 then 0#1 else 1#1 := by decide +kernel

theorem outC_new (t : Fin cfg0.N) (h : t.val ≤ 34) (row : Vec F S1x6144 .f32) (xo y : Vec F S256x1024 .f32) (g b : Vec F S1x1024 .f32)
    (old : Vec F S256x1024 .f32) : outC (grid0.coords t) row xo y g b old = normF row xo y g b := by
  unfold outC normF k0_pay28
  dsimp only
  rw [show Scalar.andi _ _ = _ from maskC t, if_pos h]
  rfl
theorem outC_old (t : Fin cfg0.N) (h : 35 ≤ t.val) (row : Vec F S1x6144 .f32) (xo y : Vec F S256x1024 .f32) (g b : Vec F S1x1024 .f32)
    (old : Vec F S256x1024 .f32) : outC (grid0.coords t) row xo y g b old = old := by
  unfold outC k0_pay28
  dsimp only
  rw [show Scalar.andi _ _ = _ from maskC t, if_neg (by omega)]
  exact shapeCast_self _ _
theorem outL_new (t : Fin cfg0.N) (h : 35 ≤ t.val) (row : Vec F S1x6144 .f32) (xo y : Vec F S256x1024 .f32) (g b : Vec F S1x1024 .f32)
    (old : Vec F S256x1024 .f32) : outL (grid0.coords t) row xo y g b old = normF row xo y g b := by
  unfold outL normF k0_pay29
  dsimp only
  rw [show Scalar.andi _ _ = _ from maskL t, if_neg (by omega)]
  rfl
theorem outL_old (t : Fin cfg0.N) (h : t.val ≤ 34) (row : Vec F S1x6144 .f32) (xo y : Vec F S256x1024 .f32) (g b : Vec F S1x1024 .f32)
    (old : Vec F S256x1024 .f32) : outL (grid0.coords t) row xo y g b old = old := by
  unfold outL k0_pay29
  dsimp only
  rw [show Scalar.andi _ _ = _ from maskL t, if_pos h]
  exact shapeCast_self _ _

/-! ## What the scratch holds after each point -/

def mixA (c : Dev nD) (t : Fin cfg0.N) : Vec F S256x1024 .f32 :=
  mixF (grid0.coords t) (iblk m c 2 t) (iblk m c 3 t) (iblk m c 4 t) (iblk m c 5 t) (iblk m c 7 t)
def x1A (c : Dev nD) (t : Fin cfg0.N) : Vec F S256x1024 .f32 :=
  x1F (grid0.coords t) (rowB (iblk m c 6 t) (t.val - 1)) (iblk m c 0 t) (iblk m c 1 t) (mixA m c (pr t)) (iblk m c 10 t) (iblk m c 11 t)
def hA (c : Dev nD) (t : Fin cfg0.N) : Vec F S256x1024 .bf16 :=
  hF (grid0.coords t) (rowB (iblk m c 6 t) (t.val - 1)) (iblk m c 0 t) (iblk m c 1 t) (mixA m c (pr t)) (iblk m c 10 t) (iblk m c 11 t)
def yA (c : Dev nD) (t : Fin cfg0.N) : Vec F S256x1024 .f32 := yF (hA m c (pr t)) (iblk m c 8 t) (iblk m c 9 t)
def xoA (c : Dev nD) (t : Fin cfg0.N) : Vec F S256x1024 .f32 := xoF (x1A m c (pr t))
/-- The second residual, normed, at point `t`. -/
def oA (c : Dev nD) (t : Fin cfg0.N) : Vec F S256x1024 .f32 :=
  normF (rowB (iblk m c 6 t) (t.val - 3)) (xoA m c (pr t)) (yA m c (pr t)) (iblk m c 12 t) (iblk m c 13 t)

/-- The scratch's contents before point `n`. -/
structure Inv (c : Dev nD) (n : ℕ) (mix x1 xo : Vec F S256x1024 .f32) (h : Vec F S256x1024 .bf16) (y : Vec F S256x1024 .f32) : Prop where
  mix : ∀ s : Fin cfg0.N, s.val + 1 = n → s.val ≤ 39 → mix = mixA m c s
  x1 : ∀ s : Fin cfg0.N, s.val + 1 = n → 1 ≤ s.val → s.val ≤ 40 → x1 = x1A m c s
  h : ∀ s : Fin cfg0.N, s.val + 1 = n → 1 ≤ s.val → s.val ≤ 40 → h = hA m c s
  y : ∀ s : Fin cfg0.N, s.val + 1 = n → 2 ≤ s.val → s.val ≤ 41 → y = yA m c s
  xo : ∀ s : Fin cfg0.N, s.val + 1 = n → 2 ≤ s.val → s.val ≤ 41 → xo = xoA m c s

/-- The invariant: the scratch at contents `Inv` describes, the generator register at some state. -/
def Phi (c : Dev nD) (n : ℕ) : sProp 𝕄 :=
  iprop(∃ mix x1 xo h y, ⌜Inv m c n mix x1 xo h y⌝
    ∗ owns (c : Thread nD τ) (Memref.whole cc0_scratch0) fullShare mix ∗ owns (c : Thread nD τ) (Memref.whole cc0_scratch1) fullShare x1
    ∗ owns (c : Thread nD τ) (Memref.whole cc0_scratch2) fullShare xo ∗ owns (c : Thread nD τ) (Memref.whole cc0_scratch3) fullShare h
    ∗ owns (c : Thread nD τ) (Memref.whole cc0_scratch4) fullShare y ∗ ∃ r, prngReg c r)

/-- The context's block after point `t`, and the latent's. -/
def after14 (c : Dev nD) (t : Fin cfg0.N) : Vec F S256x1024 .f32 :=
  if t.val < 3 then k0_pay1 else oA m c ⟨min t.val 34, lt_of_le_of_lt (Nat.min_le_left _ _) t.isLt⟩
def after15 (c : Dev nD) (t : Fin cfg0.N) : Vec F S256x1024 .f32 :=
  if t.val < 35 then k0_pay2 else oA m c t

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => after14 m c t
    | ⟨15, _⟩ => after15 m c t
    | ⟨_ + 16, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = after14 m c t := by dsimp only [dats]
theorem after0_15 (c : Dev nD) (t : Fin cfg0.N) : (dats m 0 c).after 15 t = after15 m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d

theorem live14 : ∀ t : Fin cfg0.N, t.val ≠ 1 ∧ t.val ≠ 2 → cfg0.idle 14 (cfg0.grid.coords t) = false := by decide +kernel
theorem idle14 : ∀ t : Fin cfg0.N, t.val = 1 ∨ t.val = 2 → cfg0.idle 14 (cfg0.grid.coords t) = true := by decide +kernel

/-- Output 14's block at a point not after a write-back holds what the point before left. -/
theorem kept14 (c : Dev nD) (t : Fin cfg0.N) (ht : t.val ≠ 0) (hf : (cfg0.win 14).flush (pr t) = false)
    (hl : (pr t).val ≠ 1 ∧ (pr t).val ≠ 2) (d) : (dats m 0 c).before 14 t d = after14 m c (pr t) := by
  rw [(dats m 0 c).before_of_pos 14 t ht ((cfg0.win 14).fetch_out rfl t)]
  show (if (cfg0.win 14).flush (pr t) = true then d else (dats m 0 c).left 14 (pr t) d) = _
  rw [hf, if_neg Bool.false_ne_true]
  unfold Dat.left
  rw [show cfg0.idle 14 (cfg0.grid.coords (pr t)) = false from live14 (pr t) hl]
  unfold Dat.kept
  rw [Pipeline.fill_of_clip_none 14 _ (fun _ => rfl) d ((dats m 0 c).after 14 _), Pipeline.Window.fill_cut, after0_14]
/-- After a point that stores nothing in it, it holds what it held there. -/
theorem chain14 (c : Dev nD) (t : Fin cfg0.N) (ht : t.val ≠ 0) (hf : (cfg0.win 14).flush (pr t) = false)
    (hl : (pr t).val = 1 ∨ (pr t).val = 2) (d) : (dats m 0 c).before 14 t d = (dats m 0 c).before 14 (pr t) d := by
  rw [(dats m 0 c).before_of_pos 14 t ht ((cfg0.win 14).fetch_out rfl t)]
  show (if (cfg0.win 14).flush (pr t) = true then d else (dats m 0 c).left 14 (pr t) d) = _
  rw [hf, if_neg Bool.false_ne_true]
  unfold Dat.left
  rw [show cfg0.idle 14 (cfg0.grid.coords (pr t)) = true from idle14 (pr t) hl]
theorem leaves14_live (c : Dev nD) (t : Fin cfg0.N) (h : t.val ≠ 1 ∧ t.val ≠ 2) :
    ((dats m 0 c).leavesExact 14 t : sProp 𝕄) = owns (c : Thread nD τ) (st0_14 t) fullShare (after14 m c t) := by
  unfold Dat.leavesExact
  rw [show cfg0.idle 14 (cfg0.grid.coords t) = false from live14 t h]
  rfl
theorem nofl14 (t : Fin cfg0.N) (h : ¬ ((3 ≤ t.val ∧ t.val ≤ 33) ∨ t.val = 42)) : (cfg0.win 14).flush t = false := by
  cases hf : (cfg0.win 14).flush t
  · rfl
  · exact absurd ((flush14 t).mp hf) h
theorem leaves14_idle (c : Dev nD) (t : Fin cfg0.N) (h : t.val = 1 ∨ t.val = 2) :
    ((dats m 0 c).leavesExact 14 t : sProp 𝕄)
      = iprop(∃ d, owns (c : Thread nD τ) (st0_14 t) fullShare ((dats m 0 c).before 14 t d)) := by
  unfold Dat.leavesExact
  rw [show cfg0.idle 14 (cfg0.grid.coords t) = true from idle14 t h, nofl14 t (by omega)]

theorem live15 : ∀ t : Fin cfg0.N, t.val ≠ 1 ∧ t.val ≠ 2 → cfg0.idle 15 (cfg0.grid.coords t) = false := by decide +kernel
theorem idle15 : ∀ t : Fin cfg0.N, t.val = 1 ∨ t.val = 2 → cfg0.idle 15 (cfg0.grid.coords t) = true := by decide +kernel

/-- Output 15's block at a point not after a write-back holds what the point before left. -/
theorem kept15 (c : Dev nD) (t : Fin cfg0.N) (ht : t.val ≠ 0) (hf : (cfg0.win 15).flush (pr t) = false)
    (hl : (pr t).val ≠ 1 ∧ (pr t).val ≠ 2) (d) : (dats m 0 c).before 15 t d = after15 m c (pr t) := by
  rw [(dats m 0 c).before_of_pos 15 t ht ((cfg0.win 15).fetch_out rfl t)]
  show (if (cfg0.win 15).flush (pr t) = true then d else (dats m 0 c).left 15 (pr t) d) = _
  rw [hf, if_neg Bool.false_ne_true]
  unfold Dat.left
  rw [show cfg0.idle 15 (cfg0.grid.coords (pr t)) = false from live15 (pr t) hl]
  unfold Dat.kept
  rw [Pipeline.fill_of_clip_none 15 _ (fun _ => rfl) d ((dats m 0 c).after 15 _), Pipeline.Window.fill_cut, after0_15]
/-- After a point that stores nothing in it, it holds what it held there. -/
theorem chain15 (c : Dev nD) (t : Fin cfg0.N) (ht : t.val ≠ 0) (hf : (cfg0.win 15).flush (pr t) = false)
    (hl : (pr t).val = 1 ∨ (pr t).val = 2) (d) : (dats m 0 c).before 15 t d = (dats m 0 c).before 15 (pr t) d := by
  rw [(dats m 0 c).before_of_pos 15 t ht ((cfg0.win 15).fetch_out rfl t)]
  show (if (cfg0.win 15).flush (pr t) = true then d else (dats m 0 c).left 15 (pr t) d) = _
  rw [hf, if_neg Bool.false_ne_true]
  unfold Dat.left
  rw [show cfg0.idle 15 (cfg0.grid.coords (pr t)) = true from idle15 (pr t) hl]
theorem leaves15_live (c : Dev nD) (t : Fin cfg0.N) (h : t.val ≠ 1 ∧ t.val ≠ 2) :
    ((dats m 0 c).leavesExact 15 t : sProp 𝕄) = owns (c : Thread nD τ) (st0_15 t) fullShare (after15 m c t) := by
  unfold Dat.leavesExact
  rw [show cfg0.idle 15 (cfg0.grid.coords t) = false from live15 t h]
  rfl
theorem nofl15 (t : Fin cfg0.N) (h : ¬ (35 ≤ t.val)) : (cfg0.win 15).flush t = false := by
  cases hf : (cfg0.win 15).flush t
  · rfl
  · exact absurd ((flush15 t).mp hf) h
theorem leaves15_idle (c : Dev nD) (t : Fin cfg0.N) (h : t.val = 1 ∨ t.val = 2) :
    ((dats m 0 c).leavesExact 15 t : sProp 𝕄)
      = iprop(∃ d, owns (c : Thread nD τ) (st0_15 t) fullShare ((dats m 0 c).before 15 t d)) := by
  unfold Dat.leavesExact
  rw [show cfg0.idle 15 (cfg0.grid.coords t) = true from idle15 t h, nofl15 t (by omega)]

theorem N43 : cfg0.N = 43 := by decide
theorem pr_val (t : Fin cfg0.N) : (pr t).val = t.val - 1 := rfl

theorem early15 (c : Dev nD) (t : Fin cfg0.N) (h0 : 1 ≤ t.val) (h : t.val ≤ 34) (d) : (dats m 0 c).before 15 t d = after15 m c t := by
  have e : ∀ s : Fin cfg0.N, s.val ≤ 34 → after15 m c s = k0_pay2 := fun s hs => if_pos (by omega)
  have k : ∀ s : Fin cfg0.N, 1 ≤ s.val → s.val ≤ 34 → (pr s).val ≠ 1 ∧ (pr s).val ≠ 2 → (dats m 0 c).before 15 s d = k0_pay2 := fun s h1 h2 h3 => by
    rw [kept15 m c s (by omega) (nofl15 _ (by rw [pr_val]; omega)) h3, e _ (by rw [pr_val]; omega)]
  have ch : ∀ s : Fin cfg0.N, 2 ≤ s.val → s.val ≤ 3 → (dats m 0 c).before 15 s d = (dats m 0 c).before 15 (pr s) d := fun s h1 h2 =>
    chain15 m c s (by omega) (nofl15 _ (by rw [pr_val]; omega)) (by rw [pr_val]; omega) d
  rw [e t h]
  by_cases h1 : t.val = 2
  · rw [ch t (by omega) (by omega), k (pr t) (by rw [pr_val]; omega) (by rw [pr_val]; omega) (by simp only [pr_val]; omega)]
  by_cases h2 : t.val = 3
  · rw [ch t (by omega) (by omega), ch (pr t) (by rw [pr_val]; omega) (by rw [pr_val]; omega),
      k (pr (pr t)) (by simp only [pr_val]; omega) (by simp only [pr_val]; omega) (by simp only [pr_val]; omega)]
  · exact k t h0 h (by rw [pr_val]; omega)
theorem late14 (c : Dev nD) (t : Fin cfg0.N) (h0 : 35 ≤ t.val) (d) : (dats m 0 c).before 14 t d = after14 m c t := by
  have := t.isLt; have := N43
  rw [kept14 m c t (by omega) (nofl14 _ (by rw [pr_val]; omega)) (by rw [pr_val]; omega)]
  unfold after14; rw [if_neg (by rw [pr_val]; omega), if_neg (by omega)]
  congr 1; apply Fin.ext; show min (t.val - 1) 34 = min t.val 34; omega

/-- The outputs' blocks after a point of the fourth stage. -/
theorem step14 (c : Dev nD) (t : Fin cfg0.N) (h0 : 3 ≤ t.val) (d) :
    outC (grid0.coords t) (rowB (iblk m c 6 t) (t.val - 3)) (xoA m c (pr t)) (yA m c (pr t)) (iblk m c 12 t) (iblk m c 13 t)
      ((dats m 0 c).before 14 t d) = after14 m c t := by
  by_cases h : t.val ≤ 34
  · rw [outC_new t h]
    unfold after14; rw [if_neg (by omega)]
    have e : (⟨min t.val 34, lt_of_le_of_lt (Nat.min_le_left _ _) t.isLt⟩ : Fin cfg0.N) = t := Fin.ext (by show min t.val 34 = _; omega)
    rw [e]; rfl
  · rw [outC_old t (by omega), late14 m c t (by omega)]
theorem step15 (c : Dev nD) (t : Fin cfg0.N) (h0 : 3 ≤ t.val) (d) :
    outL (grid0.coords t) (rowB (iblk m c 6 t) (t.val - 3)) (xoA m c (pr t)) (yA m c (pr t)) (iblk m c 12 t) (iblk m c 13 t)
      ((dats m 0 c).before 15 t d) = after15 m c t := by
  by_cases h : t.val ≤ 34
  · rw [outL_old t h, early15 m c t (by omega) h]
  · rw [outL_new t (by omega)]
    unfold after15; rw [if_neg (by omega)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (dats m 0 c).leavesExact 14 t ∗ (dats m 0 c).leavesExact 15 t)

set_option maxHeartbeats 4000000 in
theorem sound_run0 (c : Dev nD) (t : Fin cfg0.N) (ht : t.val = 0) :
    bodyPre m c t ⊢ wp frame (wpE (defs₀ (F := F)) Variants.none c none) Set.univ (bodyAt0 t) (fun _ => bodyPost m c t) := by
  have hN := N43
  have hlt := t.isLt
  have h1 : k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : ¬c4 (grid0.coords t) = 1#1 := by rw [cond4_iff]; omega
  have h5 : ¬k0_cond5 (grid0.coords t) = 1#1 := by rw [cond5_iff]; omega
  have h6 : c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_live m c t (by omega), leaves15_live m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run0 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; rfl
    · intro _ _; omega
    · intro _ _; omega
    · intro _ _; omega
    · intro _ _; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  rw [show after14 m c t = k0_pay1 from if_pos (by omega), show after15 m c t = k0_pay2 from if_pos (by omega)]
  isplitl [H14]; · iexact H14
  iexact H15

set_option maxHeartbeats 4000000 in
theorem sound_run1 (c : Dev nD) (t : Fin cfg0.N) (ht : t.val = 1) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : ¬c4 (grid0.coords t) = 1#1 := by rw [cond4_iff]; omega
  have h5 : k0_cond5 (grid0.coords t) = 1#1 := by rw [cond5_iff]; omega
  have h6 : c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_idle m c t (by omega), leaves15_idle m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run1 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; rfl
    · intro _ _; rw [rowAt_eq _ _ _ _ (off3_ s (by omega)), hI.mix (pr s) (by rw [pr_val]; omega) (by rw [pr_val]; omega)]; rfl
    · intro _ _; rw [rowAt_eq _ _ _ _ (off3_ s (by omega)), hI.mix (pr s) (by rw [pr_val]; omega) (by rw [pr_val]; omega)]; rfl
    · intro _ _; omega
    · intro _ _; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists d14; iexact H14
  iexists d15; iexact H15

set_option maxHeartbeats 4000000 in
theorem sound_run2 (c : Dev nD) (t : Fin cfg0.N) (ht : t.val = 2) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : c4 (grid0.coords t) = 1#1 := by rw [cond4_iff]; omega
  have h5 : k0_cond5 (grid0.coords t) = 1#1 := by rw [cond5_iff]; omega
  have h6 : c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_idle m c t (by omega), leaves15_idle m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run2 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; rfl
    · intro _ _; rw [rowAt_eq _ _ _ _ (off3_ s (by omega)), hI.mix (pr s) (by rw [pr_val]; omega) (by rw [pr_val]; omega)]; rfl
    · intro _ _; rw [rowAt_eq _ _ _ _ (off3_ s (by omega)), hI.mix (pr s) (by rw [pr_val]; omega) (by rw [pr_val]; omega)]; rfl
    · intro _ _; rw [hI.h (pr s) (by rw [pr_val]; omega) (by rw [pr_val]; omega) (by rw [pr_val]; omega)]; rfl
    · intro _ _; rw [hI.x1 (pr s) (by rw [pr_val]; omega) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists d14; iexact H14
  iexists d15; iexact H15

set_option maxHeartbeats 4000000 in
theorem sound_runFull (c : Dev nD) (t : Fin cfg0.N) (ht : 3 ≤ t.val ∧ t.val ≤ 39) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : k0_cond2 (grid0.coords t) = 1#1 := by rw [cond2_iff]; omega
  have h3 : ¬k0_cond3 (grid0.coords t) = 1#1 := by rw [cond3_iff]; omega
  have h4 : ¬c4 (grid0.coords t) = 1#1 := by rw [cond4_iff]; omega
  have h5 : ¬k0_cond5 (grid0.coords t) = 1#1 := by rw [cond5_iff]; omega
  have h6 : ¬c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_live m c t (by omega), leaves15_live m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runFull _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; rfl
    · intro _ _; rw [rowAt_eq _ _ _ _ (off1_1 s (by omega)), hI.mix (pr s) (by rw [pr_val]; omega) (by rw [pr_val]; omega)]; rfl
    · intro _ _; rw [rowAt_eq _ _ _ _ (off1_1 s (by omega)), hI.mix (pr s) (by rw [pr_val]; omega) (by rw [pr_val]; omega)]; rfl
    · intro _ _; rw [hI.h (pr s) (by rw [pr_val]; omega) (by rw [pr_val]; omega) (by rw [pr_val]; omega)]; rfl
    · intro _ _; rw [hI.x1 (pr s) (by rw [pr_val]; omega) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  have e14 := step14 m c t (by omega) d14
  have e15 := step15 m c t (by omega) d15
  rw [rowAt_eq _ _ _ _ (off1_3 t (by omega)), hI.xo (pr t) (by rw [pr_val]; omega) (by rw [pr_val]; omega) (by rw [pr_val]; omega), hI.y (pr t) (by rw [pr_val]; omega) (by rw [pr_val]; omega) (by rw [pr_val]; omega)]
  rw [e14, e15]
  isplitl [H14]; · iexact H14
  iexact H15

set_option maxHeartbeats 4000000 in
theorem sound_run40 (c : Dev nD) (t : Fin cfg0.N) (ht : t.val = 40) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : ¬k0_cond2 (grid0.coords t) = 1#1 := by rw [cond2_iff]; omega
  have h3 : k0_cond3 (grid0.coords t) = 1#1 := by rw [cond3_iff]; omega
  have h4 : c4 (grid0.coords t) = 1#1 := by rw [cond4_iff]; omega
  have h5 : k0_cond5 (grid0.coords t) = 1#1 := by rw [cond5_iff]; omega
  have h6 : ¬c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_live m c t (by omega), leaves15_live m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run40 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; omega
    · intro _ _; rw [rowAt_eq _ _ _ _ (off3_ s (by omega)), hI.mix (pr s) (by rw [pr_val]; omega) (by rw [pr_val]; omega)]; rfl
    · intro _ _; rw [rowAt_eq _ _ _ _ (off3_ s (by omega)), hI.mix (pr s) (by rw [pr_val]; omega) (by rw [pr_val]; omega)]; rfl
    · intro _ _; rw [hI.h (pr s) (by rw [pr_val]; omega) (by rw [pr_val]; omega) (by rw [pr_val]; omega)]; rfl
    · intro _ _; rw [hI.x1 (pr s) (by rw [pr_val]; omega) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  have e14 := step14 m c t (by omega) d14
  have e15 := step15 m c t (by omega) d15
  rw [rowAt_eq _ _ _ _ (off2_ t (by omega)), hI.xo (pr t) (by rw [pr_val]; omega) (by rw [pr_val]; omega) (by rw [pr_val]; omega), hI.y (pr t) (by rw [pr_val]; omega) (by rw [pr_val]; omega) (by rw [pr_val]; omega)]
  rw [e14, e15]
  isplitl [H14]; · iexact H14
  iexact H15

set_option maxHeartbeats 4000000 in
theorem sound_run41 (c : Dev nD) (t : Fin cfg0.N) (ht : t.val = 41) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : ¬k0_cond2 (grid0.coords t) = 1#1 := by rw [cond2_iff]; omega
  have h3 : k0_cond3 (grid0.coords t) = 1#1 := by rw [cond3_iff]; omega
  have h4 : c4 (grid0.coords t) = 1#1 := by rw [cond4_iff]; omega
  have h5 : ¬k0_cond5 (grid0.coords t) = 1#1 := by rw [cond5_iff]; omega
  have h6 : ¬c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_live m c t (by omega), leaves15_live m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run41 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; omega
    · intro _ _; omega
    · intro _ _; omega
    · intro _ _; rw [hI.h (pr s) (by rw [pr_val]; omega) (by rw [pr_val]; omega) (by rw [pr_val]; omega)]; rfl
    · intro _ _; rw [hI.x1 (pr s) (by rw [pr_val]; omega) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  have e14 := step14 m c t (by omega) d14
  have e15 := step15 m c t (by omega) d15
  rw [rowAt_eq _ _ _ _ (off2_ t (by omega)), hI.xo (pr t) (by rw [pr_val]; omega) (by rw [pr_val]; omega) (by rw [pr_val]; omega), hI.y (pr t) (by rw [pr_val]; omega) (by rw [pr_val]; omega) (by rw [pr_val]; omega)]
  rw [e14, e15]
  isplitl [H14]; · iexact H14
  iexact H15

set_option maxHeartbeats 4000000 in
theorem sound_run42 (c : Dev nD) (t : Fin cfg0.N) (ht : t.val = 42) :
    bodyPre m c t ⊢ wp frame (wpE (defs₀ (F := F)) Variants.none c none) Set.univ (bodyAt0 t) (fun _ => bodyPost m c t) := by
  have hN := N43
  have hlt := t.isLt
  have h1 : ¬k0_cond1 (grid0.coords t) = 1#1 := by rw [cond1_iff]; omega
  have h2 : ¬k0_cond2 (grid0.coords t) = 1#1 := by rw [cond2_iff]; omega
  have h3 : k0_cond3 (grid0.coords t) = 1#1 := by rw [cond3_iff]; omega
  have h4 : ¬c4 (grid0.coords t) = 1#1 := by rw [cond4_iff]; omega
  have h5 : ¬k0_cond5 (grid0.coords t) = 1#1 := by rw [cond5_iff]; omega
  have h6 : ¬c6 (grid0.coords t) = 1#1 := by rw [cond6_iff]; omega
  unfold bodyPre bodyPost bodyAt0
  simp only [before0_0, before0_1, before0_2, before0_3, before0_4, before0_5, before0_6, before0_7, before0_8, before0_9, before0_10, before0_11, before0_12, before0_13]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, leaves14_live m c t (by omega), leaves15_live m c t (by omega)]
  unfold Phi
  iintro ⟨⟨%mix, %x1, %xo, %hh, %y, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run42 _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) ((dats m 0 c).before 15 t d15) mix x1 xo hh y c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, S0, S1, S2, S3, S4⟩
  isplitl [S0 S1 S2 S3 S4 Hr]
  · iexists _, _, _, _, _
    isplitr
    swap
    · isplitl [S0]; · iexact S0
      isplitl [S1]; · iexact S1
      isplitl [S2]; · iexact S2
      isplitl [S3]; · iexact S3
      isplitl [S4]; · iexact S4
      iexact Hr
    ipureintro
    refine ⟨?_, ?_, ?_, ?_, ?_⟩ <;> intro s hs <;> obtain rfl : s = t := Fin.ext (by omega)
    · intro _; omega
    · intro _ _; omega
    · intro _ _; omega
    · intro _ _; omega
    · intro _ _; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  have e14 := step14 m c t (by omega) d14
  have e15 := step15 m c t (by omega) d15
  rw [rowAt_eq _ _ _ _ (off2_ t (by omega)), hI.xo (pr t) (by rw [pr_val]; omega) (by rw [pr_val]; omega) (by rw [pr_val]; omega), hI.y (pr t) (by rw [pr_val]; omega) (by rw [pr_val]; omega) (by rw [pr_val]; omega)]
  rw [e14, e15]
  isplitl [H14]; · iexact H14
  iexact H15

theorem sound_body (c : Dev nD) (t : Fin cfg0.N) :
    bodyPre m c t ⊢ wp frame (wpE (defs₀ (F := F)) Variants.none c none) Set.univ (bodyAt0 t) (fun _ => bodyPost m c t) := by
  have hN := N43
  have hlt := t.isLt
  by_cases e0 : t.val = 0; · exact sound_run0 m c t e0
  by_cases e1 : t.val = 1; · exact sound_run1 m c t e1
  by_cases e2 : t.val = 2; · exact sound_run2 m c t e2
  by_cases e3 : t.val = 40; · exact sound_run40 m c t e3
  by_cases e4 : t.val = 41; · exact sound_run41 m c t e4
  by_cases e5 : t.val = 42; · exact sound_run42 m c t e5
  exact sound_runFull m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f)) ∗ ∃ r, prngReg c r) := by
  unfold Pipeline.ΦA; rw [scopedRest0_eq]; simp only [owns_whole]; try rfl

theorem Phi_in (c : Dev nD) : (Pipeline.ΦA spec0 c : sProp 𝕄) ⊢ Phi m c 0 := by
  rw [PhiA_eq]; unfold Phi
  iintro ⟨⟨⟨%f0, S0⟩, ⟨%f1, S1⟩, ⟨%f2, S2⟩, ⟨%f3, S3⟩, ⟨%f4, S4⟩⟩, Hr⟩
  iexists f0, f1, f2, f3, f4
  isplitr
  swap
  · isplitl [S0]; · iexact S0
    isplitl [S1]; · iexact S1
    isplitl [S2]; · iexact S2
    isplitl [S3]; · iexact S3
    isplitl [S4]; · iexact S4
    iexact Hr
  ipureintro
  refine ⟨?_, ?_, ?_, ?_, ?_⟩ <;> intro s hs <;> omega

theorem Phi_out (c : Dev nD) (n : ℕ) : Phi m c n ⊢ (Pipeline.ΦA spec0 c : sProp 𝕄) := by
  rw [PhiA_eq]; unfold Phi
  iintro ⟨%f0, %f1, %f2, %f3, %f4, %hI, S0, S1, S2, S3, S4, Hr⟩
  isplitr [Hr]
  swap; · iexact Hr
  isplitl [S0]; · iexists _; iexact S0
  isplitl [S1]; · iexists _; iexact S1
  isplitl [S2]; · iexists _; iexact S2
  isplitl [S3]; · iexists _; iexact S3
  iexists _; iexact S4

set_option backward.isDefEq.respectTransparency.types false in
set_option maxHeartbeats 800000 in
/-- The launch, with every semaphore counter at zero at the end. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The same, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.FfnKernelIdeal.Hand

end
-- ==== Proof.FfnMath.lean ====
/- One row of the output projection, feed-forward and layer norms of the layer, as functions of extended reals. -/
module

public import Idealize.ShloMosaic.Lib.Pointwise

@[expose] public section

noncomputable section

namespace Cert.Proof.FfnMath

open Idealize.ShloMosaic

/-- A sum over 1024 as the sums over its halves. -/
theorem sum_halves (f : Fin 1024 → EReal) :
    ∑ k, f k = (∑ k : Fin 512, f ⟨k, by omega⟩) + ∑ k : Fin 512, f ⟨512 + k, by omega⟩ :=
  Fin.sum_univ_add (a := 512) (b := 512) f

/-- The residual's weight, `2 ^ (1/4)`. -/
def alpha : EReal := Ideal.ofBits .f32 0x3F9837F0#32

/-- The mixed output projection: the attention row and the Hyena row times the halves of the weights. -/
def mixR (a h : Fin 512 → EReal) (w : Fin 1024 → Fin 1024 → EReal) (j : Fin 1024) : EReal :=
  (∑ k : Fin 512, a k * w ⟨k, by omega⟩ j) + ∑ k : Fin 512, h k * w ⟨512 + k, by omega⟩ j

/-- A gated residual. -/
def resR (x y g : Fin 1024 → EReal) (j : Fin 1024) : EReal := alpha * x j + g j * y j

/-- The mean of a row. -/
def meanR (v : Fin 1024 → EReal) : EReal := Ideal.div (∑ k, v k) (Ideal.ofBits .f32 0x44800000#32)

/-- A row centred and scaled to unit variance. -/
def stdR (v : Fin 1024 → EReal) (j : Fin 1024) : EReal :=
  (v j - meanR v) * Ideal.rsqrt (Ideal.div (∑ k, (v k - meanR v) * (v k - meanR v)) (Ideal.ofBits .f32 0x44800000#32)
    + Ideal.ofBits .f32 0x3727C5AC#32)

/-- The layer norm. -/
def lnR (v g b : Fin 1024 → EReal) (j : Fin 1024) : EReal := stdR v j * g j + b j

/-- The modulated row. -/
def modR (v sc sh : Fin 1024 → EReal) (j : Fin 1024) : EReal := stdR v j * (1 + sc j) + sh j

/-- The two halves of the feed-forward part's first product. -/
def upR (h : Fin 1024 → EReal) (w : Fin 1024 → Fin 5632 → EReal) (k : Fin 5632) : EReal := ∑ i : Fin 1024, h i * w i k

/-- The feed-forward part. -/
def ffnR (h : Fin 1024 → EReal) (wu : Fin 1024 → Fin 5632 → EReal) (wd : Fin 2816 → Fin 1024 → EReal) (j : Fin 1024) : EReal :=
  ∑ k : Fin 2816, upR h wu ⟨k, by omega⟩ * Ideal.logistic (upR h wu ⟨k, by omega⟩) * upR h wu ⟨2816 + k, by omega⟩ * wd k j

end Cert.Proof.FfnMath

end
-- ==== Proof.FfnRow.lean ====
/- The stages of the `out_proj_ffn` kernel over exact operations, entry by entry. -/
module

public import proofs.«01_k».proof.Proof.FfnKernelIdealStage
public import proofs.«01_k».proof.Proof.FfnMath
public import Idealize.ShloMosaic.Lib.Pointwise
public import Idealize.ShloMosaic.Lib.Pipeline.ValueKit

@[expose] public section

set_option maxRecDepth 16384
set_option backward.proofsInPublic true

noncomputable section

namespace Cert.Proof.Ffn

open Idealize.ShloMosaic Idealize.ShloMosaic.TcCoe Idealize.SL.Sem
open Cert.Proof.FfnMath Cert.FfnKernelIdeal Cert.FfnKernelIdeal.Gen Cert.FfnKernelIdeal.Hand

variable (i : grid0.Coords)

/-- Whether the mixed rows' block is a context block. -/
abbrev mixCtx : BitVec 1 := Scalar.cmpi .slt (Scalar.minsi 39#32 (Scalar.maxsi 0#32 (Scalar.subi (gp i) 0#32))) 32#32

theorem sel_one {α : Type _} (a b : α) : Scalar.select 1#1 a b = a := rfl
theorem sel_zero {α : Type _} (a b : α) : Scalar.select 0#1 a b = b := rfl

theorem top_apply (w : Vec Ideal S1024x1024 .bf16) (k : Fin 512) (j : Fin 1024) : top w (ix2 k j) = w (ix2 ⟨k, by omega⟩ j) := by
  pointwise [top]
theorem bot_apply (w : Vec Ideal S1024x1024 .bf16) (k : Fin 512) (j : Fin 1024) : bot w (ix2 k j) = w (ix2 ⟨512 + k, by omega⟩ j) := by
  pointwise [bot]
theorem upA_apply (w : Vec Ideal S1024x5632 .bf16) (i : Fin 1024) (k : Fin 2816) : upA w (ix2 i k) = w (ix2 i ⟨k, by omega⟩) := by
  pointwise [upA]
theorem upB_apply (w : Vec Ideal S1024x5632 .bf16) (i : Fin 1024) (k : Fin 2816) : upB w (ix2 i k) = w (ix2 i ⟨2816 + k, by omega⟩) := by
  pointwise [upB]

theorem mix_pay (a h : Vec Ideal S256x512 .bf16) (wt wb : Vec Ideal S512x1024 .bf16) (al hl : Vec Ideal S256x512 .bf16)
    (hs : mixCtx i = 1#1) (r : Fin 256) (j : Fin 1024) :
    k0_pay12 (F := Ideal) i al a wt hl h wb (ix2 r j)
      = (∑ k : Fin 512, a (ix2 r k) * wt (ix2 k j)) + ∑ k : Fin 512, h (ix2 r k) * wb (ix2 k j) := by
  unfold k0_pay12
  dsimp only
  rw [show Scalar.cmpi .slt _ 32#32 = 1#1 from hs]
  simp only [sel_one]
  pointwise []
theorem mix_pay' (al hl : Vec Ideal S256x512 .bf16) (wt wb : Vec Ideal S512x1024 .bf16) (a h : Vec Ideal S256x512 .bf16)
    (hs : mixCtx i = 0#1) (r : Fin 256) (j : Fin 1024) :
    k0_pay12 (F := Ideal) i al a wt hl h wb (ix2 r j)
      = (∑ k : Fin 512, al (ix2 r k) * wt (ix2 k j)) + ∑ k : Fin 512, hl (ix2 r k) * wb (ix2 k j) := by
  unfold k0_pay12
  dsimp only
  rw [show Scalar.cmpi .slt _ 32#32 = 0#1 from hs]
  simp only [sel_zero]
  pointwise []

/-- The mixed rows at a context block, and at a latent block. -/
theorem mixF_ctx (ac al hc hl : Vec Ideal S256x512 .bf16) (wo : Vec Ideal S1024x1024 .bf16) (hs : mixCtx i = 1#1) (r : Fin 256) (j : Fin 1024) :
    mixF i ac al hc hl wo (ix2 r j) = mixR (fun k => ac (ix2 r k)) (fun k => hc (ix2 r k)) (fun k j => wo (ix2 k j)) j := by
  unfold mixF mixR
  rw [mix_pay i _ _ _ _ _ _ hs]
  simp only [top_apply, bot_apply]
theorem mixF_lat (ac al hc hl : Vec Ideal S256x512 .bf16) (wo : Vec Ideal S1024x1024 .bf16) (hs : mixCtx i = 0#1) (r : Fin 256) (j : Fin 1024) :
    mixF i ac al hc hl wo (ix2 r j) = mixR (fun k => al (ix2 r k)) (fun k => hl (ix2 r k)) (fun k j => wo (ix2 k j)) j := by
  unfold mixF mixR
  rw [mix_pay' i _ _ _ _ _ _ hs]
  simp only [top_apply, bot_apply]

theorem pay34 (g56 : FVec Ideal S1x1024 .f32) (xl xc mix : Vec Ideal S256x1024 .f32) (s : BitVec 1) (g b : Vec Ideal S1x1024 .f32) (r : Fin 256) (j : Fin 1024) :
    k0_pay34 (F := Ideal) g56 xl s xc mix g b (ix2 r j)
      = lnR (resR (fun j => if s = 1#1 then xc (ix2 r j) else xl (ix2 r j)) (fun j => mix (ix2 r j)) fun j => g56 (ix2 0 j))
          (fun j => g (ix2 0 j)) (fun j => b (ix2 0 j)) j := by
  have e : ∀ j, Scalar.select s xc xl (ix2 r j) = if s = 1#1 then xc (ix2 r j) else xl (ix2 r j) := fun j => by
    rcases (by decide : ∀ s : BitVec 1, s = 1#1 ∨ s = 0#1) s with rfl | rfl <;> rfl
  simp only [← e]
  pointwise [k0_pay34, lnR, resR, stdR, meanR, alpha]

theorem pay35 (g56 : FVec Ideal S1x1024 .f32) (xl xc mix : Vec Ideal S256x1024 .f32) (s : BitVec 1) (g b : Vec Ideal S1x1024 .f32) (r : Fin 256) (j : Fin 1024) :
    k0_pay35 (F := Ideal) g56 xl s xc mix g b (ix2 r j)
      = k0_pay34 (F := Ideal) g56 xl s xc mix g b (ix2 r j) - meanR (fun j => k0_pay34 (F := Ideal) g56 xl s xc mix g b (ix2 r j)) := by
  unfold k0_pay35
  generalize k0_pay34 (F := Ideal) g56 xl s xc mix g b = y
  pointwise [meanR]

theorem pay36 (g56 : FVec Ideal S1x1024 .f32) (xl xc mix : Vec Ideal S256x1024 .f32) (s : BitVec 1) (g b : Vec Ideal S1x1024 .f32) (r : Fin 256) :
    k0_pay36 (F := Ideal) g56 xl s xc mix g b (ix2 r 0)
      = Ideal.div (∑ j, k0_pay35 (F := Ideal) g56 xl s xc mix g b (ix2 r j) * k0_pay35 (F := Ideal) g56 xl s xc mix g b (ix2 r j)) (Ideal.ofBits .f32 0x44800000#32) := by
  unfold k0_pay36
  generalize k0_pay35 (F := Ideal) g56 xl s xc mix g b = y
  pointwise []

theorem pay11 (sh sc : FVec Ideal S1x1024 .f32) (y : FVec Ideal S256x1024 .f32) (v : FVec Ideal S256x1 .f32) (r : Fin 256) (j : Fin 1024) :
    k0_pay11 (F := Ideal) sh sc y v (ix2 r j)
      = y (ix2 r j) * Ideal.rsqrt (v (ix2 r 0) + Ideal.ofBits .f32 0x3727C5AC#32) * (1 + sc (ix2 0 j)) + sh (ix2 0 j) := by
  pointwise [k0_pay11]

/-- The first residual, normed. -/
theorem x1F_apply (row : Vec Ideal S1x6144 .f32) (xc xl mix : Vec Ideal S256x1024 .f32) (g b : Vec Ideal S1x1024 .f32) (r : Fin 256) (j : Fin 1024) :
    x1F i row xc xl mix g b (ix2 r j)
      = lnR (resR (fun j => if isCtx i = 1#1 then xc (ix2 r j) else xl (ix2 r j)) (fun j => mix (ix2 r j)) fun j => row (ix2 0 ⟨2048 + j, by omega⟩))
          (fun j => g (ix2 0 j)) (fun j => b (ix2 0 j)) j := by
  have e : x1F i row xc xl mix g b (ix2 r j) = k0_pay34 (F := Ideal) (k0_pay30 row) xl (isCtx i) xc mix g b (ix2 r j) := by
    unfold x1F k0_pay10 k0_pay33
    simp only [shapeCast_self]
  rw [e, pay34]
  have e2 : ∀ j : Fin 1024, k0_pay30 (F := Ideal) row (ix2 0 j) = row (ix2 0 ⟨2048 + j, by omega⟩) := fun j => by pointwise [k0_pay30]
  simp only [e2]

/-- The rows the feed-forward part takes. -/
theorem hF_apply (row : Vec Ideal S1x6144 .f32) (xc xl mix : Vec Ideal S256x1024 .f32) (g b : Vec Ideal S1x1024 .f32) (r : Fin 256) (j : Fin 1024) :
    hF i row xc xl mix g b (ix2 r j)
      = modR (fun j => x1F i row xc xl mix g b (ix2 r j)) (fun j => row (ix2 0 ⟨4096 + j, by omega⟩)) (fun j => row (ix2 0 ⟨3072 + j, by omega⟩)) j := by
  have e : ∀ j, x1F i row xc xl mix g b (ix2 r j) = k0_pay34 (F := Ideal) (k0_pay30 row) (k0_pay33 xl) (isCtx i) xc mix g b (ix2 r j) := fun j => by
    unfold x1F k0_pay10
    simp only [shapeCast_self]
  unfold hF
  rw [pay11, pay36]
  simp only [pay35, ← e]
  have e2 : ∀ j : Fin 1024, k0_pay32 (F := Ideal) row (ix2 0 j) = row (ix2 0 ⟨4096 + j, by omega⟩) := fun j => by pointwise [k0_pay32]
  have e3 : ∀ j : Fin 1024, k0_pay31 (F := Ideal) row (ix2 0 j) = row (ix2 0 ⟨3072 + j, by omega⟩) := fun j => by pointwise [k0_pay31]
  simp only [e2, e3]
  rfl

theorem pay8 (h : Vec Ideal S256x1024 .bf16) (a b : Vec Ideal S1024x2816 .bf16) (wd : Vec Ideal S2816x1024 .bf16) (r : Fin 256) (j : Fin 1024) :
    k0_pay8 (F := Ideal) h a b wd (ix2 r j)
      = ∑ k : Fin 2816, (∑ i : Fin 1024, h (ix2 r i) * a (ix2 i k)) * Ideal.logistic (∑ i : Fin 1024, h (ix2 r i) * a (ix2 i k))
          * (∑ i : Fin 1024, h (ix2 r i) * b (ix2 i k)) * wd (ix2 k j) := by
  pointwise [k0_pay8]

/-- The feed-forward part. -/
theorem yF_apply (h : Vec Ideal S256x1024 .bf16) (wu : Vec Ideal S1024x5632 .bf16) (wd : Vec Ideal S2816x1024 .bf16) (r : Fin 256) (j : Fin 1024) :
    yF h wu wd (ix2 r j) = ffnR (fun j => h (ix2 r j)) (fun i k => wu (ix2 i k)) (fun k j => wd (ix2 k j)) j := by
  unfold yF ffnR upR
  rw [pay8]
  simp only [upA_apply, upB_apply]

/-- The second residual, normed. -/
theorem normF_apply (row : Vec Ideal S1x6144 .f32) (xo y : Vec Ideal S256x1024 .f32) (g b : Vec Ideal S1x1024 .f32) (r : Fin 256) (j : Fin 1024) :
    normF row xo y g b (ix2 r j)
      = lnR (resR (fun j => xo (ix2 r j)) (fun j => y (ix2 r j)) fun j => row (ix2 0 ⟨5120 + j, by omega⟩))
          (fun j => g (ix2 0 j)) (fun j => b (ix2 0 j)) j := by
  pointwise [normF, k0_pay27, k0_pay26, k0_pay25, lnR, resR, stdR, meanR, alpha]

end Cert.Proof.Ffn

end
-- ==== Proof.FfnBlocks.lean ====
/- The blocks the `out_proj_ffn` kernel reads at a point of its grid, entry by entry. -/
module

public import proofs.«01_k».proof.Proof.FfnKernelIdealRun
public import proofs.«01_k».proof.Proof.FfnRow
public import Idealize.ShloMosaic.Lib.Pointwise
public import Idealize.ShloMosaic.Lib.Pipeline.ValueKit
public import Idealize.ShloMosaic.Lib.Claim

@[expose] public section

set_option maxRecDepth 16384
set_option backward.proofsInPublic true

noncomputable section

namespace Cert.Proof.Ffn

open Idealize.ShloMosaic Idealize.ShloMosaic.TcCoe Idealize.SL.Sem
open Cert.Proof.FfnMath Cert.FfnKernelIdeal Cert.FfnKernelIdeal.Gen Cert.FfnKernelIdeal.Hand

variable (m : (ℓ : Loc nD τ sig) → Buf (Elt Ideal) ℓ)

/-- The blocks the windows read and write at a point of the grid. -/
theorem idx : ∀ t : Fin cfg0.N, win0_0.index t = ![min (t.val - 1) 31, 0] ∧ win0_1.index t = ![min (t.val - 33) 7, 0] ∧ win0_2.index t = ![min t.val 31, 0]
    ∧ win0_3.index t = ![min (t.val - 32) 7, 0] ∧ win0_4.index t = ![min t.val 31, 0] ∧ win0_5.index t = ![min (t.val - 32) 7, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![min (t.val - 3) 31, 0]
    ∧ win0_15.index t = ![min (t.val - 35) 7, 0] :=
  (by decide +kernel : ∀ t : Fin grid0.N, _)

/-- The mixed rows' block is a context block at the first 32 points. -/
theorem mix_ctx : ∀ t : Fin cfg0.N, t.val ≤ 31 → mixCtx (grid0.coords t) = 1#1 := (by decide +kernel : ∀ t : Fin grid0.N, _)
theorem mix_lat : ∀ t : Fin cfg0.N, 32 ≤ t.val → mixCtx (grid0.coords t) = 0#1 := (by decide +kernel : ∀ t : Fin grid0.N, _)
theorem is_ctx : ∀ t : Fin cfg0.N, t.val ≤ 32 → isCtx (grid0.coords t) = 1#1 := (by decide +kernel : ∀ t : Fin grid0.N, _)
theorem is_lat : ∀ t : Fin cfg0.N, 33 ≤ t.val → isCtx (grid0.coords t) = 0#1 := (by decide +kernel : ∀ t : Fin grid0.N, _)

/-- The flattened rows. -/
theorem flat_ctx (y : Vec Ideal S32x256x1024 .f32) (p : Fin 32) (r : Fin 256) (j : Fin 1024) :
    shapeCast S8192x1024 y shapeCasts_S32x256x1024_S8192x1024 (ix2 ⟨p * 256 + r, by omega⟩ j) = y (ix3 p r j) := by
  pointwise []
theorem flat_lat (y : Vec Ideal S2x1024x1024 .f32) (p : Fin 2) (r : Fin 1024) (j : Fin 1024) :
    shapeCast S2048x1024 y shapeCasts_S2x1024x1024_S2048x1024 (ix2 ⟨p * 1024 + r, by omega⟩ j) = y (ix3 p r j) := by
  pointwise []

variable (c : Dev nD)

theorem V_v0 : V m c main_v0 = shapeCast S8192x1024 (m ((c : Thread nD τ).loc main_arg0)) shapeCasts_S32x256x1024_S8192x1024 := by
  unfold_abbrev_sides
  after_results
  rfl
theorem V_v1 : V m c main_v1 = shapeCast S2048x1024 (m ((c : Thread nD τ).loc main_arg1)) shapeCasts_S2x1024x1024_S2048x1024 := by
  unfold_abbrev_sides
  after_results
  rfl
theorem V_v3 : V m c main_v3 = broadcastInDim S1x1024 ![1] bcast_S1024_S1x1024_1 (shapeCast S1024 (m ((c : Thread nD τ).loc main_arg10)) shapeCasts_S1x1024_S1024) := by
  unfold_abbrev_sides
  after_results
  rfl
theorem V_v5 : V m c main_v5 = broadcastInDim S1x1024 ![1] bcast_S1024_S1x1024_1 (shapeCast S1024 (m ((c : Thread nD τ).loc main_arg11)) shapeCasts_S1x1024_S1024) := by
  unfold_abbrev_sides
  after_results
  rfl
theorem V_v7 : V m c main_v7 = broadcastInDim S1x1024 ![1] bcast_S1024_S1x1024_1 (shapeCast S1024 (m ((c : Thread nD τ).loc main_arg12)) shapeCasts_S1x1024_S1024) := by
  unfold_abbrev_sides
  after_results
  rfl
theorem V_v9 : V m c main_v9 = broadcastInDim S1x1024 ![1] bcast_S1024_S1x1024_1 (shapeCast S1024 (m ((c : Thread nD τ).loc main_arg13)) shapeCasts_S1x1024_S1024) := by
  unfold_abbrev_sides
  after_results
  rfl

variable (t : Fin cfg0.N)

/-- Window 0's block, over the flattened rows. -/
theorem blk0' (r : Fin 256) (j : Fin 1024) (R : Fin 8192) (hR : (R : ℕ) = min (t.val - 1) 31 * 256 + r) :
    iblk m c 0 t (ix2 r j) = V m c main_v0 (ix2 R j) := by
  blk_ext [iblk, idx t]
theorem blk0 (r : Fin 256) (j : Fin 1024) (p : Fin 32) (hp : (p : ℕ) = min (t.val - 1) 31) :
    iblk m c 0 t (ix2 r j) = m ((c : Thread nD τ).loc main_arg0) (ix3 p r j) := by
  rw [blk0' m c t r j ⟨p * 256 + r, by omega⟩ (by dsimp only; omega), V_v0]
  exact flat_ctx _ p r j
theorem blk1' (r : Fin 256) (j : Fin 1024) (R : Fin 2048) (hR : (R : ℕ) = min (t.val - 33) 7 * 256 + r) :
    iblk m c 1 t (ix2 r j) = V m c main_v1 (ix2 R j) := by
  blk_ext [iblk, idx t]
theorem blk1 (r : Fin 256) (j : Fin 1024) (p : Fin 2) (q : Fin 1024) (hp : (p * 1024 + q : ℕ) = min (t.val - 33) 7 * 256 + r) :
    iblk m c 1 t (ix2 r j) = m ((c : Thread nD τ).loc main_arg1) (ix3 p q j) := by
  rw [blk1' m c t r j ⟨p * 1024 + q, by omega⟩ hp, V_v1]
  exact flat_lat _ p q j
theorem blk2 (r : Fin 256) (j : Fin 512) (R : Fin 8192) (hR : (R : ℕ) = min t.val 31 * 256 + r) :
    iblk m c 2 t (ix2 r j) = m ((c : Thread nD τ).loc main_arg2) (ix2 R j) := by
  rw [← V_main_arg2 m c]; blk_ext [iblk, idx t]
theorem blk4 (r : Fin 256) (j : Fin 512) (R : Fin 8192) (hR : (R : ℕ) = min t.val 31 * 256 + r) :
    iblk m c 4 t (ix2 r j) = m ((c : Thread nD τ).loc main_arg4) (ix2 R j) := by
  rw [← V_main_arg4 m c]; blk_ext [iblk, idx t]
theorem blk3 (r : Fin 256) (j : Fin 512) (R : Fin 2048) (hR : (R : ℕ) = min (t.val - 32) 7 * 256 + r) :
    iblk m c 3 t (ix2 r j) = m ((c : Thread nD τ).loc main_arg3) (ix2 R j) := by
  rw [← V_main_arg3 m c]; blk_ext [iblk, idx t]
theorem blk5 (r : Fin 256) (j : Fin 512) (R : Fin 2048) (hR : (R : ℕ) = min (t.val - 32) 7 * 256 + r) :
    iblk m c 5 t (ix2 r j) = m ((c : Thread nD τ).loc main_arg5) (ix2 R j) := by
  rw [← V_main_arg5 m c]; blk_ext [iblk, idx t]
theorem blk6 (r : Fin 8) (j : Fin 6144) : iblk m c 6 t (ix2 r j) = m ((c : Thread nD τ).loc main_arg6) (ix2 r j) := by
  rw [← V_main_arg6 m c]; blk_ext [iblk, idx t]
theorem blk7 (r j : Fin 1024) : iblk m c 7 t (ix2 r j) = m ((c : Thread nD τ).loc main_arg7) (ix2 r j) := by
  rw [← V_main_arg7 m c]; blk_ext [iblk, idx t]
theorem blk8 (r : Fin 1024) (j : Fin 5632) : iblk m c 8 t (ix2 r j) = m ((c : Thread nD τ).loc main_arg8) (ix2 r j) := by
  rw [← V_main_arg8 m c]; blk_ext [iblk, idx t]
theorem blk9 (r : Fin 2816) (j : Fin 1024) : iblk m c 9 t (ix2 r j) = m ((c : Thread nD τ).loc main_arg9) (ix2 r j) := by
  rw [← V_main_arg9 m c]; blk_ext [iblk, idx t]
theorem vec_apply (y : Vec Ideal S1x1024 .f32) (j : Fin 1024) :
    broadcastInDim S1x1024 ![1] bcast_S1024_S1x1024_1 (shapeCast S1024 y shapeCasts_S1x1024_S1024) (ix2 0 j) = y (ix2 0 j) := by
  pointwise []
theorem blk10 (j : Fin 1024) : iblk m c 10 t (ix2 0 j) = m ((c : Thread nD τ).loc main_arg10) (ix2 0 j) := by
  rw [show iblk m c 10 t (ix2 0 j) = V m c main_v3 (ix2 0 j) by blk_ext [iblk, idx t], V_v3]; exact vec_apply _ j
theorem blk11 (j : Fin 1024) : iblk m c 11 t (ix2 0 j) = m ((c : Thread nD τ).loc main_arg11) (ix2 0 j) := by
  rw [show iblk m c 11 t (ix2 0 j) = V m c main_v5 (ix2 0 j) by blk_ext [iblk, idx t], V_v5]; exact vec_apply _ j
theorem blk12 (j : Fin 1024) : iblk m c 12 t (ix2 0 j) = m ((c : Thread nD τ).loc main_arg12) (ix2 0 j) := by
  rw [show iblk m c 12 t (ix2 0 j) = V m c main_v7 (ix2 0 j) by blk_ext [iblk, idx t], V_v7]; exact vec_apply _ j
theorem blk13 (j : Fin 1024) : iblk m c 13 t (ix2 0 j) = m ((c : Thread nD τ).loc main_arg13) (ix2 0 j) := by
  rw [show iblk m c 13 t (ix2 0 j) = V m c main_v9 (ix2 0 j) by blk_ext [iblk, idx t], V_v9]; exact vec_apply _ j

/-- The row of the modulation a block takes. -/
theorem rowB_apply (md : Vec Ideal S8x6144 .f32) (b : ℕ) (R : Fin 8) (hR : (R : ℕ) = modRow b) (j : Fin 6144) : rowB md b (ix2 0 j) = md (ix2 R j) := by
  unfold rowB rowAt
  rw [View.ld_apply]
  refine congrArg md (funext fun a => Fin.ext ?_)
  match a with
  | ⟨0, _⟩ => simp [hR]
  | ⟨1, _⟩ => simp

end Cert.Proof.Ffn

end
-- ==== Proof.FfnRef.lean ====
/- The reference of the `out_proj_ffn` call, entry by entry. -/
module

public import proofs.«01_k».proof.Proof.Gen.FfnReferenceIdeal.Read
public import proofs.«01_k».proof.Proof.FfnMath
public import Idealize.ShloMosaic.Lib.Pointwise

@[expose] public section

set_option maxRecDepth 16384
set_option backward.proofsInPublic true

noncomputable section

namespace Cert.Proof.FfnRef

open Idealize.ShloMosaic Idealize.ShloMosaic.TcCoe Idealize.SL.Sem
open Cert.Proof.FfnMath Cert.FfnReferenceIdeal Cert.FfnReferenceIdeal.Gen Cert.FfnReferenceIdeal.Read

section ctx

variable (x0 : FVec Ideal S32x256x1024 .f32) (x2 : FVec Ideal S8192x512 .bf16) (x4 : FVec Ideal S8192x512 .bf16) (x6 : FVec Ideal S8x6144 .f32) (x7 : FVec Ideal S1024x1024 .bf16) (x8 : FVec Ideal S1024x5632 .bf16) (x9 : FVec Ideal S2816x1024 .bf16) (x10 : FVec Ideal S1x1024 .f32) (x11 : FVec Ideal S1x1024 .f32) (x12 : FVec Ideal S1x1024 .f32) (x13 : FVec Ideal S1x1024 .f32) (p : Fin 32) (r : Fin 256) (j : Fin 1024)

/-- The mixed context rows. -/
theorem ctx_mix : val_main_v13 (F := Ideal) x2 x4 x7 (ix3 p r j)
    = mixR (fun k => x2 (ix2 ⟨p * 256 + r, by omega⟩ k)) (fun k => x4 (ix2 ⟨p * 256 + r, by omega⟩ k)) (fun k j => x7 (ix2 k j)) j := by
  have e : val_main_v13 (F := Ideal) x2 x4 x7 (ix3 p r j)
      = ∑ k : Fin 1024, (if hk : (k : ℕ) < 512 then x2 (ix2 ⟨p * 256 + r, by omega⟩ ⟨k, hk⟩) else x4 (ix2 ⟨p * 256 + r, by omega⟩ ⟨k - 512, by omega⟩)) * x7 (ix2 k j) := by
    pointwise [val_main_v13, val_main_v12, val_main_v11, val_main_v10, val_main_v9, val_main_v8]
  rw [e, sum_halves]
  unfold mixR
  congr 1

/-- The first residual of the context rows. -/
theorem ctx_res : val_main_v19 (F := Ideal) x0 x2 x4 x6 x7 (ix3 p r j)
    = resR (fun j => x0 (ix3 p r j)) (fun j => val_main_v13 (F := Ideal) x2 x4 x7 (ix3 p r j)) (fun j => x6 (ix2 0 ⟨2048 + j, by omega⟩)) j := by
  unfold val_main_v19 val_main_v18 val_main_v17 val_main_v16 val_main_v15 val_main_v14 val_main_cst val_main_v4 val_main_v1 val_main_v0
  generalize val_main_v13 (F := Ideal) x2 x4 x7 = y0
  pointwise [lnR, modR, resR, stdR, meanR, alpha, ffnR, upR, Ideal.logistic]

/-- The first residual, normed. -/
theorem ctx_x1 : val_main_v45 (F := Ideal) x0 x2 x4 x6 x7 x10 x11 (ix3 p r j)
    = lnR (fun j => val_main_v19 (F := Ideal) x0 x2 x4 x6 x7 (ix3 p r j)) (fun j => x10 (ix2 0 j)) (fun j => x11 (ix2 0 j)) j := by
  unfold val_main_v45 val_main_v44 val_main_v43 val_main_v42 val_main_v41 val_main_v40 val_main_v39 val_main_v38 val_main_v37 val_main_v36 val_main_v35 val_main_cst_4 val_main_v34 val_main_v33 val_main_v32 val_main_v31 val_main_cst_3 val_main_v30 val_main_v29 val_main_cst_2 val_main_v28 val_main_v27 val_main_v26 val_main_v25 val_main_v24 val_main_cst_1 val_main_v23 val_main_v22 val_main_cst_0 val_main_v21 val_main_v20
  generalize val_main_v19 (F := Ideal) x0 x2 x4 x6 x7 = y0
  pointwise [lnR, modR, resR, stdR, meanR, alpha, ffnR, upR, Ideal.logistic]

/-- The modulated rows. -/
theorem ctx_h : val_main_v71 (F := Ideal) x0 x2 x4 x6 x7 x10 x11 (ix3 p r j)
    = modR (fun j => val_main_v45 (F := Ideal) x0 x2 x4 x6 x7 x10 x11 (ix3 p r j)) (fun j => x6 (ix2 0 ⟨4096 + j, by omega⟩)) (fun j => x6 (ix2 0 ⟨3072 + j, by omega⟩)) j := by
  unfold val_main_v71 val_main_v70 val_main_v69 val_main_v68 val_main_v67 val_main_v66 val_main_v65 val_main_v64 val_main_cst_10 val_main_v63 val_main_v62 val_main_v61 val_main_v60 val_main_v59 val_main_cst_9 val_main_v58 val_main_v57 val_main_v56 val_main_v55 val_main_cst_8 val_main_v54 val_main_v53 val_main_cst_7 val_main_v52 val_main_v51 val_main_v50 val_main_v49 val_main_v48 val_main_cst_6 val_main_v47 val_main_v46 val_main_cst_5 val_main_v6 val_main_v5 val_main_v1 val_main_v0
  generalize val_main_v45 (F := Ideal) x0 x2 x4 x6 x7 x10 x11 = y0
  pointwise [lnR, modR, resR, stdR, meanR, alpha, ffnR, upR, Ideal.logistic]

/-- The feed-forward part. -/
theorem ctx_ffn : val_main_v79 (F := Ideal) x0 x2 x4 x6 x7 x8 x9 x10 x11 (ix3 p r j)
    = ffnR (fun j => val_main_v71 (F := Ideal) x0 x2 x4 x6 x7 x10 x11 (ix3 p r j)) (fun i k => x8 (ix2 i k)) (fun k j => x9 (ix2 k j)) j := by
  unfold val_main_v79 val_main_v78 val_main_v77 val_main_v76 val_main_call0_v5 val_main_call0_v4 val_main_call0_cst_0 val_main_call0_v3 val_main_call0_v2 val_main_call0_cst val_main_call0_v1 val_main_call0_v0 val_main_v75 val_main_v74 val_main_v73 val_main_v72
  generalize val_main_v71 (F := Ideal) x0 x2 x4 x6 x7 x10 x11 = y0
  pointwise [lnR, modR, resR, stdR, meanR, alpha, ffnR, upR, Ideal.logistic]

/-- The second residual. -/
theorem ctx_res2 : val_main_v85 (F := Ideal) x0 x2 x4 x6 x7 x8 x9 x10 x11 (ix3 p r j)
    = resR (fun j => val_main_v45 (F := Ideal) x0 x2 x4 x6 x7 x10 x11 (ix3 p r j)) (fun j => val_main_v79 (F := Ideal) x0 x2 x4 x6 x7 x8 x9 x10 x11 (ix3 p r j)) (fun j => x6 (ix2 0 ⟨5120 + j, by omega⟩)) j := by
  unfold val_main_v85 val_main_v84 val_main_v83 val_main_v82 val_main_v81 val_main_v80 val_main_cst_11 val_main_v7 val_main_v1 val_main_v0
  generalize val_main_v45 (F := Ideal) x0 x2 x4 x6 x7 x10 x11 = y0
  generalize val_main_v79 (F := Ideal) x0 x2 x4 x6 x7 x8 x9 x10 x11 = y1
  pointwise [lnR, modR, resR, stdR, meanR, alpha, ffnR, upR, Ideal.logistic]

/-- The second residual, normed. -/
theorem ctx_ln2 : val_main_v111 (F := Ideal) x0 x2 x4 x6 x7 x8 x9 x10 x11 x12 x13 (ix3 p r j)
    = lnR (fun j => val_main_v85 (F := Ideal) x0 x2 x4 x6 x7 x8 x9 x10 x11 (ix3 p r j)) (fun j => x12 (ix2 0 j)) (fun j => x13 (ix2 0 j)) j := by
  unfold val_main_v111 val_main_v110 val_main_v109 val_main_v108 val_main_v107 val_main_v106 val_main_v105 val_main_v104 val_main_v103 val_main_v102 val_main_v101 val_main_cst_16 val_main_v100 val_main_v99 val_main_v98 val_main_v97 val_main_cst_15 val_main_v96 val_main_v95 val_main_cst_14 val_main_v94 val_main_v93 val_main_v92 val_main_v91 val_main_v90 val_main_cst_13 val_main_v89 val_main_v88 val_main_cst_12 val_main_v87 val_main_v86
  generalize val_main_v85 (F := Ideal) x0 x2 x4 x6 x7 x8 x9 x10 x11 = y0
  pointwise [lnR, modR, resR, stdR, meanR, alpha, ffnR, upR, Ideal.logistic]

/-- The rows, flattened. -/
theorem ctx_flat (R : Fin 8192) : val_main_v112 (F := Ideal) x0 x2 x4 x6 x7 x8 x9 x10 x11 x12 x13 (ix2 R j) = val_main_v111 (F := Ideal) x0 x2 x4 x6 x7 x8 x9 x10 x11 x12 x13 (ix3 ⟨R / 256, by omega⟩ ⟨R % 256, by omega⟩ j) := by
  unfold val_main_v112
  generalize val_main_v111 (F := Ideal) x0 x2 x4 x6 x7 x8 x9 x10 x11 x12 x13 = y
  pointwise []

end ctx

section lat

variable (x1 : FVec Ideal S2x1024x1024 .f32) (x3 : FVec Ideal S2048x512 .bf16) (x5 : FVec Ideal S2048x512 .bf16) (x6 : FVec Ideal S8x6144 .f32) (x7 : FVec Ideal S1024x1024 .bf16) (x8 : FVec Ideal S1024x5632 .bf16) (x9 : FVec Ideal S2816x1024 .bf16) (x10 : FVec Ideal S1x1024 .f32) (x11 : FVec Ideal S1x1024 .f32) (x12 : FVec Ideal S1x1024 .f32) (x13 : FVec Ideal S1x1024 .f32) (p : Fin 2) (r : Fin 1024) (j : Fin 1024)

/-- The mixed latent rows. -/
theorem lat_mix : val_main_v126 (F := Ideal) x3 x5 x7 (ix3 p r j)
    = mixR (fun k => x3 (ix2 ⟨p * 1024 + r, by omega⟩ k)) (fun k => x5 (ix2 ⟨p * 1024 + r, by omega⟩ k)) (fun k j => x7 (ix2 k j)) j := by
  have e : val_main_v126 (F := Ideal) x3 x5 x7 (ix3 p r j)
      = ∑ k : Fin 1024, (if hk : (k : ℕ) < 512 then x3 (ix2 ⟨p * 1024 + r, by omega⟩ ⟨k, hk⟩) else x5 (ix2 ⟨p * 1024 + r, by omega⟩ ⟨k - 512, by omega⟩)) * x7 (ix2 k j) := by
    pointwise [val_main_v126, val_main_v125, val_main_v124, val_main_v123, val_main_v122, val_main_v121]
  rw [e, sum_halves]
  unfold mixR
  congr 1

/-- The first residual of the latent rows. -/
theorem lat_res : val_main_v131 (F := Ideal) x1 x3 x5 x6 x7 (ix3 p r j)
    = resR (fun j => x1 (ix3 p r j)) (fun j => val_main_v126 (F := Ideal) x3 x5 x7 (ix3 p r j)) (fun j => x6 (ix2 ⟨1 + p, by omega⟩ ⟨2048 + j, by omega⟩)) j := by
  unfold val_main_v131 val_main_v130 val_main_v129 val_main_v128 val_main_v127 val_main_cst_17 val_main_v117 val_main_v114 val_main_v113
  generalize val_main_v126 (F := Ideal) x3 x5 x7 = y0
  pointwise [lnR, modR, resR, stdR, meanR, alpha, ffnR, upR, Ideal.logistic]

/-- The first residual, normed. -/
theorem lat_x1 : val_main_v157 (F := Ideal) x1 x3 x5 x6 x7 x10 x11 (ix3 p r j)
    = lnR (fun j => val_main_v131 (F := Ideal) x1 x3 x5 x6 x7 (ix3 p r j)) (fun j => x10 (ix2 0 j)) (fun j => x11 (ix2 0 j)) j := by
  unfold val_main_v157 val_main_v156 val_main_v155 val_main_v154 val_main_v153 val_main_v152 val_main_v151 val_main_v150 val_main_v149 val_main_v148 val_main_v147 val_main_cst_22 val_main_v146 val_main_v145 val_main_v144 val_main_v143 val_main_cst_21 val_main_v142 val_main_v141 val_main_cst_20 val_main_v140 val_main_v139 val_main_v138 val_main_v137 val_main_v136 val_main_cst_19 val_main_v135 val_main_v134 val_main_cst_18 val_main_v133 val_main_v132
  generalize val_main_v131 (F := Ideal) x1 x3 x5 x6 x7 = y0
  pointwise [lnR, modR, resR, stdR, meanR, alpha, ffnR, upR, Ideal.logistic]

/-- The modulated rows. -/
theorem lat_h : val_main_v181 (F := Ideal) x1 x3 x5 x6 x7 x10 x11 (ix3 p r j)
    = modR (fun j => val_main_v157 (F := Ideal) x1 x3 x5 x6 x7 x10 x11 (ix3 p r j)) (fun j => x6 (ix2 ⟨1 + p, by omega⟩ ⟨4096 + j, by omega⟩)) (fun j => x6 (ix2 ⟨1 + p, by omega⟩ ⟨3072 + j, by omega⟩)) j := by
  unfold val_main_v181 val_main_v180 val_main_v179 val_main_v178 val_main_v177 val_main_v176 val_main_cst_28 val_main_v175 val_main_v174 val_main_v173 val_main_v172 val_main_v171 val_main_cst_27 val_main_v170 val_main_v169 val_main_v168 val_main_v167 val_main_cst_26 val_main_v166 val_main_v165 val_main_cst_25 val_main_v164 val_main_v163 val_main_v162 val_main_v161 val_main_v160 val_main_cst_24 val_main_v159 val_main_v158 val_main_cst_23 val_main_v119 val_main_v118 val_main_v114 val_main_v113
  generalize val_main_v157 (F := Ideal) x1 x3 x5 x6 x7 x10 x11 = y0
  pointwise [lnR, modR, resR, stdR, meanR, alpha, ffnR, upR, Ideal.logistic]

/-- The feed-forward part. -/
theorem lat_ffn : val_main_v189 (F := Ideal) x1 x3 x5 x6 x7 x8 x9 x10 x11 (ix3 p r j)
    = ffnR (fun j => val_main_v181 (F := Ideal) x1 x3 x5 x6 x7 x10 x11 (ix3 p r j)) (fun i k => x8 (ix2 i k)) (fun k j => x9 (ix2 k j)) j := by
  unfold val_main_v189 val_main_v188 val_main_v187 val_main_v186 val_main_call1_v5 val_main_call1_v4 val_main_call1_cst_0 val_main_call1_v3 val_main_call1_v2 val_main_call1_cst val_main_call1_v1 val_main_call1_v0 val_main_v185 val_main_v184 val_main_v183 val_main_v182
  generalize val_main_v181 (F := Ideal) x1 x3 x5 x6 x7 x10 x11 = y0
  pointwise [lnR, modR, resR, stdR, meanR, alpha, ffnR, upR, Ideal.logistic]

/-- The second residual. -/
theorem lat_res2 : val_main_v194 (F := Ideal) x1 x3 x5 x6 x7 x8 x9 x10 x11 (ix3 p r j)
    = resR (fun j => val_main_v157 (F := Ideal) x1 x3 x5 x6 x7 x10 x11 (ix3 p r j)) (fun j => val_main_v189 (F := Ideal) x1 x3 x5 x6 x7 x8 x9 x10 x11 (ix3 p r j)) (fun j => x6 (ix2 ⟨1 + p, by omega⟩ ⟨5120 + j, by omega⟩)) j := by
  unfold val_main_v194 val_main_v193 val_main_v192 val_main_v191 val_main_v190 val_main_cst_29 val_main_v120 val_main_v114 val_main_v113
  generalize val_main_v157 (F := Ideal) x1 x3 x5 x6 x7 x10 x11 = y0
  generalize val_main_v189 (F := Ideal) x1 x3 x5 x6 x7 x8 x9 x10 x11 = y1
  pointwise [lnR, modR, resR, stdR, meanR, alpha, ffnR, upR, Ideal.logistic]

/-- The second residual, normed. -/
theorem lat_ln2 : val_main_v220 (F := Ideal) x1 x3 x5 x6 x7 x8 x9 x10 x11 x12 x13 (ix3 p r j)
    = lnR (fun j => val_main_v194 (F := Ideal) x1 x3 x5 x6 x7 x8 x9 x10 x11 (ix3 p r j)) (fun j => x12 (ix2 0 j)) (fun j => x13 (ix2 0 j)) j := by
  unfold val_main_v220 val_main_v219 val_main_v218 val_main_v217 val_main_v216 val_main_v215 val_main_v214 val_main_v213 val_main_v212 val_main_v211 val_main_v210 val_main_cst_34 val_main_v209 val_main_v208 val_main_v207 val_main_v206 val_main_cst_33 val_main_v205 val_main_v204 val_main_cst_32 val_main_v203 val_main_v202 val_main_v201 val_main_v200 val_main_v199 val_main_cst_31 val_main_v198 val_main_v197 val_main_cst_30 val_main_v196 val_main_v195
  generalize val_main_v194 (F := Ideal) x1 x3 x5 x6 x7 x8 x9 x10 x11 = y0
  pointwise [lnR, modR, resR, stdR, meanR, alpha, ffnR, upR, Ideal.logistic]

/-- The rows, flattened. -/
theorem lat_flat (R : Fin 2048) : val_main_v221 (F := Ideal) x1 x3 x5 x6 x7 x8 x9 x10 x11 x12 x13 (ix2 R j) = val_main_v220 (F := Ideal) x1 x3 x5 x6 x7 x8 x9 x10 x11 x12 x13 (ix3 ⟨R / 1024, by omega⟩ ⟨R % 1024, by omega⟩ j) := by
  unfold val_main_v221
  generalize val_main_v220 (F := Ideal) x1 x3 x5 x6 x7 x8 x9 x10 x11 x12 x13 = y
  pointwise []

end lat

end Cert.Proof.FfnRef

end
-- ==== Proof.FfnPoint.lean ====
/- What the `out_proj_ffn` kernel leaves: row by row, the reference's context rows and its latent rows. -/
module

public import proofs.«01_k».proof.Proof.FfnBlocks
public import proofs.«01_k».proof.Proof.FfnRef

@[expose] public section

set_option maxRecDepth 16384
set_option backward.proofsInPublic true

noncomputable section

namespace Cert.Proof.Ffn

open Idealize.ShloMosaic Idealize.ShloMosaic.TcCoe Idealize.SL.Sem
open Cert.Proof.FfnMath Cert.FfnKernelIdeal Cert.FfnKernelIdeal.Gen Cert.FfnKernelIdeal.Hand
open Cert.FfnReferenceIdeal.Read

/-- The batch entry, the row and the modulation's row of a latent block. -/
def latB (q : Fin 8) : Fin 2 := ⟨q / 4, by omega⟩
def latR (q : Fin 8) (r : Fin 256) : Fin 1024 := ⟨q % 4 * 256 + r, by omega⟩
def latM (q : Fin 8) : Fin 8 := ⟨1 + latB q, by have := (latB q).isLt; omega⟩

theorem mod_ctx {b : ℕ} (_ : ℕ) (h : b ≤ 31) : ((0 : Fin 8) : ℕ) = modRow b := by
  unfold modRow
  rw [if_pos (by omega)]
  rfl
theorem mod_lat {b : ℕ} (q : Fin 8) (h : b = q + 32) : (latM q : ℕ) = modRow b := by
  unfold modRow latM latB
  rw [if_neg (by omega)]
  dsimp only
  omega
theorem xoF_eq (x : Vec Ideal S256x1024 .f32) : xoF x = x := by
  unfold xoF
  exact shapeCast_self _ _

variable (m : (ℓ : Loc nD τ sig) → Buf (Elt Ideal) ℓ) (c : Dev nD)

/-- The mixed context rows. -/
theorem ctx_mixA (p : Fin 32) (t : Fin cfg0.N) (ht : t.val = p + 0) (r : Fin 256) (j : Fin 1024) :
    mixA m c t (ix2 r j) = val_main_v13 (F := Ideal) (m ((c : Thread nD τ).loc main_arg2)) (m ((c : Thread nD τ).loc main_arg4)) (m ((c : Thread nD τ).loc main_arg7)) (ix3 p r j) := by
  have ht43 : t.val < 43 := lt_of_lt_of_eq t.isLt N43
  rw [FfnRef.ctx_mix]
  unfold mixA
  rw [mixF_ctx _ _ _ _ _ _ (mix_ctx t (by omega))]
  simp only [fun k => blk2 m c t r k ⟨p * 256 + r, by omega⟩ (by dsimp only; omega), fun k => blk4 m c t r k ⟨p * 256 + r, by omega⟩ (by dsimp only; omega), blk7]

/-- The first residual, normed. -/
theorem ctx_x1A (p : Fin 32) (t : Fin cfg0.N) (ht : t.val = p + 1) (r : Fin 256) (j : Fin 1024) :
    x1A m c t (ix2 r j) = val_main_v45 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (ix3 p r j) := by
  have ht43 : t.val < 43 := lt_of_lt_of_eq t.isLt N43
  rw [FfnRef.ctx_x1]
  unfold x1A
  rw [x1F_apply]
  simp only [FfnRef.ctx_res, is_ctx t (by omega), if_true, fun k => ctx_mixA m c p (pr t) (by rw [pr_val]; omega) r k, fun k => blk0 m c t r k p (by omega), fun j => rowB_apply (iblk m c 6 t) (t.val - 1) 0 (mod_ctx 0 (by omega)) j, blk6, blk10, blk11]

/-- The rows the feed-forward part takes. -/
theorem ctx_hA (p : Fin 32) (t : Fin cfg0.N) (ht : t.val = p + 1) (r : Fin 256) (j : Fin 1024) :
    hA m c t (ix2 r j) = val_main_v71 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (ix3 p r j) := by
  have ht43 : t.val < 43 := lt_of_lt_of_eq t.isLt N43
  rw [FfnRef.ctx_h]
  unfold hA
  rw [hF_apply]
  have e : ∀ k, x1F (grid0.coords t) (rowB (iblk m c 6 t) (t.val - 1)) (iblk m c 0 t) (iblk m c 1 t) (mixA m c (pr t)) (iblk m c 10 t) (iblk m c 11 t) (ix2 r k)
      = val_main_v45 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (ix3 p r k) := fun k => ctx_x1A m c p t ht r k
  simp only [e, fun j => rowB_apply (iblk m c 6 t) (t.val - 1) 0 (mod_ctx 0 (by omega)) j, blk6]

/-- The feed-forward part. -/
theorem ctx_yA (p : Fin 32) (t : Fin cfg0.N) (ht : t.val = p + 2) (r : Fin 256) (j : Fin 1024) :
    yA m c t (ix2 r j) = val_main_v79 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 p r j) := by
  have ht43 : t.val < 43 := lt_of_lt_of_eq t.isLt N43
  rw [FfnRef.ctx_ffn]
  unfold yA
  rw [yF_apply]
  simp only [fun k => ctx_hA m c p (pr t) (by rw [pr_val]; omega) r k, blk8, blk9]

/-- The first residual, kept for a point. -/
theorem ctx_xoA (p : Fin 32) (t : Fin cfg0.N) (ht : t.val = p + 2) (r : Fin 256) (j : Fin 1024) :
    xoA m c t (ix2 r j) = val_main_v45 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (ix3 p r j) := by
  have ht43 : t.val < 43 := lt_of_lt_of_eq t.isLt N43
  unfold xoA
  rw [xoF_eq]
  exact ctx_x1A m c p (pr t) (by rw [pr_val]; omega) r j

/-- The second residual, normed. -/
theorem ctx_oA (p : Fin 32) (t : Fin cfg0.N) (ht : t.val = p + 3) (r : Fin 256) (j : Fin 1024) :
    oA m c t (ix2 r j) = val_main_v111 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 p r j) := by
  have ht43 : t.val < 43 := lt_of_lt_of_eq t.isLt N43
  rw [FfnRef.ctx_ln2]
  unfold oA
  rw [normF_apply]
  simp only [FfnRef.ctx_res2, fun k => ctx_yA m c p (pr t) (by rw [pr_val]; omega) r k, fun k => ctx_xoA m c p (pr t) (by rw [pr_val]; omega) r k,
    fun j => rowB_apply (iblk m c 6 t) (t.val - 3) 0 (mod_ctx 0 (by omega)) j, blk6, blk12, blk13]

/-- The reference's context rows over the kernel's arguments. -/
abbrev ref14 : Vec Ideal S8192x1024 .f32 :=
  val_main_v112 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The mixed latent rows. -/
theorem lat_mixA (q : Fin 8) (t : Fin cfg0.N) (ht : t.val = q + 32) (r : Fin 256) (j : Fin 1024) :
    mixA m c t (ix2 r j) = val_main_v126 (F := Ideal) (m ((c : Thread nD τ).loc main_arg3)) (m ((c : Thread nD τ).loc main_arg5)) (m ((c : Thread nD τ).loc main_arg7)) (ix3 (latB q) (latR q r) j) := by
  have ht43 : t.val < 43 := lt_of_lt_of_eq t.isLt N43
  rw [FfnRef.lat_mix]
  unfold mixA
  rw [mixF_lat _ _ _ _ _ _ (mix_lat t (by omega))]
  simp only [fun k => blk3 m c t r k ⟨(latB q : ℕ) * 1024 + (latR q r : ℕ), by have := (latB q).isLt; have := (latR q r).isLt; omega⟩ (by simp only [latB, latR]; omega), fun k => blk5 m c t r k ⟨(latB q : ℕ) * 1024 + (latR q r : ℕ), by have := (latB q).isLt; have := (latR q r).isLt; omega⟩ (by simp only [latB, latR]; omega), blk7]

/-- The first residual, normed. -/
theorem lat_x1A (q : Fin 8) (t : Fin cfg0.N) (ht : t.val = q + 33) (r : Fin 256) (j : Fin 1024) :
    x1A m c t (ix2 r j) = val_main_v157 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10)) (m ((c : Thread nD τ).loc main_arg11)) (ix3 (latB q) (latR q r) j) := by
  have ht43 : t.val < 43 := lt_of_lt_of_eq t.isLt N43
  rw [FfnRef.lat_x1]
  unfold x1A
  rw [x1F_apply]
  simp only [FfnRef.lat_res, is_lat t (by omega), show ∀ a b : EReal, (if (0#1 : BitVec 1) = 1#1 then a else b) = b from fun _ _ => if_neg (by decide), fun k => lat_mixA m c q (pr t) (by rw [pr_val]; omega) r k, fun k => blk1 m c t r k (latB q) (latR q r) (by simp only [latB, latR]; omega), fun j => rowB_apply (iblk m c 6 t) (t.val - 1) (latM q) (mod_lat q (by omega)) j, blk6, blk10, blk11]
  rfl

/-- The rows the feed-forward part takes. -/
theorem lat_hA (q : Fin 8) (t : Fin cfg0.N) (ht : t.val = q + 33) (r : Fin 256) (j : Fin 1024) :
    hA m c t (ix2 r j) = val_main_v181 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10)) (m ((c : Thread nD τ).loc main_arg11)) (ix3 (latB q) (latR q r) j) := by
  have ht43 : t.val < 43 := lt_of_lt_of_eq t.isLt N43
  rw [FfnRef.lat_h]
  unfold hA
  rw [hF_apply]
  have e : ∀ k, x1F (grid0.coords t) (rowB (iblk m c 6 t) (t.val - 1)) (iblk m c 0 t) (iblk m c 1 t) (mixA m c (pr t)) (iblk m c 10 t) (iblk m c 11 t) (ix2 r k)
      = val_main_v157 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10)) (m ((c : Thread nD τ).loc main_arg11)) (ix3 (latB q) (latR q r) k) := fun k => lat_x1A m c q t ht r k
  simp only [e, fun j => rowB_apply (iblk m c 6 t) (t.val - 1) (latM q) (mod_lat q (by omega)) j, blk6]
  rfl

/-- The feed-forward part. -/
theorem lat_yA (q : Fin 8) (t : Fin cfg0.N) (ht : t.val = q + 34) (r : Fin 256) (j : Fin 1024) :
    yA m c t (ix2 r j) = val_main_v189 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (latB q) (latR q r) j) := by
  have ht43 : t.val < 43 := lt_of_lt_of_eq t.isLt N43
  rw [FfnRef.lat_ffn]
  unfold yA
  rw [yF_apply]
  simp only [fun k => lat_hA m c q (pr t) (by rw [pr_val]; omega) r k, blk8, blk9]

/-- The first residual, kept for a point. -/
theorem lat_xoA (q : Fin 8) (t : Fin cfg0.N) (ht : t.val = q + 34) (r : Fin 256) (j : Fin 1024) :
    xoA m c t (ix2 r j) = val_main_v157 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10)) (m ((c : Thread nD τ).loc main_arg11)) (ix3 (latB q) (latR q r) j) := by
  have ht43 : t.val < 43 := lt_of_lt_of_eq t.isLt N43
  unfold xoA
  rw [xoF_eq]
  exact lat_x1A m c q (pr t) (by rw [pr_val]; omega) r j

/-- The second residual, normed. -/
theorem lat_oA (q : Fin 8) (t : Fin cfg0.N) (ht : t.val = q + 35) (r : Fin 256) (j : Fin 1024) :
    oA m c t (ix2 r j) = val_main_v220 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 (latB q) (latR q r) j) := by
  have ht43 : t.val < 43 := lt_of_lt_of_eq t.isLt N43
  rw [FfnRef.lat_ln2]
  unfold oA
  rw [normF_apply]
  simp only [FfnRef.lat_res2, fun k => lat_yA m c q (pr t) (by rw [pr_val]; omega) r k, fun k => lat_xoA m c q (pr t) (by rw [pr_val]; omega) r k,
    fun j => rowB_apply (iblk m c 6 t) (t.val - 3) (latM q) (mod_lat q (by omega)) j, blk6, blk12, blk13]
  rfl

/-- The reference's latent rows over the kernel's arguments. -/
abbrev ref15 : Vec Ideal S2048x1024 .f32 :=
  val_main_v221 (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The context rows after the run are the reference's. -/
theorem final14 : (dats m 0 c).arrAt 14 (cfgs 0).N = ref14 m c := by
  refine (dats m 0 c).arrAt_eq_of_covers 14 _ (by decide +kernel) fun t hf y => ?_
  have ht43 : t.val < 43 := lt_of_lt_of_eq t.isLt N43
  have hf' := (flush14 t).mp hf
  blk_simp
  rw [after0_14]
  obtain_idx i : S8192x1024 := [min (t.val - 3) 31 * 256 + (y 0 : ℕ), (y 1 : ℕ)] with hi
  have hemb : ((cfg0.win 14).blk t).view.emb y = i := by blk_ext [idx t]
  rw [hemb]
  clear hemb
  idx_vars y
  idx_vars i
  obtain rfl : i1 = y1 := Fin.ext hi1
  have hi : (i0 : ℕ) < 8192 := i0.isLt
  have hy : (y0 : ℕ) < 256 := y0.isLt
  unfold after14 ref14
  rw [if_neg (by omega), FfnRef.ctx_flat, ctx_oA m c ⟨min (t.val - 3) 31, by omega⟩ _ (by dsimp only; omega)]
  rw [show (⟨(i0 : ℕ) / 256, by omega⟩ : Fin 32) = ⟨min (t.val - 3) 31, by omega⟩ from Fin.ext (by dsimp only; omega),
    show (⟨(i0 : ℕ) % 256, by omega⟩ : Fin 256) = y0 from Fin.ext (by dsimp only; omega)]

/-- The latent rows after the run are the reference's. -/
theorem final15 : (dats m 0 c).arrAt 15 (cfgs 0).N = ref15 m c := by
  refine (dats m 0 c).arrAt_eq_of_covers 15 _ (by decide +kernel) fun t hf y => ?_
  have ht43 : t.val < 43 := lt_of_lt_of_eq t.isLt N43
  have hf' := (flush15 t).mp hf
  blk_simp
  rw [after0_15]
  obtain_idx i : S2048x1024 := [min (t.val - 35) 7 * 256 + (y 0 : ℕ), (y 1 : ℕ)] with hi
  have hemb : ((cfg0.win 15).blk t).view.emb y = i := by blk_ext [idx t]
  rw [hemb]
  clear hemb
  idx_vars y
  idx_vars i
  obtain rfl : i1 = y1 := Fin.ext hi1
  have hi : (i0 : ℕ) < 2048 := i0.isLt
  have hy : (y0 : ℕ) < 256 := y0.isLt
  unfold after15 ref15
  rw [if_neg (by omega), FfnRef.lat_flat, lat_oA m c ⟨min (t.val - 35) 7, by omega⟩ _ (by dsimp only; omega)]
  rw [show (⟨(i0 : ℕ) / 1024, by omega⟩ : Fin 2) = latB ⟨min (t.val - 35) 7, by omega⟩ from Fin.ext (by simp only [latB]; omega),
    show (⟨(i0 : ℕ) % 1024, by omega⟩ : Fin 1024) = latR ⟨min (t.val - 35) 7, by omega⟩ y0 from Fin.ext (by simp only [latR]; omega)]

end Cert.Proof.Ffn

end
-- ==== Proof.ProjKernelIdealStage.lean ====
/- The stages of the `in_projection` kernel as functions of the vectors they read: the normed and modulated rows, the
   projected columns of the Hyena part, the projected queries, keys and values, and the output blocks the last stage writes,
   for a context block and for a latent block. The kernel computes each at two places, once where the pipeline is full and
   once where it fills or drains; the two are the same function. -/
module

public import proofs.«01_k».proof.Proof.Gen.ProjKernelIdeal.Skeleton
public import proofs.«01_k».proof.Proof.Gen.ProjKernelIdeal.Frame
public import Idealize.ShloMosaic.Lib.Pipeline.Value

@[expose] public section

noncomputable section

namespace Cert.ProjKernelIdeal.Hand

open Cert.ProjKernelIdeal Cert.ProjKernelIdeal.Gen
open Idealize.ShloMosaic Idealize.ShloMosaic.TcCoe

variable {F : FTy → Type} [FloatOps F]

/-- The two halves of the weights by columns: queries, keys and values; the Hyena part. -/
def wA (w : Vec F S1024x3072 .bf16) : Vec F S1024x1536 .bf16 :=
  View.ld w (Rect.unit (s := S1024x3072) ![0, 0] S1024x1536.size inb_S1024x3072_S1024x1536_0_0)
def wB (w : Vec F S1024x3072 .bf16) : Vec F S1024x1536 .bf16 :=
  View.ld w (Rect.unit (s := S1024x3072) ![0, 1536] S1024x1536.size inb_S1024x3072_S1024x1536_0_1536)
/-- The queries, the keys and the values of a projected block. -/
def sQ (s : Vec F S512x1536 .f32) : Vec F S512x512 .f32 :=
  View.ld s (Rect.unit (s := S512x1536) ![0, 0] S512x512.size inb_S512x1536_S512x512_0_0)
def sK (s : Vec F S512x1536 .f32) : Vec F S512x512 .f32 :=
  View.ld s (Rect.unit (s := S512x1536) ![0, 512] S512x512.size inb_S512x1536_S512x512_0_512)
def sV (s : Vec F S512x1536 .f32) : Vec F S512x512 .f32 :=
  View.ld s (Rect.unit (s := S512x1536) ![0, 1024] S512x512.size inb_S512x1536_S512x512_0_1024)
/-- The cosines and the sines of a block of the rotary table. -/
def rC (r : Vec F S512x256 .f32) : Vec F S512x128 .f32 :=
  View.ld r (Rect.unit (s := S512x256) ![0, 0] S512x128.size inb_S512x256_S512x128_0_0)
def rS (r : Vec F S512x256 .f32) : Vec F S512x128 .f32 :=
  View.ld r (Rect.unit (s := S512x256) ![0, 128] S512x128.size inb_S512x256_S512x128_0_128)
/-- The modulation table's row at an offset. -/
def rowAt (md : Vec F S8x6144 .f32) (off : Fin 2 → Nat) (h : ∀ a, off a + S1x6144.size a ≤ S8x6144.size a) :
    Vec F S1x6144 .f32 := View.ld md (Rect.unit (s := S8x6144) off S1x6144.size h)

/-- The grid coordinate as a word. -/
abbrev gp (i : grid0.Coords) : BitVec 32 := BitVec.ofNat 32 (i 0).val

/-- The rows of the block, from the context or from the latents. -/
def xF (i : grid0.Coords) (xc xl : Vec F S512x1024 .f32) : Vec F S512x1024 .f32 := k0_pay36 (gp i) xc xl
/-- Rows normed and modulated. -/
def hN (row : Vec F S1x6144 .f32) (x : Vec F S512x1024 .f32) : Vec F S512x1024 .bf16 := k0_pay38 x row
/-- The block's rows, normed and modulated. -/
def hF (i : grid0.Coords) (row : Vec F S1x6144 .f32) (xc xl : Vec F S512x1024 .f32) : Vec F S512x1024 .bf16 :=
  hN row (xF i xc xl)
/-- The Hyena part's columns. -/
def hyF (h : Vec F S512x1024 .bf16) (w : Vec F S1024x3072 .bf16) : Vec F S512x1536 .bf16 := k0_pay8 h (wB w)
/-- What the context's block of them ends holding, and the latent's. -/
def hyC (i : grid0.Coords) (h : Vec F S512x1024 .bf16) (w : Vec F S1024x3072 .bf16) (old : Vec F S512x1536 .bf16) :
    Vec F S512x1536 .bf16 := k0_pay9 i h (wB w) old
def hyL (i : grid0.Coords) (h : Vec F S512x1024 .bf16) (w : Vec F S1024x3072 .bf16) (old : Vec F S512x1536 .bf16) :
    Vec F S512x1536 .bf16 := k0_pay10 i h (wB w) old
/-- The queries, keys and values. -/
def qkvF (h : Vec F S512x1024 .bf16) (w : Vec F S1024x3072 .bf16) : Vec F S512x1536 .f32 := k0_pay11 h (wA w)

variable [∀ e, Nonempty (Elt F e)]

/-- Three blocks of 512 columns put side by side, the last first. -/
abbrev threeP (q k v : Vec F S512x512 .bf16) : List (View.Piece (Elt F) S512x1536 .bf16) :=
  [⟨Rect.unit (s := S512x1536) ![0, 1024] S512x512.size inb_S512x1536_S512x512_0_1024, v⟩,
    ⟨Rect.unit (s := S512x1536) ![0, 512] S512x512.size inb_S512x1536_S512x512_0_512, k⟩,
    ⟨Rect.unit (s := S512x1536) ![0, 0] S512x512.size inb_S512x1536_S512x512_0_0, q⟩]
def three (q k v : Vec F S512x512 .bf16) : Vec F S512x1536 .bf16 := View.canon (threeP q k v)
theorem three_cover (q k v : Vec F S512x512 .bf16) (y : S512x1536.Idx) : ∃ p ∈ threeP q k v, y ∈ p.1.set :=
  View.cover_of_tiled (threeP q k v) S512x512.size (by rfl) y
/-- The keys of two sequences, each turned to lanes, the second first. -/
abbrev twoP (a b : Vec F S1x8x64x256 .f32) : List (View.Piece (Elt F) S2x8x64x256 .f32) :=
  [⟨Rect.unit (s := S2x8x64x256) ![1, 0, 0, 0] S1x8x64x256.size inb_S2x8x64x256_S1x8x64x256_1_0_0_0, b⟩,
    ⟨Rect.unit (s := S2x8x64x256) ![0, 0, 0, 0] S1x8x64x256.size inb_S2x8x64x256_S1x8x64x256_0_0_0_0, a⟩]
def two (a b : Vec F S1x8x64x256 .f32) : Vec F S2x8x64x256 .f32 := View.canon (twoP a b)
theorem two_cover (a b : Vec F S1x8x64x256 .f32) (y : S2x8x64x256.Idx) : ∃ p ∈ twoP a b, y ∈ p.1.set :=
  View.cover_of_tiled (twoP a b) S1x8x64x256.size (by rfl) y

/-- The rotated queries, times the scale, and the rotated keys. -/
def rotQ (s : Vec F S512x1536 .f32) (r : Vec F S512x256 .f32) : FVec F S512x512 .bf16 :=
  k0_pay5 (k0_pay41 (sQ s) (rC r) (rS r))
def rotK (s : Vec F S512x1536 .f32) (r : Vec F S512x256 .f32) : FVec F S512x512 .bf16 :=
  k0_pay6 (sK s) (k0_pay39 (rC r)) (k0_pay40 (rS r)) (Scalar.select (Scalar.cmpi .eq 32#32 0#32) 1#32 32#32) k0_pay42 0#32
/-- The context's block of queries, keys and values. -/
def qcF (s : Vec F S512x1536 .f32) : Vec F S512x1536 .bf16 := three (k0_pay13 (sQ s)) (k0_pay14 (sK s)) (k0_pay15 (sV s))
/-- The latent's. -/
def qlF (s : Vec F S512x1536 .f32) (r : Vec F S512x256 .f32) : Vec F S512x1536 .bf16 :=
  three (rotQ s r) (rotK s r) (k0_pay7 (sV s))
/-- The cached keys of the block's two sequences. -/
def kcF (s : Vec F S512x1536 .f32) : Vec F S2x8x64x256 .f32 := two (k0_pay17 (sK s)) (k0_pay18 (sK s))
/-- The cached values. -/
def vcF (s : Vec F S512x1536 .f32) : Vec F S512x4x128 .f32 := k0_pay16 (sV s)

/-! ## The full pipeline's stages are the same functions -/

omit [∀ e, Nonempty (Elt F e)] in
theorem full_hC (i : grid0.Coords) (row : Vec F S1x6144 .f32) (xc xl : Vec F S512x1024 .f32) :
    k0_pay4 (k0_pay24 (k0_pay23 (gp i) xc xl) row) = hF i row xc xl := rfl
omit [∀ e, Nonempty (Elt F e)] in
theorem full_hL (i : grid0.Coords) (row : Vec F S1x6144 .f32) (xc xl : Vec F S512x1024 .f32) :
    k0_pay38 (k0_pay36 (gp i) xc xl) row = hF i row xc xl := rfl
omit [∀ e, Nonempty (Elt F e)] in
theorem fill_h (i : grid0.Coords) (row : Vec F S1x6144 .f32) (xc xl : Vec F S512x1024 .f32) :
    k0_pay12 (k0_pay43 (gp i) xc xl) (k0_pay44 row) (k0_pay45 row) (k0_pay46 (gp i) xc xl) (Scalar.ofBits .f32 0x44800000#32)
      = hF i row xc xl := rfl
omit [∀ e, Nonempty (Elt F e)] in
theorem full_hyC (i : grid0.Coords) (h : Vec F S512x1024 .bf16) (w : Vec F S1024x1536 .bf16) (old : Vec F S512x1536 .bf16) :
    k0_pay20 (gp i) h w old = k0_pay9 i h w old := rfl
omit [∀ e, Nonempty (Elt F e)] in
theorem full_hyL (i : grid0.Coords) (h : Vec F S512x1024 .bf16) (w : Vec F S1024x1536 .bf16) (old : Vec F S512x1536 .bf16) :
    k0_pay21 (gp i) h w old = k0_pay10 i h w old := rfl
omit [∀ e, Nonempty (Elt F e)] in
theorem lat_hyC (i : grid0.Coords) (h : Vec F S512x1024 .bf16) (w : Vec F S1024x1536 .bf16) (old : Vec F S512x1536 .bf16) :
    k0_pay33 (k0_pay32 h w) (Scalar.cmpi .slt (Scalar.minsi 19#32 (Scalar.maxsi 0#32 (Scalar.subi (gp i) 1#32))) 16#32) old
      = k0_pay9 i h w old := rfl
omit [∀ e, Nonempty (Elt F e)] in
theorem lat_hyL (i : grid0.Coords) (h : Vec F S512x1024 .bf16) (w : Vec F S1024x1536 .bf16) (old : Vec F S512x1536 .bf16) :
    k0_pay34 (k0_pay32 h w) (Scalar.cmpi .slt (Scalar.minsi 19#32 (Scalar.maxsi 0#32 (Scalar.subi (gp i) 1#32))) 16#32) old
      = k0_pay10 i h w old := rfl
omit [∀ e, Nonempty (Elt F e)] in
theorem full_qkvC (h : Vec F S512x1024 .bf16) (w : Vec F S1024x1536 .bf16) : k0_pay3 (k0_pay22 h w) = k0_pay11 h w := rfl
omit [∀ e, Nonempty (Elt F e)] in
theorem full_qkvL (h : Vec F S512x1024 .bf16) (w : Vec F S1024x1536 .bf16) : k0_pay37 (k0_pay35 h w) = k0_pay11 h w := rfl

end Cert.ProjKernelIdeal.Hand

end
-- ==== Proof.ProjKernelIdealBody.lean ====
/- The body of the `in_projection` kernel run once for every kind of grid point: from the windows' buffers and the scratch at
   named contents to the contents the stages of `ProjKernelIdealStage` give. -/
module

public import proofs.«01_k».proof.Proof.ProjKernelIdealStage

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- One store over a whole buffer, last, leaves its payload. -/
theorem read_whole {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero h inb y⟩), View.canon_unit_zero h]

variable (arg1 : Memref sig .tc .vmem S512x1024 .f32) (harg1 : arg1.IsWhole) (arg2 : Memref sig .tc .vmem S512x1024 .f32) (harg2 : arg2.IsWhole) (arg3 : Memref sig .tc .vmem S8x6144 .f32) (harg3 : arg3.IsWhole) (arg4 : Memref sig .tc .vmem S1024x3072 .bf16) (harg4 : arg4.IsWhole) (arg5 : Memref sig .tc .vmem S512x256 .f32) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x1536 .bf16) (harg8 : arg8.IsWhole) (arg9 : Memref sig .tc .vmem S512x1536 .bf16) (harg9 : arg9.IsWhole) (arg10 : Memref sig .tc .vmem S2x8x64x256 .f32) (harg10 : arg10.IsWhole) (arg11 : Memref sig .tc .vmem S512x4x128 .f32) (harg11 : arg11.IsWhole) (arg12 : Memref sig .tc .vmem S512x1024 .bf16) (harg12 : arg12.IsWhole) (arg13 : Memref sig .tc .vmem S512x1536 .f32) (harg13 : arg13.IsWhole)
variable (x1 : Vec F S512x1024 .f32) (x2 : Vec F S512x1024 .f32) (x3 : Vec F S8x6144 .f32) (x4 : Vec F S1024x3072 .bf16) (x5 : Vec F S512x256 .f32) (x6 : Vec F S512x1536 .bf16) (x7 : Vec F S512x1536 .bf16) (x8 : Vec F S512x1536 .bf16) (x9 : Vec F S512x1536 .bf16) (x10 : Vec F S2x8x64x256 .f32) (x11 : Vec F S512x4x128 .f32) (x12 : Vec F S512x1024 .bf16) (x13 : Vec F S512x1536 .f32)

set_option maxHeartbeats 8000000 in
/-- The body at a point where of the six conditions [1, 6] hold. -/
theorem run0 (c : Dev nD) (E : Set ℕ) (i : grid0.Coords)
    (h1 : k0_cond1 i = 1#1) (h2 : ¬k0_cond2 i = 1#1) (h3 : ¬k0_cond3 i = 1#1) (h4 : ¬k0_cond4 i = 1#1) (h5 : ¬k0_cond5 i = 1#1) (h6 : k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare (k0_pay1 (F := F))
        ∗ owns (c : Thread nD τ) arg9 fullShare (k0_pay2 (F := F))
        ∗ owns (c : Thread nD τ) arg10 fullShare x10
        ∗ owns (c : Thread nD τ) arg11 fullShare x11
        ∗ owns (c : Thread nD τ) arg12 fullShare (hF i (rowAt x3 (k0_off3 i) (k0_off3_inb i h6)) x1 x2)
        ∗ owns (c : Thread nD τ) arg13 fullShare x13) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists _; isplitr; swap; iexact H8; rotate_left
  isplitl [H9]; iexists _; isplitr; swap; iexact H9; rotate_left
  isplitl [H10]; iexists f10; isplitr; (ipureintro; rfl); iexact H10
  isplitl [H11]; iexists f11; isplitr; (ipureintro; rfl); iexact H11
  isplitl [H12]; iexists _; isplitr; swap; iexact H12; rotate_left
  iexists f13; isplitr; (ipureintro; rfl); iexact H13
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

set_option maxHeartbeats 8000000 in
/-- The body at a point where of the six conditions [5, 6] hold. -/
theorem run1 (c : Dev nD) (E : Set ℕ) (i : grid0.Coords)
    (h1 : ¬k0_cond1 i = 1#1) (h2 : ¬k0_cond2 i = 1#1) (h3 : ¬k0_cond3 i = 1#1) (h4 : ¬k0_cond4 i = 1#1) (h5 : k0_cond5 i = 1#1) (h6 : k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare (hyC i x12 x4 x8)
        ∗ owns (c : Thread nD τ) arg9 fullShare (hyL i x12 x4 x9)
        ∗ owns (c : Thread nD τ) arg10 fullShare x10
        ∗ owns (c : Thread nD τ) arg11 fullShare x11
        ∗ owns (c : Thread nD τ) arg12 fullShare (hF i (rowAt x3 (k0_off3 i) (k0_off3_inb i h6)) x1 x2)
        ∗ owns (c : Thread nD τ) arg13 fullShare (qkvF x12 x4)) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists f7; isplitr; (ipureintro; rfl); iexact H7
  isplitl [H8]; iexists _; isplitr; swap; iexact H8; rotate_left
  isplitl [H9]; iexists _; isplitr; swap; iexact H9; rotate_left
  isplitl [H10]; iexists f10; isplitr; (ipureintro; rfl); iexact H10
  isplitl [H11]; iexists f11; isplitr; (ipureintro; rfl); iexact H11
  isplitl [H12]; iexists _; isplitr; swap; iexact H12; rotate_left
  iexists _; isplitr; swap; iexact H13; rotate_left
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

set_option maxHeartbeats 8000000 in
/-- The body at a point where of the six conditions [2] hold. -/
theorem runC (c : Dev nD) (E : Set ℕ) (i : grid0.Coords)
    (h1 : ¬k0_cond1 i = 1#1) (h2 : k0_cond2 i = 1#1) (h3 : ¬k0_cond3 i = 1#1) (h4 : ¬k0_cond4 i = 1#1) (h5 : ¬k0_cond5 i = 1#1) (h6 : ¬k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (qcF x13)
        ∗ owns (c : Thread nD τ) arg7 fullShare x7
        ∗ owns (c : Thread nD τ) arg8 fullShare (hyC i x12 x4 x8)
        ∗ owns (c : Thread nD τ) arg9 fullShare (hyL i x12 x4 x9)
        ∗ owns (c : Thread nD τ) arg10 fullShare (kcF x13)
        ∗ owns (c : Thread nD τ) arg11 fullShare (vcF x13)
        ∗ owns (c : Thread nD τ) arg12 fullShare (hF i (rowAt x3 (k0_off1 i) (k0_off1_inb i h2)) x1 x2)
        ∗ owns (c : Thread nD τ) arg13 fullShare (qkvF x12 x4)) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists _; isplitr; swap; iexact H6; rotate_left
  isplitl [H7]; iexists f7; isplitr; (ipureintro; rfl); iexact H7
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  iexists _; isplitr; swap; iexact H13; rotate_left
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

set_option maxHeartbeats 8000000 in
/-- The body at a point where of the six conditions [3] hold. -/
theorem runL (c : Dev nD) (E : Set ℕ) (i : grid0.Coords)
    (h1 : ¬k0_cond1 i = 1#1) (h2 : ¬k0_cond2 i = 1#1) (h3 : k0_cond3 i = 1#1) (h4 : ¬k0_cond4 i = 1#1) (h5 : ¬k0_cond5 i = 1#1) (h6 : ¬k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (qlF x13 x5)
        ∗ owns (c : Thread nD τ) arg8 fullShare (hyC i x12 x4 x8)
        ∗ owns (c : Thread nD τ) arg9 fullShare (hyL i x12 x4 x9)
        ∗ owns (c : Thread nD τ) arg10 fullShare x10
        ∗ owns (c : Thread nD τ) arg11 fullShare x11
        ∗ owns (c : Thread nD τ) arg12 fullShare (hF i (rowAt x3 (k0_off2 i) (k0_off2_inb i h3)) x1 x2)
        ∗ owns (c : Thread nD τ) arg13 fullShare (qkvF x12 x4)) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists _; isplitr; swap; iexact H7; rotate_left
  isplitl [H8]; iexists _; isplitr; swap; iexact H8; rotate_left
  isplitl [H9]; iexists _; isplitr; swap; iexact H9; rotate_left
  isplitl [H10]; iexists f10; isplitr; (ipureintro; rfl); iexact H10
  isplitl [H11]; iexists f11; isplitr; (ipureintro; rfl); iexact H11
  isplitl [H12]; iexists _; isplitr; swap; iexact H12; rotate_left
  iexists _; isplitr; swap; iexact H13; rotate_left
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

set_option maxHeartbeats 8000000 in
/-- The body at a point where of the six conditions [4, 5] hold. -/
theorem run20 (c : Dev nD) (E : Set ℕ) (i : grid0.Coords)
    (h1 : ¬k0_cond1 i = 1#1) (h2 : ¬k0_cond2 i = 1#1) (h3 : ¬k0_cond3 i = 1#1) (h4 : k0_cond4 i = 1#1) (h5 : k0_cond5 i = 1#1) (h6 : ¬k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (qlF x13 x5)
        ∗ owns (c : Thread nD τ) arg8 fullShare (hyC i x12 x4 x8)
        ∗ owns (c : Thread nD τ) arg9 fullShare (hyL i x12 x4 x9)
        ∗ owns (c : Thread nD τ) arg10 fullShare x10
        ∗ owns (c : Thread nD τ) arg11 fullShare x11
        ∗ owns (c : Thread nD τ) arg12 fullShare x12
        ∗ owns (c : Thread nD τ) arg13 fullShare (qkvF x12 x4)) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists _; isplitr; swap; iexact H7; rotate_left
  isplitl [H8]; iexists _; isplitr; swap; iexact H8; rotate_left
  isplitl [H9]; iexists _; isplitr; swap; iexact H9; rotate_left
  isplitl [H10]; iexists f10; isplitr; (ipureintro; rfl); iexact H10
  isplitl [H11]; iexists f11; isplitr; (ipureintro; rfl); iexact H11
  isplitl [H12]; iexists f12; isplitr; (ipureintro; rfl); iexact H12
  iexists _; isplitr; swap; iexact H13; rotate_left
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

set_option maxHeartbeats 8000000 in
/-- The body at a point where of the six conditions [4] hold. -/
theorem run21 (c : Dev nD) (E : Set ℕ) (i : grid0.Coords)
    (h1 : ¬k0_cond1 i = 1#1) (h2 : ¬k0_cond2 i = 1#1) (h3 : ¬k0_cond3 i = 1#1) (h4 : k0_cond4 i = 1#1) (h5 : ¬k0_cond5 i = 1#1) (h6 : ¬k0_cond6 i = 1#1) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (qlF x13 x5)
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf1 hf2 hf3 hf4 hf5 hf6 hf7 hf8 hf9 hf10 hf11 hf12 hf13
  sl_exec (disch := first | sl_exact h1 | sl_exact h2 | sl_exact h3 | sl_exact h4 | sl_exact h5 | sl_exact h6)
  sl_step
  iapply Hk
  isplitl [H1]; iexists f1; isplitr; (ipureintro; rfl); iexact H1
  isplitl [H2]; iexists f2; isplitr; (ipureintro; rfl); iexact H2
  isplitl [H3]; iexists f3; isplitr; (ipureintro; rfl); iexact H3
  isplitl [H4]; iexists f4; isplitr; (ipureintro; rfl); iexact H4
  isplitl [H5]; iexists f5; isplitr; (ipureintro; rfl); iexact H5
  isplitl [H6]; iexists f6; isplitr; (ipureintro; rfl); iexact H6
  isplitl [H7]; iexists _; isplitr; swap; iexact H7; rotate_left
  isplitl [H8]; iexists f8; isplitr; (ipureintro; rfl); iexact H8
  isplitl [H9]; iexists f9; isplitr; (ipureintro; rfl); iexact H9
  isplitl [H10]; iexists f10; isplitr; (ipureintro; rfl); iexact H10
  isplitl [H11]; iexists f11; isplitr; (ipureintro; rfl); iexact H11
  isplitl [H12]; iexists f12; isplitr; (ipureintro; rfl); iexact H12
  iexists f13; isplitr; (ipureintro; rfl); iexact H13
  all_goals
    ipureintro
    first
    | refine (read_whole _ _ hz2 _ _).trans ?_
    | refine (read_whole _ _ hz3 _ _).trans ?_
    | refine (View.read_writes_eq_canon _ _ _ (three_cover _ _ _)).trans ?_
    | refine (View.read_writes_eq_canon _ _ _ (two_cover _ _)).trans ?_
    try sl_unfold_words
    try simp only [View.readAt_eq_ld, View.ld_unit_zero (S := S512x1024) hz2, View.ld_unit_zero (S := S512x1536) hz2]
    first
    | done
    | rfl

end Cert.ProjKernelIdeal.Hand

end
-- ==== Proof.ProjKernelIdealRun.lean ====
/- The run of the `in_projection` kernel: what its scratch and its six output blocks hold at every grid point, and the launch. -/
module

public import proofs.«01_k».proof.Proof.ProjKernelIdealBody
public import Idealize.ShloMosaic.Lib.Pipeline.Frame
public import Idealize.ShloMosaic.Lib.Claim

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The grid's facts -/

/-- The point before. -/
def pr (t : Fin cfg0.N) : Fin cfg0.N := ⟨t.val - 1, Nat.lt_of_le_of_lt (Nat.sub_le _ _) t.isLt⟩
/-- Point `t`, no later than `n`. -/
def upto (n : ℕ) (t : Fin cfg0.N) : Fin cfg0.N := ⟨min t.val n, lt_of_le_of_lt (Nat.min_le_left _ _) t.isLt⟩
theorem upto_self (n : ℕ) (t : Fin cfg0.N) (h : t.val ≤ n) : upto n t = t := Fin.ext (Nat.min_eq_left h)

/-- The modulation table's row for row block `b`: row 0 for the context, then one row for every two latent blocks. -/
def modRow (b : ℕ) : ℕ := if min b 19 < 16 then 0 else 1 + (min b 19 - 16) / 2
theorem modRow_le (b : ℕ) : modRow b ≤ 2 := by unfold modRow; split <;> omega
theorem modRow_inb (b : ℕ) : ∀ a, (![modRow b, 0] : Fin 2 → Nat) a + S1x6144.size a ≤ S8x6144.size a := by
  have := modRow_le b
  refine Fin.forall_fin_two.mpr ⟨?_, ?_⟩
  · show modRow b + 1 ≤ 8; omega
  · show 0 + 6144 ≤ 6144; omega
/-- Row block `b`'s modulation row. -/
def rowB (md : Vec F S8x6144 .f32) (b : ℕ) : Vec F S1x6144 .f32 := rowAt md ![modRow b, 0] (modRow_inb b)
theorem rowAt_eq (md : Vec F S8x6144 .f32) (b : ℕ) (off : Fin 2 → Nat) (h) (e : off = ![modRow b, 0]) :
    rowAt md off h = rowB md b := by subst e; rfl

theorem off1_ : ∀ t : Fin cfg0.N, k0_off1 (grid0.coords t) = ![modRow t.val, 0] := by decide +kernel
theorem off2_ : ∀ t : Fin cfg0.N, k0_off2 (grid0.coords t) = ![modRow t.val, 0] := by decide +kernel
theorem off3_ : ∀ t : Fin cfg0.N, k0_off3 (grid0.coords t) = ![modRow t.val, 0] := by decide +kernel

theorem cond1_iff : ∀ t : Fin cfg0.N, k0_cond1 (grid0.coords t) = 1#1 ↔ t.val = 0 := by decide +kernel
theorem cond2_iff : ∀ t : Fin cfg0.N, k0_cond2 (grid0.coords t) = 1#1 ↔ 2 ≤ t.val ∧ t.val ≤ 17 := by decide +kernel
theorem cond3_iff : ∀ t : Fin cfg0.N, k0_cond3 (grid0.coords t) = 1#1 ↔ t.val = 18 ∨ t.val = 19 := by decide +kernel
theorem cond4_iff : ∀ t : Fin cfg0.N, k0_cond4 (grid0.coords t) = 1#1 ↔ 20 ≤ t.val := by decide +kernel
theorem cond5_iff : ∀ t : Fin cfg0.N, k0_cond5 (grid0.coords t) = 1#1 ↔ t.val = 1 ∨ t.val = 20 := by decide +kernel
theorem cond6_iff : ∀ t : Fin cfg0.N, k0_cond6 (grid0.coords t) = 1#1 ↔ t.val ≤ 1 := by decide +kernel

theorem maskC : ∀ t : Fin cfg0.N, Scalar.cmpi .slt (Scalar.minsi 19#32 (Scalar.maxsi 0#32 (Scalar.subi (gp (grid0.coords t)) 1#32))) 16#32
    = if t.val ≤ 16 then 1#1 else 0#1 := by decide +kernel

theorem hyC_new (t : Fin cfg0.N) (h : t.val ≤ 16) (x : Vec F S512x1024 .bf16) (w : Vec F S1024x3072 .bf16) (old : Vec F S512x1536 .bf16) :
    hyC (grid0.coords t) x w old = hyF x w := by
  unfold hyC hyF k0_pay9
  dsimp only
  rw [show Scalar.cmpi .slt _ _ = _ from maskC t, if_pos h]
  rfl
theorem hyC_old (t : Fin cfg0.N) (h : 17 ≤ t.val) (x : Vec F S512x1024 .bf16) (w : Vec F S1024x3072 .bf16) (old : Vec F S512x1536 .bf16) :
    hyC (grid0.coords t) x w old = old := by
  unfold hyC k0_pay9
  dsimp only
  rw [show Scalar.cmpi .slt _ _ = _ from maskC t, if_neg (by omega)]
  exact shapeCast_self _ _
theorem hyL_new (t : Fin cfg0.N) (h : 17 ≤ t.val) (x : Vec F S512x1024 .bf16) (w : Vec F S1024x3072 .bf16) (old : Vec F S512x1536 .bf16) :
    hyL (grid0.coords t) x w old = hyF x w := by
  unfold hyL hyF k0_pay10
  dsimp only
  rw [show Scalar.cmpi .slt _ _ = _ from maskC t, if_neg (by omega)]
  rfl
theorem hyL_old (t : Fin cfg0.N) (h : t.val ≤ 16) (x : Vec F S512x1024 .bf16) (w : Vec F S1024x3072 .bf16) (old : Vec F S512x1536 .bf16) :
    hyL (grid0.coords t) x w old = old := by
  unfold hyL k0_pay10
  dsimp only
  rw [show Scalar.cmpi .slt _ _ = _ from maskC t, if_pos h]
  exact shapeCast_self _ _

/-! ## What the scratch holds after each point -/

def hA (c : Dev nD) (t : Fin cfg0.N) : Vec F S512x1024 .bf16 :=
  hF (grid0.coords t) (rowB (iblk m c 2 t) t.val) (iblk m c 0 t) (iblk m c 1 t)
def sA (c : Dev nD) (t : Fin cfg0.N) : Vec F S512x1536 .f32 := qkvF (hA m c (pr t)) (iblk m c 3 t)
/-- What a point stores of the Hyena part, of the context's queries, keys and values, of the latent's, and of the cache. -/
def hyA (c : Dev nD) (t : Fin cfg0.N) : Vec F S512x1536 .bf16 := hyF (hA m c (pr t)) (iblk m c 3 t)
def qcA (c : Dev nD) (t : Fin cfg0.N) : Vec F S512x1536 .bf16 := qcF (sA m c (pr t))
def qlA (c : Dev nD) (t : Fin cfg0.N) : Vec F S512x1536 .bf16 := qlF (sA m c (pr t)) (iblk m c 4 t)
def kcA (c : Dev nD) (t : Fin cfg0.N) : Vec F S2x8x64x256 .f32 := kcF (sA m c (pr t))
def vcA (c : Dev nD) (t : Fin cfg0.N) : Vec F S512x4x128 .f32 := vcF (sA m c (pr t))

/-- The scratch's contents before point `n`. -/
structure Inv (c : Dev nD) (n : ℕ) (h : Vec F S512x1024 .bf16) (s : Vec F S512x1536 .f32) : Prop where
  h : ∀ t : Fin cfg0.N, t.val + 1 = n → t.val ≤ 19 → h = hA m c t
  s : ∀ t : Fin cfg0.N, t.val + 1 = n → 1 ≤ t.val → t.val ≤ 20 → s = sA m c t

/-- The invariant: the scratch at contents `Inv` describes, the generator register at some state. -/
def Phi (c : Dev nD) (n : ℕ) : sProp 𝕄 :=
  iprop(∃ h s, ⌜Inv m c n h s⌝
    ∗ owns (c : Thread nD τ) (Memref.whole cc0_scratch0) fullShare h ∗ owns (c : Thread nD τ) (Memref.whole cc0_scratch1) fullShare s
    ∗ ∃ r, prngReg c r)

/-- The output blocks after point `t`. -/
def after5 (c : Dev nD) (t : Fin cfg0.N) : Vec F S512x1536 .bf16 := qcA m c (upto 17 t)
def after6 (c : Dev nD) (t : Fin cfg0.N) : Vec F S512x1536 .bf16 := qlA m c t
def after7 (c : Dev nD) (t : Fin cfg0.N) : Vec F S512x1536 .bf16 := if t.val < 1 then k0_pay1 else hyA m c (upto 16 t)
def after8 (c : Dev nD) (t : Fin cfg0.N) : Vec F S512x1536 .bf16 := if t.val < 17 then k0_pay2 else hyA m c (upto 20 t)
def after9 (c : Dev nD) (t : Fin cfg0.N) : Vec F S2x8x64x256 .f32 := kcA m c (upto 17 t)
def after10 (c : Dev nD) (t : Fin cfg0.N) : Vec F S512x4x128 .f32 := vcA m c (upto 17 t)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => after5 m c t
    | ⟨6, _⟩ => after6 m c t
    | ⟨7, _⟩ => after7 m c t
    | ⟨8, _⟩ => after8 m c t
    | ⟨9, _⟩ => after9 m c t
    | ⟨10, _⟩ => after10 m c t
    | ⟨_ + 11, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = after5 m c t := by dsimp only [dats]
theorem after0_6 (c : Dev nD) (t : Fin cfg0.N) : (dats m 0 c).after 6 t = after6 m c t := by dsimp only [dats]
theorem after0_7 (c : Dev nD) (t : Fin cfg0.N) : (dats m 0 c).after 7 t = after7 m c t := by dsimp only [dats]
theorem after0_8 (c : Dev nD) (t : Fin cfg0.N) : (dats m 0 c).after 8 t = after8 m c t := by dsimp only [dats]
theorem after0_9 (c : Dev nD) (t : Fin cfg0.N) : (dats m 0 c).after 9 t = after9 m c t := by dsimp only [dats]
theorem after0_10 (c : Dev nD) (t : Fin cfg0.N) : (dats m 0 c).after 10 t = after10 m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem flush5 : ∀ t : Fin cfg0.N, (cfg0.win 5).flush t = true ↔ (2 ≤ t.val ∧ t.val ≤ 16) ∨ t.val = 21 := by decide +kernel
theorem nofl5 (t : Fin cfg0.N) (h : ¬ ((2 ≤ t.val ∧ t.val ≤ 16) ∨ t.val = 21)) : (cfg0.win 5).flush t = false := by
  cases hf : (cfg0.win 5).flush t
  · rfl
  · exact absurd ((flush5 t).mp hf) h
theorem live5 : ∀ t : Fin cfg0.N, 2 ≤ t.val ∧ t.val ≤ 17 → cfg0.idle 5 (cfg0.grid.coords t) = false := by decide +kernel
theorem idle5 : ∀ t : Fin cfg0.N, ¬ (2 ≤ t.val ∧ t.val ≤ 17) → cfg0.idle 5 (cfg0.grid.coords t) = true := by decide +kernel
/-- Output 5's block at a point not after a write-back holds what the point before left. -/
theorem kept5 (c : Dev nD) (t : Fin cfg0.N) (ht : t.val ≠ 0) (hf : (cfg0.win 5).flush (pr t) = false)
    (hl : 2 ≤ (pr t).val ∧ (pr t).val ≤ 17) (d) : (dats m 0 c).before 5 t d = after5 m c (pr t) := by
  rw [(dats m 0 c).before_of_pos 5 t ht ((cfg0.win 5).fetch_out rfl t)]
  show (if (cfg0.win 5).flush (pr t) = true then d else (dats m 0 c).left 5 (pr t) d) = _
  rw [hf, if_neg Bool.false_ne_true]
  unfold Dat.left
  rw [show cfg0.idle 5 (cfg0.grid.coords (pr t)) = false from live5 (pr t) hl]
  unfold Dat.kept
  rw [Pipeline.fill_of_clip_none 5 _ (fun _ => rfl) d ((dats m 0 c).after 5 _), Pipeline.Window.fill_cut, after0_5]
/-- After a point that stores nothing in it, it holds what it held there. -/
theorem chain5 (c : Dev nD) (t : Fin cfg0.N) (ht : t.val ≠ 0) (hf : (cfg0.win 5).flush (pr t) = false)
    (hl : ¬ (2 ≤ (pr t).val ∧ (pr t).val ≤ 17)) (d) : (dats m 0 c).before 5 t d = (dats m 0 c).before 5 (pr t) d := by
  rw [(dats m 0 c).before_of_pos 5 t ht ((cfg0.win 5).fetch_out rfl t)]
  show (if (cfg0.win 5).flush (pr t) = true then d else (dats m 0 c).left 5 (pr t) d) = _
  rw [hf, if_neg Bool.false_ne_true]
  unfold Dat.left
  rw [show cfg0.idle 5 (cfg0.grid.coords (pr t)) = true from idle5 (pr t) hl]
theorem leaves5_live (c : Dev nD) (t : Fin cfg0.N) (h : 2 ≤ t.val ∧ t.val ≤ 17) :
    ((dats m 0 c).leavesExact 5 t : sProp 𝕄) = owns (c : Thread nD τ) (st0_5 t) fullShare (after5 m c t) := by
  unfold Dat.leavesExact
  rw [show cfg0.idle 5 (cfg0.grid.coords t) = false from live5 t h]
  show owns (c : Thread nD τ) (st0_5 t) fullShare ((dats m 0 c).after 5 t) = _
  rw [after0_5]
theorem leaves5_last (c : Dev nD) (t : Fin cfg0.N) (h : t.val = 21) :
    ((dats m 0 c).leavesExact 5 t : sProp 𝕄) = owns (c : Thread nD τ) (st0_5 t) fullShare (after5 m c t) := by
  unfold Dat.leavesExact
  rw [show cfg0.idle 5 (cfg0.grid.coords t) = true from idle5 t (by omega), (flush5 t).mpr (Or.inr h)]
  show owns (c : Thread nD τ) (st0_5 t) fullShare ((dats m 0 c).after 5 t) = _
  rw [after0_5]
theorem leaves5_idle (c : Dev nD) (t : Fin cfg0.N) (h : ¬ (2 ≤ t.val ∧ t.val ≤ 17)) (h' : t.val ≠ 21) :
    ((dats m 0 c).leavesExact 5 t : sProp 𝕄)
      = iprop(∃ d, owns (c : Thread nD τ) (st0_5 t) fullShare ((dats m 0 c).before 5 t d)) := by
  unfold Dat.leavesExact
  rw [show cfg0.idle 5 (cfg0.grid.coords t) = true from idle5 t h, nofl5 t (by omega)]

theorem flush6 : ∀ t : Fin cfg0.N, (cfg0.win 6).flush t = true ↔ 18 ≤ t.val := by decide +kernel
theorem nofl6 (t : Fin cfg0.N) (h : ¬ (18 ≤ t.val)) : (cfg0.win 6).flush t = false := by
  cases hf : (cfg0.win 6).flush t
  · rfl
  · exact absurd ((flush6 t).mp hf) h
theorem live6 : ∀ t : Fin cfg0.N, 18 ≤ t.val → cfg0.idle 6 (cfg0.grid.coords t) = false := by decide +kernel
theorem idle6 : ∀ t : Fin cfg0.N, ¬ (18 ≤ t.val) → cfg0.idle 6 (cfg0.grid.coords t) = true := by decide +kernel
/-- Output 6's block at a point not after a write-back holds what the point before left. -/
theorem kept6 (c : Dev nD) (t : Fin cfg0.N) (ht : t.val ≠ 0) (hf : (cfg0.win 6).flush (pr t) = false)
    (hl : 18 ≤ (pr t).val) (d) : (dats m 0 c).before 6 t d = after6 m c (pr t) := by
  rw [(dats m 0 c).before_of_pos 6 t ht ((cfg0.win 6).fetch_out rfl t)]
  show (if (cfg0.win 6).flush (pr t) = true then d else (dats m 0 c).left 6 (pr t) d) = _
  rw [hf, if_neg Bool.false_ne_true]
  unfold Dat.left
  rw [show cfg0.idle 6 (cfg0.grid.coords (pr t)) = false from live6 (pr t) hl]
  unfold Dat.kept
  rw [Pipeline.fill_of_clip_none 6 _ (fun _ => rfl) d ((dats m 0 c).after 6 _), Pipeline.Window.fill_cut, after0_6]
/-- After a point that stores nothing in it, it holds what it held there. -/
theorem chain6 (c : Dev nD) (t : Fin cfg0.N) (ht : t.val ≠ 0) (hf : (cfg0.win 6).flush (pr t) = false)
    (hl : ¬ (18 ≤ (pr t).val)) (d) : (dats m 0 c).before 6 t d = (dats m 0 c).before 6 (pr t) d := by
  rw [(dats m 0 c).before_of_pos 6 t ht ((cfg0.win 6).fetch_out rfl t)]
  show (if (cfg0.win 6).flush (pr t) = true then d else (dats m 0 c).left 6 (pr t) d) = _
  rw [hf, if_neg Bool.false_ne_true]
  unfold Dat.left
  rw [show cfg0.idle 6 (cfg0.grid.coords (pr t)) = true from idle6 (pr t) hl]
theorem leaves6_live (c : Dev nD) (t : Fin cfg0.N) (h : 18 ≤ t.val) :
    ((dats m 0 c).leavesExact 6 t : sProp 𝕄) = owns (c : Thread nD τ) (st0_6 t) fullShare (after6 m c t) := by
  unfold Dat.leavesExact
  rw [show cfg0.idle 6 (cfg0.grid.coords t) = false from live6 t h]
  show owns (c : Thread nD τ) (st0_6 t) fullShare ((dats m 0 c).after 6 t) = _
  rw [after0_6]
theorem leaves6_idle (c : Dev nD) (t : Fin cfg0.N) (h : ¬ (18 ≤ t.val)) (h' : t.val ≠ 21) :
    ((dats m 0 c).leavesExact 6 t : sProp 𝕄)
      = iprop(∃ d, owns (c : Thread nD τ) (st0_6 t) fullShare ((dats m 0 c).before 6 t d)) := by
  unfold Dat.leavesExact
  rw [show cfg0.idle 6 (cfg0.grid.coords t) = true from idle6 t h, nofl6 t (by omega)]

theorem flush7 : ∀ t : Fin cfg0.N, (cfg0.win 7).flush t = true ↔ (1 ≤ t.val ∧ t.val ≤ 15) ∨ t.val = 21 := by decide +kernel
theorem nofl7 (t : Fin cfg0.N) (h : ¬ ((1 ≤ t.val ∧ t.val ≤ 15) ∨ t.val = 21)) : (cfg0.win 7).flush t = false := by
  cases hf : (cfg0.win 7).flush t
  · rfl
  · exact absurd ((flush7 t).mp hf) h
theorem live7 : ∀ t : Fin cfg0.N, t.val ≤ 20 → cfg0.idle 7 (cfg0.grid.coords t) = false := by decide +kernel
theorem idle7 : ∀ t : Fin cfg0.N, ¬ (t.val ≤ 20) → cfg0.idle 7 (cfg0.grid.coords t) = true := by decide +kernel
/-- Output 7's block at a point not after a write-back holds what the point before left. -/
theorem kept7 (c : Dev nD) (t : Fin cfg0.N) (ht : t.val ≠ 0) (hf : (cfg0.win 7).flush (pr t) = false)
    (hl : (pr t).val ≤ 20) (d) : (dats m 0 c).before 7 t d = after7 m c (pr t) := by
  rw [(dats m 0 c).before_of_pos 7 t ht ((cfg0.win 7).fetch_out rfl t)]
  show (if (cfg0.win 7).flush (pr t) = true then d else (dats m 0 c).left 7 (pr t) d) = _
  rw [hf, if_neg Bool.false_ne_true]
  unfold Dat.left
  rw [show cfg0.idle 7 (cfg0.grid.coords (pr t)) = false from live7 (pr t) hl]
  unfold Dat.kept
  rw [Pipeline.fill_of_clip_none 7 _ (fun _ => rfl) d ((dats m 0 c).after 7 _), Pipeline.Window.fill_cut, after0_7]
/-- After a point that stores nothing in it, it holds what it held there. -/
theorem chain7 (c : Dev nD) (t : Fin cfg0.N) (ht : t.val ≠ 0) (hf : (cfg0.win 7).flush (pr t) = false)
    (hl : ¬ ((pr t).val ≤ 20)) (d) : (dats m 0 c).before 7 t d = (dats m 0 c).before 7 (pr t) d := by
  rw [(dats m 0 c).before_of_pos 7 t ht ((cfg0.win 7).fetch_out rfl t)]
  show (if (cfg0.win 7).flush (pr t) = true then d else (dats m 0 c).left 7 (pr t) d) = _
  rw [hf, if_neg Bool.false_ne_true]
  unfold Dat.left
  rw [show cfg0.idle 7 (cfg0.grid.coords (pr t)) = true from idle7 (pr t) hl]
theorem leaves7_live (c : Dev nD) (t : Fin cfg0.N) (h : t.val ≤ 20) :
    ((dats m 0 c).leavesExact 7 t : sProp 𝕄) = owns (c : Thread nD τ) (st0_7 t) fullShare (after7 m c t) := by
  unfold Dat.leavesExact
  rw [show cfg0.idle 7 (cfg0.grid.coords t) = false from live7 t h]
  show owns (c : Thread nD τ) (st0_7 t) fullShare ((dats m 0 c).after 7 t) = _
  rw [after0_7]
theorem leaves7_last (c : Dev nD) (t : Fin cfg0.N) (h : t.val = 21) :
    ((dats m 0 c).leavesExact 7 t : sProp 𝕄) = owns (c : Thread nD τ) (st0_7 t) fullShare (after7 m c t) := by
  unfold Dat.leavesExact
  rw [show cfg0.idle 7 (cfg0.grid.coords t) = true from idle7 t (by omega), (flush7 t).mpr (Or.inr h)]
  show owns (c : Thread nD τ) (st0_7 t) fullShare ((dats m 0 c).after 7 t) = _
  rw [after0_7]

theorem flush8 : ∀ t : Fin cfg0.N, (cfg0.win 8).flush t = true ↔ (17 ≤ t.val ∧ t.val ≤ 19) ∨ t.val = 21 := by decide +kernel
theorem nofl8 (t : Fin cfg0.N) (h : ¬ ((17 ≤ t.val ∧ t.val ≤ 19) ∨ t.val = 21)) : (cfg0.win 8).flush t = false := by
  cases hf : (cfg0.win 8).flush t
  · rfl
  · exact absurd ((flush8 t).mp hf) h
theorem live8 : ∀ t : Fin cfg0.N, t.val ≤ 20 → cfg0.idle 8 (cfg0.grid.coords t) = false := by decide +kernel
theorem idle8 : ∀ t : Fin cfg0.N, ¬ (t.val ≤ 20) → cfg0.idle 8 (cfg0.grid.coords t) = true := by decide +kernel
/-- Output 8's block at a point not after a write-back holds what the point before left. -/
theorem kept8 (c : Dev nD) (t : Fin cfg0.N) (ht : t.val ≠ 0) (hf : (cfg0.win 8).flush (pr t) = false)
    (hl : (pr t).val ≤ 20) (d) : (dats m 0 c).before 8 t d = after8 m c (pr t) := by
  rw [(dats m 0 c).before_of_pos 8 t ht ((cfg0.win 8).fetch_out rfl t)]
  show (if (cfg0.win 8).flush (pr t) = true then d else (dats m 0 c).left 8 (pr t) d) = _
  rw [hf, if_neg Bool.false_ne_true]
  unfold Dat.left
  rw [show cfg0.idle 8 (cfg0.grid.coords (pr t)) = false from live8 (pr t) hl]
  unfold Dat.kept
  rw [Pipeline.fill_of_clip_none 8 _ (fun _ => rfl) d ((dats m 0 c).after 8 _), Pipeline.Window.fill_cut, after0_8]
/-- After a point that stores nothing in it, it holds what it held there. -/
theorem chain8 (c : Dev nD) (t : Fin cfg0.N) (ht : t.val ≠ 0) (hf : (cfg0.win 8).flush (pr t) = false)
    (hl : ¬ ((pr t).val ≤ 20)) (d) : (dats m 0 c).before 8 t d = (dats m 0 c).before 8 (pr t) d := by
  rw [(dats m 0 c).before_of_pos 8 t ht ((cfg0.win 8).fetch_out rfl t)]
  show (if (cfg0.win 8).flush (pr t) = true then d else (dats m 0 c).left 8 (pr t) d) = _
  rw [hf, if_neg Bool.false_ne_true]
  unfold Dat.left
  rw [show cfg0.idle 8 (cfg0.grid.coords (pr t)) = true from idle8 (pr t) hl]
theorem leaves8_live (c : Dev nD) (t : Fin cfg0.N) (h : t.val ≤ 20) :
    ((dats m 0 c).leavesExact 8 t : sProp 𝕄) = owns (c : Thread nD τ) (st0_8 t) fullShare (after8 m c t) := by
  unfold Dat.leavesExact
  rw [show cfg0.idle 8 (cfg0.grid.coords t) = false from live8 t h]
  show owns (c : Thread nD τ) (st0_8 t) fullShare ((dats m 0 c).after 8 t) = _
  rw [after0_8]
theorem leaves8_last (c : Dev nD) (t : Fin cfg0.N) (h : t.val = 21) :
    ((dats m 0 c).leavesExact 8 t : sProp 𝕄) = owns (c : Thread nD τ) (st0_8 t) fullShare (after8 m c t) := by
  unfold Dat.leavesExact
  rw [show cfg0.idle 8 (cfg0.grid.coords t) = true from idle8 t (by omega), (flush8 t).mpr (Or.inr h)]
  show owns (c : Thread nD τ) (st0_8 t) fullShare ((dats m 0 c).after 8 t) = _
  rw [after0_8]

theorem flush9 : ∀ t : Fin cfg0.N, (cfg0.win 9).flush t = true ↔ (2 ≤ t.val ∧ t.val ≤ 16) ∨ t.val = 21 := by decide +kernel
theorem nofl9 (t : Fin cfg0.N) (h : ¬ ((2 ≤ t.val ∧ t.val ≤ 16) ∨ t.val = 21)) : (cfg0.win 9).flush t = false := by
  cases hf : (cfg0.win 9).flush t
  · rfl
  · exact absurd ((flush9 t).mp hf) h
theorem live9 : ∀ t : Fin cfg0.N, 2 ≤ t.val ∧ t.val ≤ 17 → cfg0.idle 9 (cfg0.grid.coords t) = false := by decide +kernel
theorem idle9 : ∀ t : Fin cfg0.N, ¬ (2 ≤ t.val ∧ t.val ≤ 17) → cfg0.idle 9 (cfg0.grid.coords t) = true := by decide +kernel
/-- Output 9's block at a point not after a write-back holds what the point before left. -/
theorem kept9 (c : Dev nD) (t : Fin cfg0.N) (ht : t.val ≠ 0) (hf : (cfg0.win 9).flush (pr t) = false)
    (hl : 2 ≤ (pr t).val ∧ (pr t).val ≤ 17) (d) : (dats m 0 c).before 9 t d = after9 m c (pr t) := by
  rw [(dats m 0 c).before_of_pos 9 t ht ((cfg0.win 9).fetch_out rfl t)]
  show (if (cfg0.win 9).flush (pr t) = true then d else (dats m 0 c).left 9 (pr t) d) = _
  rw [hf, if_neg Bool.false_ne_true]
  unfold Dat.left
  rw [show cfg0.idle 9 (cfg0.grid.coords (pr t)) = false from live9 (pr t) hl]
  unfold Dat.kept
  rw [Pipeline.fill_of_clip_none 9 _ (fun _ => rfl) d ((dats m 0 c).after 9 _), Pipeline.Window.fill_cut, after0_9]
/-- After a point that stores nothing in it, it holds what it held there. -/
theorem chain9 (c : Dev nD) (t : Fin cfg0.N) (ht : t.val ≠ 0) (hf : (cfg0.win 9).flush (pr t) = false)
    (hl : ¬ (2 ≤ (pr t).val ∧ (pr t).val ≤ 17)) (d) : (dats m 0 c).before 9 t d = (dats m 0 c).before 9 (pr t) d := by
  rw [(dats m 0 c).before_of_pos 9 t ht ((cfg0.win 9).fetch_out rfl t)]
  show (if (cfg0.win 9).flush (pr t) = true then d else (dats m 0 c).left 9 (pr t) d) = _
  rw [hf, if_neg Bool.false_ne_true]
  unfold Dat.left
  rw [show cfg0.idle 9 (cfg0.grid.coords (pr t)) = true from idle9 (pr t) hl]
theorem leaves9_live (c : Dev nD) (t : Fin cfg0.N) (h : 2 ≤ t.val ∧ t.val ≤ 17) :
    ((dats m 0 c).leavesExact 9 t : sProp 𝕄) = owns (c : Thread nD τ) (st0_9 t) fullShare (after9 m c t) := by
  unfold Dat.leavesExact
  rw [show cfg0.idle 9 (cfg0.grid.coords t) = false from live9 t h]
  show owns (c : Thread nD τ) (st0_9 t) fullShare ((dats m 0 c).after 9 t) = _
  rw [after0_9]
theorem leaves9_last (c : Dev nD) (t : Fin cfg0.N) (h : t.val = 21) :
    ((dats m 0 c).leavesExact 9 t : sProp 𝕄) = owns (c : Thread nD τ) (st0_9 t) fullShare (after9 m c t) := by
  unfold Dat.leavesExact
  rw [show cfg0.idle 9 (cfg0.grid.coords t) = true from idle9 t (by omega), (flush9 t).mpr (Or.inr h)]
  show owns (c : Thread nD τ) (st0_9 t) fullShare ((dats m 0 c).after 9 t) = _
  rw [after0_9]
theorem leaves9_idle (c : Dev nD) (t : Fin cfg0.N) (h : ¬ (2 ≤ t.val ∧ t.val ≤ 17)) (h' : t.val ≠ 21) :
    ((dats m 0 c).leavesExact 9 t : sProp 𝕄)
      = iprop(∃ d, owns (c : Thread nD τ) (st0_9 t) fullShare ((dats m 0 c).before 9 t d)) := by
  unfold Dat.leavesExact
  rw [show cfg0.idle 9 (cfg0.grid.coords t) = true from idle9 t h, nofl9 t (by omega)]

theorem flush10 : ∀ t : Fin cfg0.N, (cfg0.win 10).flush t = true ↔ (2 ≤ t.val ∧ t.val ≤ 16) ∨ t.val = 21 := by decide +kernel
theorem nofl10 (t : Fin cfg0.N) (h : ¬ ((2 ≤ t.val ∧ t.val ≤ 16) ∨ t.val = 21)) : (cfg0.win 10).flush t = false := by
  cases hf : (cfg0.win 10).flush t
  · rfl
  · exact absurd ((flush10 t).mp hf) h
theorem live10 : ∀ t : Fin cfg0.N, 2 ≤ t.val ∧ t.val ≤ 17 → cfg0.idle 10 (cfg0.grid.coords t) = false := by decide +kernel
theorem idle10 : ∀ t : Fin cfg0.N, ¬ (2 ≤ t.val ∧ t.val ≤ 17) → cfg0.idle 10 (cfg0.grid.coords t) = true := by decide +kernel
/-- Output 10's block at a point not after a write-back holds what the point before left. -/
theorem kept10 (c : Dev nD) (t : Fin cfg0.N) (ht : t.val ≠ 0) (hf : (cfg0.win 10).flush (pr t) = false)
    (hl : 2 ≤ (pr t).val ∧ (pr t).val ≤ 17) (d) : (dats m 0 c).before 10 t d = after10 m c (pr t) := by
  rw [(dats m 0 c).before_of_pos 10 t ht ((cfg0.win 10).fetch_out rfl t)]
  show (if (cfg0.win 10).flush (pr t) = true then d else (dats m 0 c).left 10 (pr t) d) = _
  rw [hf, if_neg Bool.false_ne_true]
  unfold Dat.left
  rw [show cfg0.idle 10 (cfg0.grid.coords (pr t)) = false from live10 (pr t) hl]
  unfold Dat.kept
  rw [Pipeline.fill_of_clip_none 10 _ (fun _ => rfl) d ((dats m 0 c).after 10 _), Pipeline.Window.fill_cut, after0_10]
/-- After a point that stores nothing in it, it holds what it held there. -/
theorem chain10 (c : Dev nD) (t : Fin cfg0.N) (ht : t.val ≠ 0) (hf : (cfg0.win 10).flush (pr t) = false)
    (hl : ¬ (2 ≤ (pr t).val ∧ (pr t).val ≤ 17)) (d) : (dats m 0 c).before 10 t d = (dats m 0 c).before 10 (pr t) d := by
  rw [(dats m 0 c).before_of_pos 10 t ht ((cfg0.win 10).fetch_out rfl t)]
  show (if (cfg0.win 10).flush (pr t) = true then d else (dats m 0 c).left 10 (pr t) d) = _
  rw [hf, if_neg Bool.false_ne_true]
  unfold Dat.left
  rw [show cfg0.idle 10 (cfg0.grid.coords (pr t)) = true from idle10 (pr t) hl]
theorem leaves10_live (c : Dev nD) (t : Fin cfg0.N) (h : 2 ≤ t.val ∧ t.val ≤ 17) :
    ((dats m 0 c).leavesExact 10 t : sProp 𝕄) = owns (c : Thread nD τ) (st0_10 t) fullShare (after10 m c t) := by
  unfold Dat.leavesExact
  rw [show cfg0.idle 10 (cfg0.grid.coords t) = false from live10 t h]
  show owns (c : Thread nD τ) (st0_10 t) fullShare ((dats m 0 c).after 10 t) = _
  rw [after0_10]
theorem leaves10_last (c : Dev nD) (t : Fin cfg0.N) (h : t.val = 21) :
    ((dats m 0 c).leavesExact 10 t : sProp 𝕄) = owns (c : Thread nD τ) (st0_10 t) fullShare (after10 m c t) := by
  unfold Dat.leavesExact
  rw [show cfg0.idle 10 (cfg0.grid.coords t) = true from idle10 t (by omega), (flush10 t).mpr (Or.inr h)]
  show owns (c : Thread nD τ) (st0_10 t) fullShare ((dats m 0 c).after 10 t) = _
  rw [after0_10]
theorem leaves10_idle (c : Dev nD) (t : Fin cfg0.N) (h : ¬ (2 ≤ t.val ∧ t.val ≤ 17)) (h' : t.val ≠ 21) :
    ((dats m 0 c).leavesExact 10 t : sProp 𝕄)
      = iprop(∃ d, owns (c : Thread nD τ) (st0_10 t) fullShare ((dats m 0 c).before 10 t d)) := by
  unfold Dat.leavesExact
  rw [show cfg0.idle 10 (cfg0.grid.coords t) = true from idle10 t h, nofl10 t (by omega)]

theorem N22 : cfg0.N = 22 := by decide
theorem pr_val (t : Fin cfg0.N) : (pr t).val = t.val - 1 := rfl

theorem last5 (c : Dev nD) (t : Fin cfg0.N) (h : t.val = 21) (d) : (dats m 0 c).before 5 t d = after5 m c t := by
  rw [chain5 m c t (by omega) (nofl5 _ (by rw [pr_val]; omega)) (by rw [pr_val]; omega),
    chain5 m c (pr t) (by rw [pr_val]; omega) (nofl5 _ (by simp only [pr_val]; omega)) (by simp only [pr_val]; omega),
    chain5 m c (pr (pr t)) (by simp only [pr_val]; omega) (nofl5 _ (by simp only [pr_val]; omega)) (by simp only [pr_val]; omega),
    kept5 m c (pr (pr (pr t))) (by simp only [pr_val]; omega) (nofl5 _ (by simp only [pr_val]; omega)) (by simp only [pr_val]; omega)]
  unfold after5
  rw [show upto 17 (pr (pr (pr (pr t)))) = upto 17 t from Fin.ext (by show min (t.val - 1 - 1 - 1 - 1) 17 = min t.val 17; omega)]

theorem last9 (c : Dev nD) (t : Fin cfg0.N) (h : t.val = 21) (d) : (dats m 0 c).before 9 t d = after9 m c t := by
  rw [chain9 m c t (by omega) (nofl9 _ (by rw [pr_val]; omega)) (by rw [pr_val]; omega),
    chain9 m c (pr t) (by rw [pr_val]; omega) (nofl9 _ (by simp only [pr_val]; omega)) (by simp only [pr_val]; omega),
    chain9 m c (pr (pr t)) (by simp only [pr_val]; omega) (nofl9 _ (by simp only [pr_val]; omega)) (by simp only [pr_val]; omega),
    kept9 m c (pr (pr (pr t))) (by simp only [pr_val]; omega) (nofl9 _ (by simp only [pr_val]; omega)) (by simp only [pr_val]; omega)]
  unfold after9
  rw [show upto 17 (pr (pr (pr (pr t)))) = upto 17 t from Fin.ext (by show min (t.val - 1 - 1 - 1 - 1) 17 = min t.val 17; omega)]

theorem last10 (c : Dev nD) (t : Fin cfg0.N) (h : t.val = 21) (d) : (dats m 0 c).before 10 t d = after10 m c t := by
  rw [chain10 m c t (by omega) (nofl10 _ (by rw [pr_val]; omega)) (by rw [pr_val]; omega),
    chain10 m c (pr t) (by rw [pr_val]; omega) (nofl10 _ (by simp only [pr_val]; omega)) (by simp only [pr_val]; omega),
    chain10 m c (pr (pr t)) (by simp only [pr_val]; omega) (nofl10 _ (by simp only [pr_val]; omega)) (by simp only [pr_val]; omega),
    kept10 m c (pr (pr (pr t))) (by simp only [pr_val]; omega) (nofl10 _ (by simp only [pr_val]; omega)) (by simp only [pr_val]; omega)]
  unfold after10
  rw [show upto 17 (pr (pr (pr (pr t)))) = upto 17 t from Fin.ext (by show min (t.val - 1 - 1 - 1 - 1) 17 = min t.val 17; omega)]

theorem late7 (c : Dev nD) (t : Fin cfg0.N) (h : 17 ≤ t.val) (d) : (dats m 0 c).before 7 t d = after7 m c t := by
  have := t.isLt; have := N22
  rw [kept7 m c t (by omega) (nofl7 _ (by rw [pr_val]; omega)) (by rw [pr_val]; omega)]
  unfold after7; rw [if_neg (by rw [pr_val]; omega), if_neg (by omega)]
  rw [show upto 16 (pr t) = upto 16 t from Fin.ext (by show min (t.val - 1) 16 = min t.val 16; omega)]
theorem early8 (c : Dev nD) (t : Fin cfg0.N) (h0 : 1 ≤ t.val) (h : t.val ≤ 16) (d) : (dats m 0 c).before 8 t d = after8 m c t := by
  rw [kept8 m c t (by omega) (nofl8 _ (by rw [pr_val]; omega)) (by rw [pr_val]; omega)]
  unfold after8; rw [if_pos (by rw [pr_val]; omega), if_pos (by omega)]
theorem last8 (c : Dev nD) (t : Fin cfg0.N) (h : t.val = 21) (d) : (dats m 0 c).before 8 t d = after8 m c t := by
  rw [kept8 m c t (by omega) (nofl8 _ (by rw [pr_val]; omega)) (by rw [pr_val]; omega)]
  unfold after8; rw [if_neg (by rw [pr_val]; omega), if_neg (by omega)]
  rw [show upto 20 (pr t) = upto 20 t from Fin.ext (by show min (t.val - 1) 20 = min t.val 20; omega)]

/-- The Hyena part's blocks after a point of the second stage. -/
theorem step7 (c : Dev nD) (t : Fin cfg0.N) (h0 : 1 ≤ t.val) (d) :
    hyC (grid0.coords t) (hA m c (pr t)) (iblk m c 3 t) ((dats m 0 c).before 7 t d) = after7 m c t := by
  by_cases h : t.val ≤ 16
  · rw [hyC_new t h]
    unfold after7; rw [if_neg (by omega), upto_self 16 t h]; rfl
  · rw [hyC_old t (by omega), late7 m c t (by omega)]
theorem step8 (c : Dev nD) (t : Fin cfg0.N) (h0 : 1 ≤ t.val) (h1 : t.val ≤ 20) (d) :
    hyL (grid0.coords t) (hA m c (pr t)) (iblk m c 3 t) ((dats m 0 c).before 8 t d) = after8 m c t := by
  by_cases h : t.val ≤ 16
  · rw [hyL_old t h, early8 m c t h0 h]
  · rw [hyL_new t (by omega)]
    unfold after8; rw [if_neg (by omega), upto_self 20 t h1]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

set_option maxHeartbeats 4000000 in
theorem sound_run0 (c : Dev nD) (t : Fin cfg0.N) (ht : t.val = 0) :
    bodyPre m c t ⊢ wp frame (wpE (defs₀ (F := F)) Variants.none c none) Set.univ (bodyAt0 t) (fun _ => bodyPost m c t) := by
  have hN := N22
  have hlt := t.isLt
  have h1 : k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : ¬k0_cond4 (grid0.coords t) = 1#1 := by rw [cond4_iff]; omega
  have h5 : ¬k0_cond5 (grid0.coords t) = 1#1 := by rw [cond5_iff]; omega
  have h6 : k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_idle m c t (by omega) (by omega), leaves6_idle m c t (by omega) (by omega), leaves7_live m c t (by omega), leaves8_live m c t (by omega), leaves9_idle m c t (by omega) (by omega), leaves10_idle m c t (by omega) (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run0 _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; rw [rowAt_eq _ _ _ _ (off3_ s)]; rfl
    · intro _ _; omega
  isplitl [Ho]; · iexact Ho
  isplitl [H0]; · iexact H0
  isplitl [H1]; · iexact H1
  isplitl [H2]; · iexact H2
  isplitl [H3]; · iexact H3
  isplitl [H4]; · iexact H4
  rw [show after7 m c t = k0_pay1 from if_pos (by omega), show after8 m c t = k0_pay2 from if_pos (by omega)]
  isplitl [H5]
  · iexists d5; iexact H5
  isplitl [H6]
  · iexists d6; iexact H6
  isplitl [H7]
  · iexact H7
  isplitl [H8]
  · iexact H8
  isplitl [H9]
  · iexists d9; iexact H9
  iexists d10; iexact H10

set_option maxHeartbeats 4000000 in
theorem sound_run1 (c : Dev nD) (t : Fin cfg0.N) (ht : t.val = 1) :
    bodyPre m c t ⊢ wp frame (wpE (defs₀ (F := F)) Variants.none c none) Set.univ (bodyAt0 t) (fun _ => bodyPost m c t) := by
  have hN := N22
  have hlt := t.isLt
  have h1 : ¬k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : ¬k0_cond4 (grid0.coords t) = 1#1 := by rw [cond4_iff]; omega
  have h5 : k0_cond5 (grid0.coords t) = 1#1 := by rw [cond5_iff]; omega
  have h6 : k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_idle m c t (by omega) (by omega), leaves6_idle m c t (by omega) (by omega), leaves7_live m c t (by omega), leaves8_live m c t (by omega), leaves9_idle m c t (by omega) (by omega), leaves10_idle m c t (by omega) (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; rw [rowAt_eq _ _ _ _ (off3_ s)]; rfl
    · intro _ _; rw [hI.h (pr s) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  have e7 := step7 m c t (by omega) d7
  have e8 := step8 m c t (by omega) (by omega) d8
  rw [hI.h (pr t) (by rw [pr_val]; omega) (by rw [pr_val]; omega)]
  rw [e7, e8]
  isplitl [H5]
  · iexists d5; iexact H5
  isplitl [H6]
  · iexists d6; iexact H6
  isplitl [H7]
  · iexact H7
  isplitl [H8]
  · iexact H8
  isplitl [H9]
  · iexists d9; iexact H9
  iexists d10; iexact H10

set_option maxHeartbeats 4000000 in
theorem sound_runC (c : Dev nD) (t : Fin cfg0.N) (ht : 2 ≤ t.val ∧ t.val ≤ 17) :
    bodyPre m c t ⊢ wp frame (wpE (defs₀ (F := F)) Variants.none c none) Set.univ (bodyAt0 t) (fun _ => bodyPost m c t) := by
  have hN := N22
  have hlt := t.isLt
  have h1 : ¬k0_cond1 (grid0.coords t) = 1#1 := by rw [cond1_iff]; omega
  have h2 : k0_cond2 (grid0.coords t) = 1#1 := by rw [cond2_iff]; omega
  have h3 : ¬k0_cond3 (grid0.coords t) = 1#1 := by rw [cond3_iff]; omega
  have h4 : ¬k0_cond4 (grid0.coords t) = 1#1 := by rw [cond4_iff]; omega
  have h5 : ¬k0_cond5 (grid0.coords t) = 1#1 := by rw [cond5_iff]; omega
  have h6 : ¬k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_live m c t (by omega), leaves6_idle m c t (by omega) (by omega), leaves7_live m c t (by omega), leaves8_live m c t (by omega), leaves9_live m c t (by omega), leaves10_live m c t (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runC _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; rw [rowAt_eq _ _ _ _ (off1_ s)]; rfl
    · intro _ _; rw [hI.h (pr s) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  have e7 := step7 m c t (by omega) d7
  have e8 := step8 m c t (by omega) (by omega) d8
  rw [hI.s (pr t) (by rw [pr_val]; omega) (by rw [pr_val]; omega) (by rw [pr_val]; omega), hI.h (pr t) (by rw [pr_val]; omega) (by rw [pr_val]; omega)]
  rw [e7, e8]
  rw [show after5 m c t = qcF (sA m c (pr t)) from by unfold after5; rw [upto_self 17 t (by omega)]; rfl]
  rw [show after9 m c t = kcF (sA m c (pr t)) from by unfold after9; rw [upto_self 17 t (by omega)]; rfl]
  rw [show after10 m c t = vcF (sA m c (pr t)) from by unfold after10; rw [upto_self 17 t (by omega)]; rfl]
  isplitl [H5]
  · iexact H5
  isplitl [H6]
  · iexists d6; iexact H6
  isplitl [H7]
  · iexact H7
  isplitl [H8]
  · iexact H8
  isplitl [H9]
  · iexact H9
  iexact H10

set_option maxHeartbeats 4000000 in
theorem sound_runL (c : Dev nD) (t : Fin cfg0.N) (ht : t.val = 18 ∨ t.val = 19) :
    bodyPre m c t ⊢ wp frame (wpE (defs₀ (F := F)) Variants.none c none) Set.univ (bodyAt0 t) (fun _ => bodyPost m c t) := by
  have hN := N22
  have hlt := t.isLt
  have h1 : ¬k0_cond1 (grid0.coords t) = 1#1 := by rw [cond1_iff]; omega
  have h2 : ¬k0_cond2 (grid0.coords t) = 1#1 := by rw [cond2_iff]; omega
  have h3 : k0_cond3 (grid0.coords t) = 1#1 := by rw [cond3_iff]; omega
  have h4 : ¬k0_cond4 (grid0.coords t) = 1#1 := by rw [cond4_iff]; omega
  have h5 : ¬k0_cond5 (grid0.coords t) = 1#1 := by rw [cond5_iff]; omega
  have h6 : ¬k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_idle m c t (by omega) (by omega), leaves6_live m c t (by omega), leaves7_live m c t (by omega), leaves8_live m c t (by omega), leaves9_idle m c t (by omega) (by omega), leaves10_idle m c t (by omega) (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runL _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; rw [rowAt_eq _ _ _ _ (off2_ s)]; rfl
    · intro _ _; rw [hI.h (pr s) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  have e7 := step7 m c t (by omega) d7
  have e8 := step8 m c t (by omega) (by omega) d8
  rw [hI.s (pr t) (by rw [pr_val]; omega) (by rw [pr_val]; omega) (by rw [pr_val]; omega), hI.h (pr t) (by rw [pr_val]; omega) (by rw [pr_val]; omega)]
  rw [e7, e8]
  isplitl [H5]
  · iexists d5; iexact H5
  isplitl [H6]
  · iexact H6
  isplitl [H7]
  · iexact H7
  isplitl [H8]
  · iexact H8
  isplitl [H9]
  · iexists d9; iexact H9
  iexists d10; iexact H10

set_option maxHeartbeats 4000000 in
theorem sound_run20 (c : Dev nD) (t : Fin cfg0.N) (ht : t.val = 20) :
    bodyPre m c t ⊢ wp frame (wpE (defs₀ (F := F)) Variants.none c none) Set.univ (bodyAt0 t) (fun _ => bodyPost m c t) := by
  have hN := N22
  have hlt := t.isLt
  have h1 : ¬k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : k0_cond4 (grid0.coords t) = 1#1 := by rw [cond4_iff]; omega
  have h5 : k0_cond5 (grid0.coords t) = 1#1 := by rw [cond5_iff]; omega
  have h6 : ¬k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_idle m c t (by omega) (by omega), leaves6_live m c t (by omega), leaves7_live m c t (by omega), leaves8_live m c t (by omega), leaves9_idle m c t (by omega) (by omega), leaves10_idle m c t (by omega) (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run20 _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; omega
    · intro _ _; rw [hI.h (pr s) (by rw [pr_val]; omega) (by rw [pr_val]; omega)]; rfl
  isplitl [Ho]; · iexact Ho
  isplitl [H0]; · iexact H0
  isplitl [H1]; · iexact H1
  isplitl [H2]; · iexact H2
  isplitl [H3]; · iexact H3
  isplitl [H4]; · iexact H4
  have e7 := step7 m c t (by omega) d7
  have e8 := step8 m c t (by omega) (by omega) d8
  rw [hI.s (pr t) (by rw [pr_val]; omega) (by rw [pr_val]; omega) (by rw [pr_val]; omega), hI.h (pr t) (by rw [pr_val]; omega) (by rw [pr_val]; omega)]
  rw [e7, e8]
  isplitl [H5]
  · iexists d5; iexact H5
  isplitl [H6]
  · iexact H6
  isplitl [H7]
  · iexact H7
  isplitl [H8]
  · iexact H8
  isplitl [H9]
  · iexists d9; iexact H9
  iexists d10; iexact H10

set_option maxHeartbeats 4000000 in
theorem sound_run21 (c : Dev nD) (t : Fin cfg0.N) (ht : t.val = 21) :
    bodyPre m c t ⊢ wp frame (wpE (defs₀ (F := F)) Variants.none c none) Set.univ (bodyAt0 t) (fun _ => bodyPost m c t) := by
  have hN := N22
  have hlt := t.isLt
  have h1 : ¬k0_cond1 (grid0.coords t) = 1#1 := by rw [cond1_iff]; omega
  have h2 : ¬k0_cond2 (grid0.coords t) = 1#1 := by rw [cond2_iff]; omega
  have h3 : ¬k0_cond3 (grid0.coords t) = 1#1 := by rw [cond3_iff]; omega
  have h4 : k0_cond4 (grid0.coords t) = 1#1 := by rw [cond4_iff]; omega
  have h5 : ¬k0_cond5 (grid0.coords t) = 1#1 := by rw [cond5_iff]; omega
  have h6 : ¬k0_cond6 (grid0.coords t) = 1#1 := by rw [cond6_iff]; omega
  unfold bodyPre bodyPost bodyAt0
  simp only [before0_0, before0_1, before0_2, before0_3, before0_4]
  rw [show (dats m 0 c).Φ t.succ = Phi m c (t.val + 1) from rfl,
    show (dats m 0 c).Φ t.castSucc = Phi m c t.val from rfl,
    show (dats m 0 c).owesAt () t.succ = (dats m 0 c).owesAt () t.castSucc from rfl,
    after0_0, after0_1, after0_2, after0_3, after0_4, leaves5_last m c t (by omega), leaves6_live m c t (by omega), leaves7_last m c t (by omega), leaves8_last m c t (by omega), leaves9_last m c t (by omega), leaves10_last m c t (by omega)]
  unfold Phi
  iintro ⟨⟨%hh, %ss, %hI, S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run21 _ _ _ _ _ _ _ _ _ _ _ _ _ _ _ _ _ _ _ _ _ _ _ _ _ _  (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) hh ss c Set.univ (grid0.coords t) h1 h2 h3 h4 h5 h6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, H10, S0, S1⟩
  isplitl [S0 S1 Hr]
  · iexists _, _
    isplitr
    swap
    · isplitl [S0]; · iexact S0
      isplitl [S1]; · iexact S1
      iexact Hr
    ipureintro
    refine ⟨?_, ?_⟩ <;> intro s hs <;> obtain rfl : s = t := Fin.ext (by omega)
    · intro _; omega
    · intro _ _; omega
  isplitl [Ho]; · iexact Ho
  isplitl [H0]; · iexact H0
  isplitl [H1]; · iexact H1
  isplitl [H2]; · iexact H2
  isplitl [H3]; · iexact H3
  isplitl [H4]; · iexact H4
  rw [hI.s (pr t) (by rw [pr_val]; omega) (by rw [pr_val]; omega) (by rw [pr_val]; omega)]
  rw [last5 m c t ht, late7 m c t (by omega), last8 m c t ht, last9 m c t ht, last10 m c t ht]
  isplitl [H5]
  · iexact H5
  isplitl [H6]
  · iexact H6
  isplitl [H7]
  · iexact H7
  isplitl [H8]
  · iexact H8
  isplitl [H9]
  · iexact H9
  iexact H10

theorem sound_body (c : Dev nD) (t : Fin cfg0.N) :
    bodyPre m c t ⊢ wp frame (wpE (defs₀ (F := F)) Variants.none c none) Set.univ (bodyAt0 t) (fun _ => bodyPost m c t) := by
  have hN := N22
  have hlt := t.isLt
  by_cases e0 : t.val = 0; · exact sound_run0 m c t e0
  by_cases e1 : t.val = 1; · exact sound_run1 m c t e1
  by_cases e2 : t.val ≤ 17; · exact sound_runC m c t (by omega)
  by_cases e3 : t.val ≤ 19; · exact sound_runL m c t (by omega)
  by_cases e4 : t.val = 20; · exact sound_run20 m c t e4
  exact sound_run21 m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f))
      ∗ ∃ r, prngReg c r) := by
  unfold Pipeline.ΦA; rw [scopedRest0_eq]; simp only [owns_whole]; try rfl

theorem Phi_in (c : Dev nD) : (Pipeline.ΦA spec0 c : sProp 𝕄) ⊢ Phi m c 0 := by
  rw [PhiA_eq]; unfold Phi
  iintro ⟨⟨⟨%f0, S0⟩, ⟨%f1, S1⟩⟩, Hr⟩
  iexists f0, f1
  isplitr
  swap
  · isplitl [S0]; · iexact S0
    isplitl [S1]; · iexact S1
    iexact Hr
  ipureintro
  refine ⟨?_, ?_⟩ <;> intro s hs <;> omega

theorem Phi_out (c : Dev nD) (n : ℕ) : Phi m c n ⊢ (Pipeline.ΦA spec0 c : sProp 𝕄) := by
  rw [PhiA_eq]; unfold Phi
  iintro ⟨%f0, %f1, %hI, S0, S1, Hr⟩
  isplitr [Hr]
  swap; · iexact Hr
  isplitl [S0]; · iexists _; iexact S0
  iexists _; iexact S1

set_option backward.isDefEq.respectTransparency.types false in
set_option maxHeartbeats 800000 in
/-- The launch, with every semaphore counter at zero at the end. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The same, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ProjKernelIdeal.Hand

end
-- ==== Proof.ProjMath.lean ====
/- One row of the input projection of the layer, as functions of extended reals. -/
module

public import proofs.«01_k».proof.Proof.FfnMath

@[expose] public section

noncomputable section

namespace Cert.Proof.ProjMath

open Idealize.ShloMosaic

/-- The scale of the queries, `1 / 8`. -/
def scl : EReal := Ideal.ofBits .f32 0x3E000000#32

/-- The projected row. -/
def projR (h : Fin 1024 → EReal) (w : Fin 1024 → Fin 3072 → EReal) (j : Fin 3072) : EReal := ∑ i : Fin 1024, h i * w i j

/-- A row rotated: each lane with its partner 16 lanes on or back, the table's cosines and signed sines by lane. -/
def rotR (x : Fin 512 → EReal) (c s : Fin 128 → EReal) (j : Fin 512) : EReal :=
  if h : j.val % 32 < 16 then x j * c ⟨j % 128, by omega⟩ + x ⟨j + 16, by omega⟩ * s ⟨j % 128, by omega⟩
  else x j * c ⟨j % 128, by omega⟩ + x ⟨j - 16, by omega⟩ * s ⟨j % 128, by omega⟩

end Cert.Proof.ProjMath

end
-- ==== Proof.ProjRow.lean ====
/- The stages of the `in_projection` kernel over exact operations, entry by entry. -/
module

public import proofs.«01_k».proof.Proof.ProjKernelIdealStage
public import proofs.«01_k».proof.Proof.ProjMath
public import Idealize.ShloMosaic.Lib.Pointwise
public import Idealize.ShloMosaic.Lib.Pipeline.ValueKit

@[expose] public section

set_option maxRecDepth 16384
set_option backward.proofsInPublic true

noncomputable section

namespace Cert.Proof.Proj

open Idealize.ShloMosaic Idealize.ShloMosaic.TcCoe Idealize.SL.Sem
open Cert.Proof.FfnMath Cert.Proof.ProjMath Cert.ProjKernelIdeal Cert.ProjKernelIdeal.Gen Cert.ProjKernelIdeal.Hand

variable (i : grid0.Coords)

/-- Whether the block is a context block. -/
abbrev isCtx : BitVec 1 := Scalar.cmpi .slt (Scalar.minsi 19#32 (Scalar.maxsi 0#32 (Scalar.subi (gp i) 0#32))) 16#32

theorem wA_apply (w : Vec Ideal S1024x3072 .bf16) (k : Fin 1024) (j : Fin 1536) : wA w (ix2 k j) = w (ix2 k ⟨j, by omega⟩) := by
  pointwise [wA]
theorem wB_apply (w : Vec Ideal S1024x3072 .bf16) (k : Fin 1024) (j : Fin 1536) : wB w (ix2 k j) = w (ix2 k ⟨1536 + j, by omega⟩) := by
  pointwise [wB]
theorem sQ_apply (s : Vec Ideal S512x1536 .f32) (r : Fin 512) (j : Fin 512) : sQ s (ix2 r j) = s (ix2 r ⟨j, by omega⟩) := by
  pointwise [sQ]
theorem sK_apply (s : Vec Ideal S512x1536 .f32) (r : Fin 512) (j : Fin 512) : sK s (ix2 r j) = s (ix2 r ⟨512 + j, by omega⟩) := by
  pointwise [sK]
theorem sV_apply (s : Vec Ideal S512x1536 .f32) (r : Fin 512) (j : Fin 512) : sV s (ix2 r j) = s (ix2 r ⟨1024 + j, by omega⟩) := by
  pointwise [sV]
theorem rC_apply (s : Vec Ideal S512x256 .f32) (r : Fin 512) (j : Fin 128) : rC s (ix2 r j) = s (ix2 r ⟨j, by omega⟩) := by
  pointwise [rC]
theorem rS_apply (s : Vec Ideal S512x256 .f32) (r : Fin 512) (j : Fin 128) : rS s (ix2 r j) = s (ix2 r ⟨128 + j, by omega⟩) := by
  pointwise [rS]

theorem xF_ctx (xc xl : Vec Ideal S512x1024 .f32) (h : isCtx i = 1#1) : xF i xc xl = xc := by
  unfold xF k0_pay36
  dsimp only
  rw [show Scalar.cmpi .slt _ 16#32 = 1#1 from h]
  exact shapeCast_self _ _
theorem xF_lat (xc xl : Vec Ideal S512x1024 .f32) (h : isCtx i = 0#1) : xF i xc xl = xl := by
  unfold xF k0_pay36
  dsimp only
  rw [show Scalar.cmpi .slt _ 16#32 = 0#1 from h]
  exact shapeCast_self _ _

/-- The normed and modulated rows. -/
theorem hN_apply (row : Vec Ideal S1x6144 .f32) (x : Vec Ideal S512x1024 .f32) (r : Fin 512) (j : Fin 1024) :
    hN row x (ix2 r j)
      = modR (fun j => x (ix2 r j)) (fun j => row (ix2 0 ⟨1024 + j, by omega⟩)) (fun j => row (ix2 0 ⟨j, by omega⟩)) j := by
  pointwise [hN, k0_pay38, modR, stdR, meanR]

/-- The Hyena part and the queries, keys and values. -/
theorem hyF_apply (h : Vec Ideal S512x1024 .bf16) (w : Vec Ideal S1024x3072 .bf16) (r : Fin 512) (j : Fin 1536) :
    hyF h w (ix2 r j) = projR (fun k => h (ix2 r k)) (fun k j => w (ix2 k j)) ⟨1536 + j, by omega⟩ := by
  have e : ∀ wb : Vec Ideal S1024x1536 .bf16, k0_pay8 (F := Ideal) h wb (ix2 r j) = ∑ k : Fin 1024, h (ix2 r k) * wb (ix2 k j) := fun wb => by
    pointwise [k0_pay8]
  unfold hyF projR
  rw [e]
  simp only [wB_apply]
theorem qkvF_apply (h : Vec Ideal S512x1024 .bf16) (w : Vec Ideal S1024x3072 .bf16) (r : Fin 512) (j : Fin 1536) :
    qkvF h w (ix2 r j) = projR (fun k => h (ix2 r k)) (fun k j => w (ix2 k j)) ⟨j, by omega⟩ := by
  have e : ∀ wb : Vec Ideal S1024x1536 .bf16, k0_pay11 (F := Ideal) h wb (ix2 r j) = ∑ k : Fin 1024, h (ix2 r k) * wb (ix2 k j) := fun wb => by
    pointwise [k0_pay11]
  unfold qkvF projR
  rw [e]
  simp only [wA_apply]

/-! ## The rotation -/

theorem tile4 (c : Vec Ideal S512x128 .f32) (r j : Fin 512) : k0_pay39 (F := Ideal) c (ix2 r j) = c (ix2 r ⟨j % 128, by omega⟩) := by
  unfold k0_pay39
  refine Idealize.ShloMosaic.concatenate_replicate_apply (t := S512x512) (s₁ := S512x128) 1 4 c concatenates_S512x128_S512x128_S512x128_S512x128_S512x512_d1 rfl (ix2 r j) (ix2 r ⟨j % 128, by omega⟩) rfl ?_
  intro b hb
  fin_cases b
  · rfl
  · exact absurd rfl hb
theorem tile4' (c : Vec Ideal S512x128 .f32) (r j : Fin 512) : k0_pay40 (F := Ideal) c (ix2 r j) = c (ix2 r ⟨j % 128, by omega⟩) := tile4 c r j

theorem next_apply (x : Vec Ideal S512x512 .f32) (r j : Fin 512) (h : (j : ℕ) + 16 < 512) :
    dynamicRotate 1 496#32 none x rotates_S512x512_d1 (ix2 r j) = x (ix2 r ⟨j + 16, h⟩) := by
  pointwise []
  exact congrArg (fun k => x (ix2 r k)) (Fin.ext (by show ((j : ℕ) + 512 - 496) % 512 = (j : ℕ) + 16; omega))
theorem prev_apply (x : Vec Ideal S512x512 .f32) (r j : Fin 512) (h : 16 ≤ (j : ℕ)) :
    dynamicRotate 1 16#32 none x rotates_S512x512_d1 (ix2 r j) = x (ix2 r ⟨j - 16, by omega⟩) := by
  pointwise []
  exact congrArg (fun k => x (ix2 r k)) (Fin.ext (by show ((j : ℕ) + 512 - 16) % 512 = (j : ℕ) - 16; omega))

theorem pay42_apply (r j : Fin 512) : k0_pay42 (ix2 r j) = Scalar.remsi (BitVec.ofNat 32 j.val) 32#32 := by
  show Scalar.remsi (BitVec.ofNat 32 (0 * 512 + j.val)) 32#32 = _
  rw [Nat.zero_mul, Nat.zero_add]

/-- The lanes of the first half of a group of 32. -/
def lanes : IVec S512x512 1 :=
  have v43 : IVec S512x512 32 := k0_pay42
  have v45 : IVec S512x512 1 := cmpi .ne v43 (broadcast S512x512 0#32)
  have v47 : IVec S512x512 1 := cmpi .slt v43 (broadcast S512x512 0#32)
  have v50 : IVec S512x512 1 := broadcastTo S512x512 (broadcast S512x512 (Scalar.cmpi .slt (Scalar.select (Scalar.cmpi .eq 32#32 0#32) 1#32 32#32) 0#32) : IVec S512x512 1) broadcasts_S512x512_S512x512
  have v52 : IVec S512x512 1 := andi (xori v47 v50) v45
  have v54 : IVec S512x512 32 := addi v43 (broadcast S512x512 (Scalar.select (Scalar.cmpi .eq 32#32 0#32) 1#32 32#32))
  have v55 : IVec S512x512 32 := select v52 v54 v43
  cmpi .slt v55 (broadcast S512x512 16#32)
theorem lane_word : ∀ j : Fin 512, Scalar.cmpi .slt (Scalar.select (Scalar.andi (Scalar.xori (Scalar.cmpi .slt (Scalar.remsi (BitVec.ofNat 32 j.val) 32#32) 0#32) (Scalar.cmpi .slt 32#32 0#32)) (Scalar.cmpi .ne (Scalar.remsi (BitVec.ofNat 32 j.val) 32#32) 0#32)) (Scalar.addi (Scalar.remsi (BitVec.ofNat 32 j.val) 32#32) 32#32) (Scalar.remsi (BitVec.ofNat 32 j.val) 32#32)) 16#32
    = if j.val % 32 < 16 then 1#1 else 0#1 := by decide +kernel
theorem lanes_apply (r j : Fin 512) : lanes (ix2 r j) = if j.val % 32 < 16 then 1#1 else 0#1 := by
  rw [← lane_word, ← pay42_apply r j]
  rfl

/-- The rotated block. -/
def rot (x : Vec Ideal S512x512 .f32) (c s : Vec Ideal S512x128 .f32) : Vec Ideal S512x512 .f32 :=
  addf (mulf x (k0_pay39 c)) (mulf (select lanes (dynamicRotate 1 496#32 none x rotates_S512x512_d1) (dynamicRotate 1 16#32 none x rotates_S512x512_d1)) (k0_pay40 s))
theorem rot_apply (x : Vec Ideal S512x512 .f32) (c s : Vec Ideal S512x128 .f32) (r j : Fin 512) :
    rot x c s (ix2 r j) = rotR (fun j => x (ix2 r j)) (fun l => c (ix2 r l)) (fun l => s (ix2 r l)) j := by
  unfold rotR
  show x (ix2 r j) * k0_pay39 (F := Ideal) c (ix2 r j) + (if lanes (ix2 r j) = 1#1 then dynamicRotate 1 496#32 none x rotates_S512x512_d1 (ix2 r j) else dynamicRotate 1 16#32 none x rotates_S512x512_d1 (ix2 r j)) * k0_pay40 (F := Ideal) s (ix2 r j) = _
  rw [tile4, tile4', lanes_apply]
  by_cases h : j.val % 32 < 16
  · rw [if_pos h, if_pos rfl, dif_pos h, next_apply x r j (by omega)]
  · rw [if_neg h, if_neg (by decide), dif_neg h, prev_apply x r j (by omega)]

theorem rotQ_eq (s : Vec Ideal S512x1536 .f32) (rp : Vec Ideal S512x256 .f32) (r j : Fin 512) :
    rotQ s rp (ix2 r j) = rot (sQ s) (rC rp) (rS rp) (ix2 r j) * scl := rfl
theorem rotK_eq (s : Vec Ideal S512x1536 .f32) (rp : Vec Ideal S512x256 .f32) (r j : Fin 512) :
    rotK s rp (ix2 r j) = rot (sK s) (rC rp) (rS rp) (ix2 r j) := rfl

/-! ## The blocks side by side -/

theorem three_q (q k v : Vec Ideal S512x512 .bf16) (r j : Fin 512) : three q k v (ix2 r ⟨j, by omega⟩) = q (ix2 r j) := by
  unfold three threeP
  canon_tiles x hx
  · have h1 : (j : ℕ) = 1024 + (x 1 : ℕ) := hx1
    omega
  · have h1 : (j : ℕ) = 512 + (x 1 : ℕ) := hx1
    omega
  · have e : x = ix2 r j := by
      funext a; fin_cases a <;> refine Fin.ext ?_
      · exact hx0.symm
      · have h1 : (j : ℕ) = (x 1 : ℕ) := hx1
        show (x 1 : ℕ) = (j : ℕ); omega
    rw [e]
theorem three_k (q k v : Vec Ideal S512x512 .bf16) (r j : Fin 512) : three q k v (ix2 r ⟨512 + j, by omega⟩) = k (ix2 r j) := by
  unfold three threeP
  canon_tiles x hx
  · have h1 : 512 + (j : ℕ) = 1024 + (x 1 : ℕ) := hx1
    omega
  · have e : x = ix2 r j := by
      funext a; fin_cases a <;> refine Fin.ext ?_
      · exact hx0.symm
      · have h1 : 512 + (j : ℕ) = 512 + (x 1 : ℕ) := hx1
        show (x 1 : ℕ) = (j : ℕ); omega
    rw [e]
  · have h1 : 512 + (j : ℕ) = (x 1 : ℕ) := hx1
    omega
theorem three_v (q k v : Vec Ideal S512x512 .bf16) (r j : Fin 512) : three q k v (ix2 r ⟨1024 + j, by omega⟩) = v (ix2 r j) := by
  unfold three threeP
  canon_tiles x hx
  · have e : x = ix2 r j := by
      funext a; fin_cases a <;> refine Fin.ext ?_
      · exact hx0.symm
      · have h1 : 1024 + (j : ℕ) = 1024 + (x 1 : ℕ) := hx1
        show (x 1 : ℕ) = (j : ℕ); omega
    rw [e]
  · have h1 : 1024 + (j : ℕ) = 512 + (x 1 : ℕ) := hx1
    omega
  · have h1 : 1024 + (j : ℕ) = (x 1 : ℕ) := hx1
    omega
theorem two_a (a b : Vec Ideal S1x8x64x256 .f32) (h : Fin 8) (d : Fin 64) (l : Fin 256) : two a b (ix4 0 h d l) = a (ix4 0 h d l) := by
  unfold two twoP
  canon_tiles x hx
  · have h0 : ((0 : Fin 2) : ℕ) = 1 + (x 0 : ℕ) := hx0
    simp only [Fin.val_zero, Fin.val_one] at h0
    omega
  · have e : x = ix4 0 h d l := by
      funext a; fin_cases a <;> refine Fin.ext ?_
      · show (x 0 : ℕ) = 0; omega
      · exact hx1.symm
      · exact hx2.symm
      · exact hx3.symm
    rw [e]
theorem two_b (a b : Vec Ideal S1x8x64x256 .f32) (h : Fin 8) (d : Fin 64) (l : Fin 256) : two a b (ix4 1 h d l) = b (ix4 0 h d l) := by
  unfold two twoP
  canon_tiles x hx
  · have e : x = ix4 0 h d l := by
      funext a; fin_cases a <;> refine Fin.ext ?_
      · show (x 0 : ℕ) = 0; omega
      · exact hx1.symm
      · exact hx2.symm
      · exact hx3.symm
    rw [e]
  · have h0 : ((1 : Fin 2) : ℕ) = (x 0 : ℕ) := hx0
    simp only [Fin.val_zero, Fin.val_one] at h0
    omega

/-! ## What is stored -/

variable (s : Vec Ideal S512x1536 .f32) (rp : Vec Ideal S512x256 .f32)

theorem qcF_q (r j : Fin 512) : qcF s (ix2 r ⟨j, by omega⟩) = s (ix2 r ⟨j, by omega⟩) * scl := by
  unfold qcF; rw [three_q]
  show sQ s (ix2 r j) * scl = _
  rw [sQ_apply]
theorem qcF_k (r j : Fin 512) : qcF s (ix2 r ⟨512 + j, by omega⟩) = s (ix2 r ⟨512 + j, by omega⟩) := by
  unfold qcF; rw [three_k]; exact sK_apply s r j
theorem qcF_v (r j : Fin 512) : qcF s (ix2 r ⟨1024 + j, by omega⟩) = s (ix2 r ⟨1024 + j, by omega⟩) := by
  unfold qcF; rw [three_v]; exact sV_apply s r j
theorem qlF_q (r j : Fin 512) : qlF s rp (ix2 r ⟨j, by omega⟩)
    = rotR (fun j => s (ix2 r ⟨j, by omega⟩)) (fun l => rp (ix2 r ⟨l, by omega⟩)) (fun l => rp (ix2 r ⟨128 + l, by omega⟩)) j * scl := by
  unfold qlF; rw [three_q, rotQ_eq, rot_apply]
  simp only [sQ_apply, rC_apply, rS_apply]
theorem qlF_k (r j : Fin 512) : qlF s rp (ix2 r ⟨512 + j, by omega⟩)
    = rotR (fun j => s (ix2 r ⟨512 + j, by omega⟩)) (fun l => rp (ix2 r ⟨l, by omega⟩)) (fun l => rp (ix2 r ⟨128 + l, by omega⟩)) j := by
  unfold qlF; rw [three_k, rotK_eq, rot_apply]
  simp only [sK_apply, rC_apply, rS_apply]
theorem qlF_v (r j : Fin 512) : qlF s rp (ix2 r ⟨1024 + j, by omega⟩) = s (ix2 r ⟨1024 + j, by omega⟩) := by
  unfold qlF; rw [three_v]; exact sV_apply s r j
theorem kcF_a (h : Fin 8) (d : Fin 64) (l : Fin 256) : kcF s (ix4 0 h d l) = s (ix2 ⟨l, by omega⟩ ⟨512 + (h * 64 + d), by omega⟩) := by
  have e : ∀ k : Vec Ideal S512x512 .f32, k0_pay17 (F := Ideal) k (ix4 0 h d l) = k (ix2 ⟨l, by omega⟩ ⟨h * 64 + d, by omega⟩) := fun k => by
    pointwise [k0_pay17]
  unfold kcF; rw [two_a, e]; exact sK_apply s _ _
theorem kcF_b (h : Fin 8) (d : Fin 64) (l : Fin 256) : kcF s (ix4 1 h d l) = s (ix2 ⟨256 + l, by omega⟩ ⟨512 + (h * 64 + d), by omega⟩) := by
  have e : ∀ k : Vec Ideal S512x512 .f32, k0_pay18 (F := Ideal) k (ix4 0 h d l) = k (ix2 ⟨256 + l, by omega⟩ ⟨h * 64 + d, by omega⟩) := fun k => by
    pointwise [k0_pay18]
  unfold kcF; rw [two_b, e]; exact sK_apply s _ _
theorem vcF_apply (r : Fin 512) (h : Fin 4) (d : Fin 128) : vcF s (ix3 r h d) = s (ix2 r ⟨1024 + (h * 128 + d), by omega⟩) := by
  have e : ∀ k : Vec Ideal S512x512 .f32, k0_pay16 (F := Ideal) k (ix3 r h d) = k (ix2 r ⟨h * 128 + d, by omega⟩) := fun k => by
    pointwise [k0_pay16]
  unfold vcF; rw [e]; exact sV_apply s _ _

end Cert.Proof.Proj

end
-- ==== Proof.ProjBlocks.lean ====
/- The blocks the `in_projection` kernel reads at a point of its grid, entry by entry. -/
module

public import proofs.«01_k».proof.Proof.ProjKernelIdealRun
public import proofs.«01_k».proof.Proof.ProjRow
public import Idealize.ShloMosaic.Lib.Pointwise
public import Idealize.ShloMosaic.Lib.Pipeline.ValueKit
public import Idealize.ShloMosaic.Lib.Claim

@[expose] public section

set_option maxRecDepth 16384
set_option backward.proofsInPublic true

noncomputable section

namespace Cert.Proof.Proj

open Idealize.ShloMosaic Idealize.ShloMosaic.TcCoe Idealize.SL.Sem
open Cert.Proof.FfnMath Cert.Proof.ProjMath Cert.ProjKernelIdeal Cert.ProjKernelIdeal.Gen Cert.ProjKernelIdeal.Hand

variable (m : (ℓ : Loc nD τ sig) → Buf (Elt Ideal) ℓ)

/-- The blocks the windows read and write at a point of the grid. -/
theorem idx : ∀ t : Fin cfg0.N, win0_0.index t = ![min t.val 15, 0] ∧ win0_1.index t = ![min (t.val - 16) 3, 0] ∧ win0_2.index t = ![0, 0]
    ∧ win0_3.index t = ![0, 0] ∧ win0_4.index t = ![min (t.val - 18) 3 % 2, 0] ∧ win0_5.index t = ![min (t.val - 2) 15, 0]
    ∧ win0_6.index t = ![min (t.val - 18) 3, 0] ∧ win0_7.index t = ![min (t.val - 1) 15, 0] ∧ win0_8.index t = ![min (t.val - 17) 3, 0]
    ∧ win0_9.index t = ![min (t.val - 2) 15, 0, 0, 0] ∧ win0_10.index t = ![min (t.val - 2) 15, 0, 0] :=
  (by decide +kernel : ∀ t : Fin grid0.N, _)

/-- The block is a context block at the first 16 points. -/
theorem is_ctx : ∀ t : Fin cfg0.N, t.val ≤ 15 → isCtx (grid0.coords t) = 1#1 := (by decide +kernel : ∀ t : Fin grid0.N, _)
theorem is_lat : ∀ t : Fin cfg0.N, 16 ≤ t.val → isCtx (grid0.coords t) = 0#1 := (by decide +kernel : ∀ t : Fin grid0.N, _)

/-- The flattened rows. -/
theorem flat_ctx (y : Vec Ideal S32x256x1024 .f32) (p : Fin 32) (r : Fin 256) (j : Fin 1024) :
    shapeCast S8192x1024 y shapeCasts_S32x256x1024_S8192x1024 (ix2 ⟨p * 256 + r, by omega⟩ j) = y (ix3 p r j) := by
  pointwise []
theorem flat_lat (y : Vec Ideal S2x1024x1024 .f32) (p : Fin 2) (r : Fin 1024) (j : Fin 1024) :
    shapeCast S2048x1024 y shapeCasts_S2x1024x1024_S2048x1024 (ix2 ⟨p * 1024 + r, by omega⟩ j) = y (ix3 p r j) := by
  pointwise []

variable (c : Dev nD)

theorem V_v0 : V m c main_v0 = shapeCast S8192x1024 (m ((c : Thread nD τ).loc main_arg0)) shapeCasts_S32x256x1024_S8192x1024 := by
  unfold_abbrev_sides
  after_results
  rfl
theorem V_v1 : V m c main_v1 = shapeCast S2048x1024 (m ((c : Thread nD τ).loc main_arg1)) shapeCasts_S2x1024x1024_S2048x1024 := by
  unfold_abbrev_sides
  after_results
  rfl
variable (t : Fin cfg0.N)

/-- Window 0's block, over the flattened rows. -/
theorem blk0' (r : Fin 512) (j : Fin 1024) (R : Fin 8192) (hR : (R : ℕ) = min t.val 15 * 512 + r) :
    iblk m c 0 t (ix2 r j) = V m c main_v0 (ix2 R j) := by
  blk_ext [iblk, idx t]
theorem blk0 (r : Fin 512) (j : Fin 1024) (p : Fin 32) (q : Fin 256) (hp : (p * 256 + q : ℕ) = min t.val 15 * 512 + r) :
    iblk m c 0 t (ix2 r j) = m ((c : Thread nD τ).loc main_arg0) (ix3 p q j) := by
  rw [blk0' m c t r j ⟨p * 256 + q, by omega⟩ hp, V_v0]
  exact flat_ctx _ p q j
theorem blk1' (r : Fin 512) (j : Fin 1024) (R : Fin 2048) (hR : (R : ℕ) = min (t.val - 16) 3 * 512 + r) :
    iblk m c 1 t (ix2 r j) = V m c main_v1 (ix2 R j) := by
  blk_ext [iblk, idx t]
theorem blk1 (r : Fin 512) (j : Fin 1024) (p : Fin 2) (q : Fin 1024) (hp : (p * 1024 + q : ℕ) = min (t.val - 16) 3 * 512 + r) :
    iblk m c 1 t (ix2 r j) = m ((c : Thread nD τ).loc main_arg1) (ix3 p q j) := by
  rw [blk1' m c t r j ⟨p * 1024 + q, by omega⟩ hp, V_v1]
  exact flat_lat _ p q j
theorem blk2 (r : Fin 8) (j : Fin 6144) : iblk m c 2 t (ix2 r j) = m ((c : Thread nD τ).loc main_arg2) (ix2 r j) := by
  rw [← V_main_arg2 m c]; blk_ext [iblk, idx t]
theorem blk3 (r : Fin 1024) (j : Fin 3072) : iblk m c 3 t (ix2 r j) = m ((c : Thread nD τ).loc main_arg3) (ix2 r j) := by
  rw [← V_main_arg3 m c]; blk_ext [iblk, idx t]
theorem blk4 (r : Fin 512) (j : Fin 256) (R : Fin 1024) (hR : (R : ℕ) = min (t.val - 18) 3 % 2 * 512 + r) :
    iblk m c 4 t (ix2 r j) = m ((c : Thread nD τ).loc main_arg4) (ix2 R j) := by
  rw [← V_main_arg4 m c]; blk_ext [iblk, idx t]

/-- The row of the modulation a block takes. -/
theorem rowB_apply (md : Vec Ideal S8x6144 .f32) (b : ℕ) (R : Fin 8) (hR : (R : ℕ) = modRow b) (j : Fin 6144) : rowB md b (ix2 0 j) = md (ix2 R j) := by
  unfold rowB rowAt
  rw [View.ld_apply]
  refine congrArg md (funext fun a => Fin.ext ?_)
  match a with
  | ⟨0, _⟩ => simp [hR]
  | ⟨1, _⟩ => simp

end Cert.Proof.Proj

end
-- ==== Proof.ProjRef.lean ====
/- The reference of the `in_projection` call, entry by entry. -/
module

public import proofs.«01_k».proof.Proof.Gen.ProjReferenceIdeal.Read
public import proofs.«01_k».proof.Proof.ProjMath
public import Idealize.ShloMosaic.Lib.Pointwise
public import Idealize.ShloMosaic.Lib.ValueIdxRank6

@[expose] public section

set_option maxRecDepth 16384
set_option backward.proofsInPublic true

noncomputable section

namespace Cert.Proof.ProjRef

open Idealize.ShloMosaic Idealize.ShloMosaic.TcCoe Idealize.SL.Sem
open Cert.Proof.FfnMath Cert.Proof.ProjMath Cert.ProjReferenceIdeal Cert.ProjReferenceIdeal.Gen Cert.ProjReferenceIdeal.Read

section ctx

variable (x0 : FVec Ideal S32x256x1024 .f32) (x2 : FVec Ideal S8x6144 .f32) (x3 : FVec Ideal S1024x3072 .bf16) (p : Fin 32) (r : Fin 256)

/-- The modulated context rows. -/
theorem ctx_h (j : Fin 1024) : val_main_v33 (F := Ideal) x0 x2 (ix3 p r j)
    = modR (fun j => x0 (ix3 p r j)) (fun j => x2 (ix2 0 ⟨1024 + j, by omega⟩)) (fun j => x2 (ix2 0 ⟨j, by omega⟩)) j := by
  unfold val_main_v33 val_main_v32 val_main_v31 val_main_v30 val_main_v29 val_main_v28 val_main_v27 val_main_v26 val_main_cst_4 val_main_v25 val_main_v24 val_main_v23 val_main_v22 val_main_v21 val_main_cst_3 val_main_v20 val_main_v19 val_main_v18 val_main_v17 val_main_cst_2 val_main_v16 val_main_v15 val_main_cst_1 val_main_v14 val_main_v13 val_main_v12 val_main_v11 val_main_v10 val_main_cst_0 val_main_v9 val_main_v8 val_main_cst val_main_v3 val_main_v2 val_main_v1 val_main_v0
  pointwise [modR, stdR, meanR, projR]

/-- The projected context rows. -/
theorem ctx_p (j : Fin 3072) : val_main_v35 (F := Ideal) x0 x2 x3 (ix3 p r j)
    = projR (fun k => val_main_v33 (F := Ideal) x0 x2 (ix3 p r k)) (fun k j => x3 (ix2 k j)) j := by
  unfold val_main_v35 val_main_v34
  generalize val_main_v33 (F := Ideal) x0 x2 = y0
  pointwise [modR, stdR, meanR, projR]

/-- A third of the projected rows. -/
theorem ctx_s0 (j : Fin 512) : val_main_v36 (F := Ideal) x0 x2 x3 (ix3 p r j)
    = val_main_v35 (F := Ideal) x0 x2 x3 (ix3 p r ⟨j, by omega⟩) := by
  unfold val_main_v36
  generalize val_main_v35 (F := Ideal) x0 x2 x3 = y0
  pointwise [modR, stdR, meanR, projR]

/-- A third of the projected rows. -/
theorem ctx_s512 (j : Fin 512) : val_main_v37 (F := Ideal) x0 x2 x3 (ix3 p r j)
    = val_main_v35 (F := Ideal) x0 x2 x3 (ix3 p r ⟨512 + j, by omega⟩) := by
  unfold val_main_v37
  generalize val_main_v35 (F := Ideal) x0 x2 x3 = y0
  pointwise [modR, stdR, meanR, projR]

/-- A third of the projected rows. -/
theorem ctx_s1024 (j : Fin 512) : val_main_v38 (F := Ideal) x0 x2 x3 (ix3 p r j)
    = val_main_v35 (F := Ideal) x0 x2 x3 (ix3 p r ⟨1024 + j, by omega⟩) := by
  unfold val_main_v38
  generalize val_main_v35 (F := Ideal) x0 x2 x3 = y0
  pointwise [modR, stdR, meanR, projR]

/-- The queries, times the scale. -/
theorem ctx_scaled (j : Fin 512) : val_main_v79 (F := Ideal) x0 x2 x3 (ix3 p r j)
    = val_main_v36 (F := Ideal) x0 x2 x3 (ix3 p r j) * scl := by
  unfold val_main_v79 val_main_v78 val_main_cst_11
  generalize val_main_v36 (F := Ideal) x0 x2 x3 = y0
  pointwise [modR, stdR, meanR, projR]
  rfl

/-- A third of the rows, flattened. -/
theorem ctx_c0 (R : Fin 8192) (j : Fin 512) : val_main_v82 (F := Ideal) x0 x2 x3 (ix2 R ⟨j, by omega⟩)
    = val_main_v79 (F := Ideal) x0 x2 x3 (ix3 ⟨R / 256, by omega⟩ ⟨R % 256, by omega⟩ j) := by
  unfold val_main_v82 val_main_v81 val_main_v80
  generalize val_main_v79 (F := Ideal) x0 x2 x3 = y0
  generalize val_main_v37 (F := Ideal) x0 x2 x3 = y1
  generalize val_main_v38 (F := Ideal) x0 x2 x3 = y2
  pointwise [modR, stdR, meanR, projR]

/-- A third of the rows, flattened. -/
theorem ctx_c512 (R : Fin 8192) (j : Fin 512) : val_main_v82 (F := Ideal) x0 x2 x3 (ix2 R ⟨512 + j, by omega⟩)
    = val_main_v37 (F := Ideal) x0 x2 x3 (ix3 ⟨R / 256, by omega⟩ ⟨R % 256, by omega⟩ j) := by
  unfold val_main_v82 val_main_v81 val_main_v80
  generalize val_main_v79 (F := Ideal) x0 x2 x3 = y0
  generalize val_main_v37 (F := Ideal) x0 x2 x3 = y1
  generalize val_main_v38 (F := Ideal) x0 x2 x3 = y2
  pointwise [modR, stdR, meanR, projR]

/-- A third of the rows, flattened. -/
theorem ctx_c1024 (R : Fin 8192) (j : Fin 512) : val_main_v82 (F := Ideal) x0 x2 x3 (ix2 R ⟨1024 + j, by omega⟩)
    = val_main_v38 (F := Ideal) x0 x2 x3 (ix3 ⟨R / 256, by omega⟩ ⟨R % 256, by omega⟩ j) := by
  unfold val_main_v82 val_main_v81 val_main_v80
  generalize val_main_v79 (F := Ideal) x0 x2 x3 = y0
  generalize val_main_v37 (F := Ideal) x0 x2 x3 = y1
  generalize val_main_v38 (F := Ideal) x0 x2 x3 = y2
  pointwise [modR, stdR, meanR, projR]
  rw [dif_neg (by omega), dif_neg (by omega)]
  exact congrArg (fun k => y2 (ix3 _ _ k)) (Fin.ext (by show 1024 + (j : ℕ) - 512 - 512 = (j : ℕ); omega))

/-- The Hyena part, flattened. -/
theorem ctx_hy (R : Fin 8192) (j : Fin 1536) : val_main_v159 (F := Ideal) x0 x2 x3 (ix2 R j)
    = val_main_v35 (F := Ideal) x0 x2 x3 (ix3 ⟨R / 256, by omega⟩ ⟨R % 256, by omega⟩ ⟨1536 + j, by omega⟩) := by
  unfold val_main_v159 val_main_v158 val_main_v39
  generalize val_main_v35 (F := Ideal) x0 x2 x3 = y0
  pointwise [modR, stdR, meanR, projR]

/-- The cached keys. -/
theorem ctx_kc (h : Fin 8) (d : Fin 64) (l : Fin 256) : val_main_v163 (F := Ideal) x0 x2 x3 (ix4 p h d l)
    = val_main_v35 (F := Ideal) x0 x2 x3 (ix3 p l ⟨512 + (h * 64 + d), by omega⟩) := by
  unfold val_main_v163 val_main_v162 val_main_v37
  generalize val_main_v35 (F := Ideal) x0 x2 x3 = y0
  pointwise [modR, stdR, meanR, projR]

/-- The cached values. -/
theorem ctx_vc (R : Fin 8192) (h : Fin 4) (d : Fin 128) : val_main_v164 (F := Ideal) x0 x2 x3 (ix3 R h d)
    = val_main_v35 (F := Ideal) x0 x2 x3 (ix3 ⟨R / 256, by omega⟩ ⟨R % 256, by omega⟩ ⟨1024 + (h * 128 + d), by omega⟩) := by
  unfold val_main_v164 val_main_v38
  generalize val_main_v35 (F := Ideal) x0 x2 x3 = y0
  pointwise [modR, stdR, meanR, projR]

end ctx

section lat

variable (x1 : FVec Ideal S2x1024x1024 .f32) (x2 : FVec Ideal S8x6144 .f32) (x3 : FVec Ideal S1024x3072 .bf16) (x4 : FVec Ideal S1024x256 .f32) (p : Fin 2) (r : Fin 1024)

/-- The modulated latent rows. -/
theorem lat_h (j : Fin 1024) : val_main_v71 (F := Ideal) x1 x2 (ix3 p r j)
    = modR (fun j => x1 (ix3 p r j)) (fun j => x2 (ix2 ⟨1 + p, by omega⟩ ⟨1024 + j, by omega⟩)) (fun j => x2 (ix2 ⟨1 + p, by omega⟩ ⟨j, by omega⟩)) j := by
  unfold val_main_v71 val_main_v70 val_main_v69 val_main_v68 val_main_v67 val_main_v66 val_main_cst_10 val_main_v65 val_main_v64 val_main_v63 val_main_v62 val_main_v61 val_main_cst_9 val_main_v60 val_main_v59 val_main_v58 val_main_v57 val_main_cst_8 val_main_v56 val_main_v55 val_main_cst_7 val_main_v54 val_main_v53 val_main_v52 val_main_v51 val_main_v50 val_main_cst_6 val_main_v49 val_main_v48 val_main_cst_5 val_main_v43 val_main_v42 val_main_v41 val_main_v40
  pointwise [modR, stdR, meanR, projR]

/-- The projected latent rows. -/
theorem lat_p (j : Fin 3072) : val_main_v73 (F := Ideal) x1 x2 x3 (ix3 p r j)
    = projR (fun k => val_main_v71 (F := Ideal) x1 x2 (ix3 p r k)) (fun k j => x3 (ix2 k j)) j := by
  unfold val_main_v73 val_main_v72
  generalize val_main_v71 (F := Ideal) x1 x2 = y0
  pointwise [modR, stdR, meanR, projR]

/-- A third of the projected rows. -/
theorem lat_s0 (j : Fin 512) : val_main_v74 (F := Ideal) x1 x2 x3 (ix3 p r j)
    = val_main_v73 (F := Ideal) x1 x2 x3 (ix3 p r ⟨j, by omega⟩) := by
  unfold val_main_v74
  generalize val_main_v73 (F := Ideal) x1 x2 x3 = y0
  pointwise [modR, stdR, meanR, projR]

/-- A third of the projected rows. -/
theorem lat_s512 (j : Fin 512) : val_main_v75 (F := Ideal) x1 x2 x3 (ix3 p r j)
    = val_main_v73 (F := Ideal) x1 x2 x3 (ix3 p r ⟨512 + j, by omega⟩) := by
  unfold val_main_v75
  generalize val_main_v73 (F := Ideal) x1 x2 x3 = y0
  pointwise [modR, stdR, meanR, projR]

/-- A third of the projected rows. -/
theorem lat_s1024 (j : Fin 512) : val_main_v76 (F := Ideal) x1 x2 x3 (ix3 p r j)
    = val_main_v73 (F := Ideal) x1 x2 x3 (ix3 p r ⟨1024 + j, by omega⟩) := by
  unfold val_main_v76
  generalize val_main_v73 (F := Ideal) x1 x2 x3 = y0
  pointwise [modR, stdR, meanR, projR]

/-- The first half of a rotated group. -/
theorem q_lo (a g : Fin 4) (i : Fin 16) : val_main_v116 (F := Ideal) x1 x2 x3 x4 (ix6 p r a g 0 i)
    = val_main_v74 (F := Ideal) x1 x2 x3 (ix3 p r ⟨a * 128 + g * 32 + i, by omega⟩) * x4 (ix2 r ⟨(g * 32 + i), by omega⟩) + val_main_v74 (F := Ideal) x1 x2 x3 (ix3 p r ⟨a * 128 + g * 32 + 16 + i, by omega⟩) * x4 (ix2 r ⟨128 + (g * 32 + i), by omega⟩) := by
  unfold val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83
  generalize val_main_v74 (F := Ideal) x1 x2 x3 = y0
  pointwise [modR, stdR, meanR, projR]

/-- The second half of a rotated group. -/
theorem q_hi (a g : Fin 4) (i : Fin 16) : val_main_v116 (F := Ideal) x1 x2 x3 x4 (ix6 p r a g 1 i)
    = val_main_v74 (F := Ideal) x1 x2 x3 (ix3 p r ⟨a * 128 + g * 32 + i, by omega⟩) * x4 (ix2 r ⟨128 + (g * 32 + 16 + i), by omega⟩) + val_main_v74 (F := Ideal) x1 x2 x3 (ix3 p r ⟨a * 128 + g * 32 + 16 + i, by omega⟩) * x4 (ix2 r ⟨(g * 32 + 16 + i), by omega⟩) := by
  unfold val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83
  generalize val_main_v74 (F := Ideal) x1 x2 x3 = y0
  pointwise [modR, stdR, meanR, projR]

/-- The rotated groups side by side. -/
theorem q_flat (j : Fin 512) : val_main_v117 (F := Ideal) x1 x2 x3 x4 (ix3 p r j)
    = val_main_v116 (F := Ideal) x1 x2 x3 x4 (ix6 p r ⟨j / 128, by omega⟩ ⟨j / 32 % 4, by omega⟩ ⟨j / 16 % 2, by omega⟩ ⟨j % 16, by omega⟩) := by
  unfold val_main_v117
  generalize val_main_v116 (F := Ideal) x1 x2 x3 x4 = y0
  pointwise [modR, stdR, meanR, projR]

/-- The first half of a rotated group. -/
theorem k_lo (a g : Fin 4) (i : Fin 16) : val_main_v153 (F := Ideal) x1 x2 x3 x4 (ix6 p r a g 0 i)
    = val_main_v75 (F := Ideal) x1 x2 x3 (ix3 p r ⟨a * 128 + g * 32 + i, by omega⟩) * x4 (ix2 r ⟨(g * 32 + i), by omega⟩) + val_main_v75 (F := Ideal) x1 x2 x3 (ix3 p r ⟨a * 128 + g * 32 + 16 + i, by omega⟩) * x4 (ix2 r ⟨128 + (g * 32 + i), by omega⟩) := by
  unfold val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120
  generalize val_main_v75 (F := Ideal) x1 x2 x3 = y0
  pointwise [modR, stdR, meanR, projR]

/-- The second half of a rotated group. -/
theorem k_hi (a g : Fin 4) (i : Fin 16) : val_main_v153 (F := Ideal) x1 x2 x3 x4 (ix6 p r a g 1 i)
    = val_main_v75 (F := Ideal) x1 x2 x3 (ix3 p r ⟨a * 128 + g * 32 + i, by omega⟩) * x4 (ix2 r ⟨128 + (g * 32 + 16 + i), by omega⟩) + val_main_v75 (F := Ideal) x1 x2 x3 (ix3 p r ⟨a * 128 + g * 32 + 16 + i, by omega⟩) * x4 (ix2 r ⟨(g * 32 + 16 + i), by omega⟩) := by
  unfold val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120
  generalize val_main_v75 (F := Ideal) x1 x2 x3 = y0
  pointwise [modR, stdR, meanR, projR]

/-- The rotated groups side by side. -/
theorem k_flat (j : Fin 512) : val_main_v154 (F := Ideal) x1 x2 x3 x4 (ix3 p r j)
    = val_main_v153 (F := Ideal) x1 x2 x3 x4 (ix6 p r ⟨j / 128, by omega⟩ ⟨j / 32 % 4, by omega⟩ ⟨j / 16 % 2, by omega⟩ ⟨j % 16, by omega⟩) := by
  unfold val_main_v154
  generalize val_main_v153 (F := Ideal) x1 x2 x3 x4 = y0
  pointwise [modR, stdR, meanR, projR]

/-- The rotated rows. -/
theorem q_rot (j : Fin 512) : val_main_v117 (F := Ideal) x1 x2 x3 x4 (ix3 p r j)
    = rotR (fun j => val_main_v74 (F := Ideal) x1 x2 x3 (ix3 p r j)) (fun l => x4 (ix2 r ⟨l, by omega⟩)) (fun l => x4 (ix2 r ⟨128 + l, by omega⟩)) j := by
  have hj := j.isLt
  rw [q_flat]
  unfold rotR
  by_cases h : j.val % 32 < 16
  · rw [dif_pos h, show (⟨j / 16 % 2, by omega⟩ : Fin 2) = 0 from Fin.ext (by show (j : ℕ) / 16 % 2 = 0; omega), q_lo]
    refine congrArg₂ (· + ·) (congrArg₂ (· * ·) (congrArg (fun k => val_main_v74 (F := Ideal) x1 x2 x3 (ix3 p r k)) (Fin.ext ?_)) (congrArg (fun k => x4 (ix2 r k)) (Fin.ext ?_)))
      (congrArg₂ (· * ·) (congrArg (fun k => val_main_v74 (F := Ideal) x1 x2 x3 (ix3 p r k)) (Fin.ext ?_)) (congrArg (fun k => x4 (ix2 r k)) (Fin.ext ?_))) <;> dsimp only <;> omega
  · rw [dif_neg h, show (⟨j / 16 % 2, by omega⟩ : Fin 2) = 1 from Fin.ext (by show (j : ℕ) / 16 % 2 = 1; omega), q_hi, add_comm]
    refine congrArg₂ (· + ·) (congrArg₂ (· * ·) (congrArg (fun k => val_main_v74 (F := Ideal) x1 x2 x3 (ix3 p r k)) (Fin.ext ?_)) (congrArg (fun k => x4 (ix2 r k)) (Fin.ext ?_)))
      (congrArg₂ (· * ·) (congrArg (fun k => val_main_v74 (F := Ideal) x1 x2 x3 (ix3 p r k)) (Fin.ext ?_)) (congrArg (fun k => x4 (ix2 r k)) (Fin.ext ?_))) <;> dsimp only <;> omega

/-- The rotated rows. -/
theorem k_rot (j : Fin 512) : val_main_v154 (F := Ideal) x1 x2 x3 x4 (ix3 p r j)
    = rotR (fun j => val_main_v75 (F := Ideal) x1 x2 x3 (ix3 p r j)) (fun l => x4 (ix2 r ⟨l, by omega⟩)) (fun l => x4 (ix2 r ⟨128 + l, by omega⟩)) j := by
  have hj := j.isLt
  rw [k_flat]
  unfold rotR
  by_cases h : j.val % 32 < 16
  · rw [dif_pos h, show (⟨j / 16 % 2, by omega⟩ : Fin 2) = 0 from Fin.ext (by show (j : ℕ) / 16 % 2 = 0; omega), k_lo]
    refine congrArg₂ (· + ·) (congrArg₂ (· * ·) (congrArg (fun k => val_main_v75 (F := Ideal) x1 x2 x3 (ix3 p r k)) (Fin.ext ?_)) (congrArg (fun k => x4 (ix2 r k)) (Fin.ext ?_)))
      (congrArg₂ (· * ·) (congrArg (fun k => val_main_v75 (F := Ideal) x1 x2 x3 (ix3 p r k)) (Fin.ext ?_)) (congrArg (fun k => x4 (ix2 r k)) (Fin.ext ?_))) <;> dsimp only <;> omega
  · rw [dif_neg h, show (⟨j / 16 % 2, by omega⟩ : Fin 2) = 1 from Fin.ext (by show (j : ℕ) / 16 % 2 = 1; omega), k_hi, add_comm]
    refine congrArg₂ (· + ·) (congrArg₂ (· * ·) (congrArg (fun k => val_main_v75 (F := Ideal) x1 x2 x3 (ix3 p r k)) (Fin.ext ?_)) (congrArg (fun k => x4 (ix2 r k)) (Fin.ext ?_)))
      (congrArg₂ (· * ·) (congrArg (fun k => val_main_v75 (F := Ideal) x1 x2 x3 (ix3 p r k)) (Fin.ext ?_)) (congrArg (fun k => x4 (ix2 r k)) (Fin.ext ?_))) <;> dsimp only <;> omega

/-- The queries, times the scale. -/
theorem lat_scaled (j : Fin 512) : val_main_v119 (F := Ideal) x1 x2 x3 x4 (ix3 p r j)
    = val_main_v117 (F := Ideal) x1 x2 x3 x4 (ix3 p r j) * scl := by
  unfold val_main_v119 val_main_v118 val_main_cst_12
  generalize val_main_v117 (F := Ideal) x1 x2 x3 x4 = y0
  pointwise [modR, stdR, meanR, projR]
  rfl

/-- A third of the rows, flattened. -/
theorem lat_c0 (R : Fin 2048) (j : Fin 512) : val_main_v157 (F := Ideal) x1 x2 x3 x4 (ix2 R ⟨j, by omega⟩)
    = val_main_v119 (F := Ideal) x1 x2 x3 x4 (ix3 ⟨R / 1024, by omega⟩ ⟨R % 1024, by omega⟩ j) := by
  unfold val_main_v157 val_main_v156 val_main_v155
  generalize val_main_v119 (F := Ideal) x1 x2 x3 x4 = y0
  generalize val_main_v154 (F := Ideal) x1 x2 x3 x4 = y1
  generalize val_main_v76 (F := Ideal) x1 x2 x3 = y2
  pointwise [modR, stdR, meanR, projR]

/-- A third of the rows, flattened. -/
theorem lat_c512 (R : Fin 2048) (j : Fin 512) : val_main_v157 (F := Ideal) x1 x2 x3 x4 (ix2 R ⟨512 + j, by omega⟩)
    = val_main_v154 (F := Ideal) x1 x2 x3 x4 (ix3 ⟨R / 1024, by omega⟩ ⟨R % 1024, by omega⟩ j) := by
  unfold val_main_v157 val_main_v156 val_main_v155
  generalize val_main_v119 (F := Ideal) x1 x2 x3 x4 = y0
  generalize val_main_v154 (F := Ideal) x1 x2 x3 x4 = y1
  generalize val_main_v76 (F := Ideal) x1 x2 x3 = y2
  pointwise [modR, stdR, meanR, projR]

/-- A third of the rows, flattened. -/
theorem lat_c1024 (R : Fin 2048) (j : Fin 512) : val_main_v157 (F := Ideal) x1 x2 x3 x4 (ix2 R ⟨1024 + j, by omega⟩)
    = val_main_v76 (F := Ideal) x1 x2 x3 (ix3 ⟨R / 1024, by omega⟩ ⟨R % 1024, by omega⟩ j) := by
  unfold val_main_v157 val_main_v156 val_main_v155
  generalize val_main_v119 (F := Ideal) x1 x2 x3 x4 = y0
  generalize val_main_v154 (F := Ideal) x1 x2 x3 x4 = y1
  generalize val_main_v76 (F := Ideal) x1 x2 x3 = y2
  pointwise [modR, stdR, meanR, projR]
  rw [dif_neg (by omega), dif_neg (by omega)]
  exact congrArg (fun k => y2 (ix3 _ _ k)) (Fin.ext (by show 1024 + (j : ℕ) - 512 - 512 = (j : ℕ); omega))

/-- The Hyena part, flattened. -/
theorem lat_hy (R : Fin 2048) (j : Fin 1536) : val_main_v161 (F := Ideal) x1 x2 x3 (ix2 R j)
    = val_main_v73 (F := Ideal) x1 x2 x3 (ix3 ⟨R / 1024, by omega⟩ ⟨R % 1024, by omega⟩ ⟨1536 + j, by omega⟩) := by
  unfold val_main_v161 val_main_v160 val_main_v77
  generalize val_main_v73 (F := Ideal) x1 x2 x3 = y0
  pointwise [modR, stdR, meanR, projR]

end lat

end Cert.Proof.ProjRef

end
-- ==== Proof.ProjPoint.lean ====
/- What the `in_projection` kernel leaves: the reference's queries, keys and values, its Hyena parts and its cache. -/
module

public import proofs.«01_k».proof.Proof.ProjBlocks
public import proofs.«01_k».proof.Proof.ProjRef

@[expose] public section

set_option maxRecDepth 16384
set_option backward.proofsInPublic true

noncomputable section

namespace Cert.Proof.Proj

open Idealize.ShloMosaic Idealize.ShloMosaic.TcCoe Idealize.SL.Sem
open Cert.Proof.FfnMath Cert.Proof.ProjMath Cert.ProjKernelIdeal Cert.ProjKernelIdeal.Gen Cert.ProjKernelIdeal.Hand
open Cert.ProjReferenceIdeal.Read

theorem mod_ctx {b : ℕ} (h : b ≤ 15) : ((0 : Fin 8) : ℕ) = modRow b := by
  unfold modRow
  rw [if_pos (by omega)]
  rfl
theorem mod_lat {b : ℕ} (p : Fin 2) (h : 16 ≤ b) (h' : b ≤ 19) (hp : (p : ℕ) = (b - 16) / 2) : ((⟨1 + p, by omega⟩ : Fin 8) : ℕ) = modRow b := by
  unfold modRow
  rw [if_neg (by omega)]
  dsimp only
  omega

variable (m : (ℓ : Loc nD τ sig) → Buf (Elt Ideal) ℓ) (c : Dev nD)

/-- The modulated context rows. -/
theorem ctx_hA (t : Fin cfg0.N) (h : t.val ≤ 15) (r : Fin 512) (p : Fin 32) (q : Fin 256) (hpq : (p * 256 + q : ℕ) = (t.val - 0) * 512 + r) (j : Fin 1024) :
    hA m c t (ix2 r j) = val_main_v33 (F := Ideal) (m ((c : Thread nD τ).loc main_arg0)) (m ((c : Thread nD τ).loc main_arg2)) (ix3 p q j) := by
  have hr := r.isLt
  have hq := q.isLt
  unfold hA hF
  rw [xF_ctx _ _ _ (is_ctx t h), hN_apply, ProjRef.ctx_h]
  simp only [fun k => blk0 m c t r k p q (by omega), fun j => rowB_apply (iblk m c 2 t) t.val 0 (mod_ctx h) j, blk2]

/-- The projected context rows: queries, keys and values. -/
theorem ctx_sA (t : Fin cfg0.N) (h0 : 1 ≤ t.val) (h : t.val ≤ 16) (r : Fin 512) (p : Fin 32) (q : Fin 256) (hpq : (p * 256 + q : ℕ) = (t.val - 1) * 512 + r) (j : Fin 1536) :
    sA m c t (ix2 r j) = val_main_v35 (F := Ideal) (m ((c : Thread nD τ).loc main_arg0)) (m ((c : Thread nD τ).loc main_arg2)) (m ((c : Thread nD τ).loc main_arg3)) (ix3 p q ⟨j, by omega⟩) := by
  unfold sA
  rw [qkvF_apply, ProjRef.ctx_p]
  simp only [fun k => ctx_hA m c (pr t) (by rw [pr_val]; omega) r p q (by rw [pr_val]; omega) k, blk3]

/-- The projected context rows: the Hyena part. -/
theorem ctx_hyA (t : Fin cfg0.N) (h0 : 1 ≤ t.val) (h : t.val ≤ 16) (r : Fin 512) (p : Fin 32) (q : Fin 256) (hpq : (p * 256 + q : ℕ) = (t.val - 1) * 512 + r) (j : Fin 1536) :
    hyA m c t (ix2 r j) = val_main_v35 (F := Ideal) (m ((c : Thread nD τ).loc main_arg0)) (m ((c : Thread nD τ).loc main_arg2)) (m ((c : Thread nD τ).loc main_arg3)) (ix3 p q ⟨1536 + j, by omega⟩) := by
  unfold hyA
  rw [hyF_apply, ProjRef.ctx_p]
  simp only [fun k => ctx_hA m c (pr t) (by rw [pr_val]; omega) r p q (by rw [pr_val]; omega) k, blk3]

/-- The modulated latent rows. -/
theorem lat_hA (t : Fin cfg0.N) (h : 16 ≤ t.val) (h0 : t.val ≤ 19) (r : Fin 512) (p : Fin 2) (q : Fin 1024) (hpq : (p * 1024 + q : ℕ) = (t.val - 16) * 512 + r) (j : Fin 1024) :
    hA m c t (ix2 r j) = val_main_v71 (F := Ideal) (m ((c : Thread nD τ).loc main_arg1)) (m ((c : Thread nD τ).loc main_arg2)) (ix3 p q j) := by
  have hr := r.isLt
  have hq := q.isLt
  unfold hA hF
  rw [xF_lat _ _ _ (is_lat t h), hN_apply, ProjRef.lat_h]
  simp only [fun k => blk1 m c t r k p q (by omega), fun j => rowB_apply (iblk m c 2 t) t.val ⟨1 + p, by omega⟩ (mod_lat p h (by omega) (by omega)) j, blk2]

/-- The projected latent rows: queries, keys and values. -/
theorem lat_sA (t : Fin cfg0.N) (h : 17 ≤ t.val) (h0 : t.val ≤ 20) (r : Fin 512) (p : Fin 2) (q : Fin 1024) (hpq : (p * 1024 + q : ℕ) = (t.val - 17) * 512 + r) (j : Fin 1536) :
    sA m c t (ix2 r j) = val_main_v73 (F := Ideal) (m ((c : Thread nD τ).loc main_arg1)) (m ((c : Thread nD τ).loc main_arg2)) (m ((c : Thread nD τ).loc main_arg3)) (ix3 p q ⟨j, by omega⟩) := by
  unfold sA
  rw [qkvF_apply, ProjRef.lat_p]
  simp only [fun k => lat_hA m c (pr t) (by rw [pr_val]; omega) (by rw [pr_val]; omega) r p q (by rw [pr_val]; omega) k, blk3]

/-- The projected latent rows: the Hyena part. -/
theorem lat_hyA (t : Fin cfg0.N) (h : 17 ≤ t.val) (h0 : t.val ≤ 20) (r : Fin 512) (p : Fin 2) (q : Fin 1024) (hpq : (p * 1024 + q : ℕ) = (t.val - 17) * 512 + r) (j : Fin 1536) :
    hyA m c t (ix2 r j) = val_main_v73 (F := Ideal) (m ((c : Thread nD τ).loc main_arg1)) (m ((c : Thread nD τ).loc main_arg2)) (m ((c : Thread nD τ).loc main_arg3)) (ix3 p q ⟨1536 + j, by omega⟩) := by
  unfold hyA
  rw [hyF_apply, ProjRef.lat_p]
  simp only [fun k => lat_hA m c (pr t) (by rw [pr_val]; omega) (by rw [pr_val]; omega) r p q (by rw [pr_val]; omega) k, blk3]

/-- A column of the queries, of the keys or of the values. -/
theorem cols (j : Fin 1536) : (∃ k : Fin 512, j = ⟨k, by omega⟩) ∨ (∃ k : Fin 512, j = ⟨512 + k, by omega⟩) ∨ (∃ k : Fin 512, j = ⟨1024 + k, by omega⟩) := by
  have hj := j.isLt
  by_cases h1 : (j : ℕ) < 512
  · exact Or.inl ⟨⟨j, h1⟩, rfl⟩
  by_cases h2 : (j : ℕ) < 1024
  · exact Or.inr (Or.inl ⟨⟨j - 512, by omega⟩, Fin.ext (by dsimp only; omega)⟩)
  · exact Or.inr (Or.inr ⟨⟨j - 1024, by omega⟩, Fin.ext (by dsimp only; omega)⟩)

/-- The context's queries, keys and values. -/
theorem ctx_qkv (t : Fin cfg0.N) (h0 : 1 ≤ t.val) (h : t.val ≤ 16) (r : Fin 512) (R : Fin 8192) (hR : (R : ℕ) = (t.val - 1) * 512 + r) (j : Fin 1536) :
    qcF (sA m c t) (ix2 r j) = val_main_v82 (F := Ideal) (m ((c : Thread nD τ).loc main_arg0)) (m ((c : Thread nD τ).loc main_arg2)) (m ((c : Thread nD τ).loc main_arg3)) (ix2 R j) := by
  have hr := r.isLt
  have hj := j.isLt
  have hR' := R.isLt
  rcases cols j with ⟨k, rfl⟩ | ⟨k, rfl⟩ | ⟨k, rfl⟩
  · have hk := k.isLt
    rw [qcF_q, ProjRef.ctx_c0, ProjRef.ctx_scaled, ProjRef.ctx_s0, ctx_sA m c t h0 h r ⟨R / 256, by omega⟩ ⟨R % 256, by omega⟩ (by dsimp only; omega)]
  · have hk := k.isLt
    rw [qcF_k, ProjRef.ctx_c512, ProjRef.ctx_s512, ctx_sA m c t h0 h r ⟨R / 256, by omega⟩ ⟨R % 256, by omega⟩ (by dsimp only; omega)]
  · have hk := k.isLt
    rw [qcF_v, ProjRef.ctx_c1024, ProjRef.ctx_s1024, ctx_sA m c t h0 h r ⟨R / 256, by omega⟩ ⟨R % 256, by omega⟩ (by dsimp only; omega)]

/-- The latent's. -/
theorem lat_qkv (t : Fin cfg0.N) (h : 18 ≤ t.val) (h0 : t.val ≤ 21) (r : Fin 512) (R : Fin 2048) (hR : (R : ℕ) = (t.val - 18) * 512 + r) (j : Fin 1536) :
    qlA m c t (ix2 r j) = val_main_v157 (F := Ideal) (m ((c : Thread nD τ).loc main_arg1)) (m ((c : Thread nD τ).loc main_arg2)) (m ((c : Thread nD τ).loc main_arg3)) (m ((c : Thread nD τ).loc main_arg4)) (ix2 R j) := by
  have hr := r.isLt
  have hj := j.isLt
  have hR' := R.isLt
  rcases cols j with ⟨k, rfl⟩ | ⟨k, rfl⟩ | ⟨k, rfl⟩
  · have hk := k.isLt
    unfold qlA
    rw [qlF_q, ProjRef.lat_c0, ProjRef.lat_scaled, ProjRef.q_rot]
    simp only [ProjRef.lat_s0, fun j => lat_sA m c (pr t) (by rw [pr_val]; omega) (by rw [pr_val]; omega) r ⟨R / 1024, by omega⟩ ⟨R % 1024, by omega⟩ (by rw [pr_val]; dsimp only; omega) j, fun l => blk4 m c t r l ⟨R % 1024, by omega⟩ (by dsimp only; omega)]
  · have hk := k.isLt
    unfold qlA
    rw [qlF_k, ProjRef.lat_c512, ProjRef.k_rot]
    simp only [ProjRef.lat_s512, fun j => lat_sA m c (pr t) (by rw [pr_val]; omega) (by rw [pr_val]; omega) r ⟨R / 1024, by omega⟩ ⟨R % 1024, by omega⟩ (by rw [pr_val]; dsimp only; omega) j, fun l => blk4 m c t r l ⟨R % 1024, by omega⟩ (by dsimp only; omega)]
  · have hk := k.isLt
    unfold qlA
    rw [qlF_v, ProjRef.lat_c1024, ProjRef.lat_s1024]
    exact (fun j => lat_sA m c (pr t) (by rw [pr_val]; omega) (by rw [pr_val]; omega) r ⟨R / 1024, by omega⟩ ⟨R % 1024, by omega⟩ (by rw [pr_val]; dsimp only; omega) j) _

/-- The cached keys of a block's two sequences. -/
theorem ctx_kc (t : Fin cfg0.N) (h0 : 1 ≤ t.val) (h : t.val ≤ 16) (e : Fin 2) (p : Fin 32) (hp : (p : ℕ) = (t.val - 1) * 2 + e)
    (a : Fin 8) (d : Fin 64) (l : Fin 256) : kcF (sA m c t) (ix4 e a d l) = val_main_v163 (F := Ideal) (m ((c : Thread nD τ).loc main_arg0)) (m ((c : Thread nD τ).loc main_arg2)) (m ((c : Thread nD τ).loc main_arg3)) (ix4 p a d l) := by
  have hl := l.isLt
  rw [ProjRef.ctx_kc]
  rcases (by decide : ∀ e : Fin 2, e = 0 ∨ e = 1) e with rfl | rfl
  · have hp' : (p : ℕ) = (t.val - 1) * 2 + 0 := hp
    rw [kcF_a]
    exact ctx_sA m c t h0 h _ p l (by dsimp only; omega) _
  · have hp' : (p : ℕ) = (t.val - 1) * 2 + 1 := hp
    rw [kcF_b]
    exact ctx_sA m c t h0 h _ p l (by dsimp only; omega) _

/-- The context's queries, keys and values after the run are the reference's. -/
theorem final5 : (dats m 0 c).arrAt 5 (cfgs 0).N = val_main_v82 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  have ht22 : t.val < 22 := lt_of_lt_of_eq t.isLt N22
  have hf' := (flush5 t).mp hf
  blk_simp
  rw [after0_5]
  obtain_idx i : S8192x1536 := [min (t.val - 2) 15 * 512 + (y 0 : ℕ), (y 1 : ℕ)] with hi
  have hemb : ((cfg0.win 5).blk t).view.emb y = i := by blk_ext [idx t]
  rw [hemb]
  clear hemb
  idx_vars y
  idx_vars i
  obtain rfl : i1 = y1 := Fin.ext hi1
  have hi : (i0 : ℕ) < 8192 := i0.isLt
  have hy : (y0 : ℕ) < 512 := y0.isLt
  have hu : (upto 17 t).val = min t.val 17 := rfl
  unfold after5 qcA
  exact ctx_qkv m c (pr (upto 17 t)) (by rw [pr_val]; omega) (by rw [pr_val]; omega) y0 i0 (by rw [pr_val]; omega) _

/-- The latent's. -/
theorem final6 : (dats m 0 c).arrAt 6 (cfgs 0).N = val_main_v157 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht22 : t.val < 22 := lt_of_lt_of_eq t.isLt N22
  have hf' := (flush6 t).mp hf
  blk_simp
  rw [after0_6]
  obtain_idx i : S2048x1536 := [min (t.val - 18) 3 * 512 + (y 0 : ℕ), (y 1 : ℕ)] with hi
  have hemb : ((cfg0.win 6).blk t).view.emb y = i := by blk_ext [idx t]
  rw [hemb]
  clear hemb
  idx_vars y
  idx_vars i
  obtain rfl : i1 = y1 := Fin.ext hi1
  have hi : (i0 : ℕ) < 2048 := i0.isLt
  have hy : (y0 : ℕ) < 512 := y0.isLt
  unfold after6
  exact lat_qkv m c t hf' (by omega) y0 i0 (by omega) _

/-- The context's Hyena part. -/
theorem final7 : (dats m 0 c).arrAt 7 (cfgs 0).N = val_main_v159 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  have ht22 : t.val < 22 := lt_of_lt_of_eq t.isLt N22
  have hf' := (flush7 t).mp hf
  blk_simp
  rw [after0_7]
  obtain_idx i : S8192x1536 := [min (t.val - 1) 15 * 512 + (y 0 : ℕ), (y 1 : ℕ)] with hi
  have hemb : ((cfg0.win 7).blk t).view.emb y = i := by blk_ext [idx t]
  rw [hemb]
  clear hemb
  idx_vars y
  idx_vars i
  obtain rfl : i1 = y1 := Fin.ext hi1
  have hi : (i0 : ℕ) < 8192 := i0.isLt
  have hy : (y0 : ℕ) < 512 := y0.isLt
  have hu : (upto 16 t).val = min t.val 16 := rfl
  unfold after7
  rw [if_neg (by omega), ProjRef.ctx_hy]
  exact ctx_hyA m c (upto 16 t) (by omega) (by omega) y0 ⟨i0 / 256, by omega⟩ ⟨i0 % 256, by omega⟩ (by dsimp only; omega) _

/-- The latent's Hyena part. -/
theorem final8 : (dats m 0 c).arrAt 8 (cfgs 0).N = val_main_v161 (F := Ideal) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht22 : t.val < 22 := lt_of_lt_of_eq t.isLt N22
  have hf' := (flush8 t).mp hf
  blk_simp
  rw [after0_8]
  obtain_idx i : S2048x1536 := [min (t.val - 17) 3 * 512 + (y 0 : ℕ), (y 1 : ℕ)] with hi
  have hemb : ((cfg0.win 8).blk t).view.emb y = i := by blk_ext [idx t]
  rw [hemb]
  clear hemb
  idx_vars y
  idx_vars i
  obtain rfl : i1 = y1 := Fin.ext hi1
  have hi : (i0 : ℕ) < 2048 := i0.isLt
  have hy : (y0 : ℕ) < 512 := y0.isLt
  have hu : (upto 20 t).val = min t.val 20 := rfl
  unfold after8
  rw [if_neg (by omega), ProjRef.lat_hy]
  exact lat_hyA m c (upto 20 t) (by omega) (by omega) y0 ⟨i0 / 1024, by omega⟩ ⟨i0 % 1024, by omega⟩ (by dsimp only; omega) _

/-- The cached keys. -/
theorem final9 : (dats m 0 c).arrAt 9 (cfgs 0).N = val_main_v163 (F := Ideal) (m ((c : Thread nD τ).loc main_arg0)) (m ((c : Thread nD τ).loc main_arg2)) (m ((c : Thread nD τ).loc main_arg3)) := by
  refine (dats m 0 c).arrAt_eq_of_covers 9 _ (by decide +kernel) fun t hf y => ?_
  have ht22 : t.val < 22 := lt_of_lt_of_eq t.isLt N22
  have hf' := (flush9 t).mp hf
  blk_simp
  rw [after0_9]
  obtain_idx i : S32x8x64x256 := [min (t.val - 2) 15 * 2 + (y 0 : ℕ), (y 1 : ℕ), (y 2 : ℕ), (y 3 : ℕ)] with hi
  have hemb : ((cfg0.win 9).blk t).view.emb y = i := by blk_ext [idx t]
  rw [hemb]
  clear hemb
  idx_vars y
  idx_vars i
  obtain rfl : i1 = y1 := Fin.ext hi1
  obtain rfl : i2 = y2 := Fin.ext hi2
  obtain rfl : i3 = y3 := Fin.ext hi3
  have hi : (i0 : ℕ) < 32 := i0.isLt
  have h3 : (i3 : ℕ) < 256 := i3.isLt
  have hu : (upto 17 t).val = min t.val 17 := rfl
  unfold after9 kcA
  exact ctx_kc m c (pr (upto 17 t)) (by rw [pr_val]; omega) (by rw [pr_val]; omega) y0 i0 (by rw [pr_val]; omega) _ _ _

/-- The cached values. -/
theorem final10 : (dats m 0 c).arrAt 10 (cfgs 0).N = val_main_v164 (F := Ideal) (m ((c : Thread nD τ).loc main_arg0)) (m ((c : Thread nD τ).loc main_arg2)) (m ((c : Thread nD τ).loc main_arg3)) := by
  refine (dats m 0 c).arrAt_eq_of_covers 10 _ (by decide +kernel) fun t hf y => ?_
  have ht22 : t.val < 22 := lt_of_lt_of_eq t.isLt N22
  have hf' := (flush10 t).mp hf
  blk_simp
  rw [after0_10]
  obtain_idx i : S8192x4x128 := [min (t.val - 2) 15 * 512 + (y 0 : ℕ), (y 1 : ℕ), (y 2 : ℕ)] with hi
  have hemb : ((cfg0.win 10).blk t).view.emb y = i := by blk_ext [idx t]
  rw [hemb]
  clear hemb
  idx_vars y
  idx_vars i
  obtain rfl : i1 = y1 := Fin.ext hi1
  obtain rfl : i2 = y2 := Fin.ext hi2
  have hi : (i0 : ℕ) < 8192 := i0.isLt
  have hy : (y0 : ℕ) < 512 := y0.isLt
  have hu : (upto 17 t).val = min t.val 17 := rfl
  unfold after10 vcA
  rw [ProjRef.ctx_vc, vcF_apply]
  exact ctx_sA m c (pr (upto 17 t)) (by rw [pr_val]; omega) (by rw [pr_val]; omega) y0 ⟨i0 / 256, by omega⟩ ⟨i0 % 256, by omega⟩ (by simp only [pr_val]; omega) _

end Cert.Proof.Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.AttnPoint
public import proofs.«01_k».proof.Proof.Finite
public import proofs.«01_k».proof.Proof.FfnKernelRun
public import proofs.«01_k».proof.Proof.FfnKernelIdealRun
public import proofs.«01_k».proof.Proof.FfnPoint
public import proofs.«01_k».proof.Proof.ProjKernelRun
public import proofs.«01_k».proof.Proof.ProjKernelIdealRun
public import proofs.«01_k».proof.Proof.ProjPoint
public import proofs.«01_k».proof.Proof.Gen.FfnKernel.Skeleton
public import proofs.«01_k».proof.Proof.Gen.FfnKernel.Frame
public import proofs.«01_k».proof.Proof.Gen.FfnKernel.Points
public import proofs.«01_k».proof.Proof.Gen.FfnKernelIdeal.Skeleton
public import proofs.«01_k».proof.Proof.Gen.FfnKernelIdeal.Frame
public import proofs.«01_k».proof.Proof.Gen.FfnKernelIdeal.Points
public import proofs.«01_k».proof.Proof.Gen.FfnReferenceIdeal.Run
public import proofs.«01_k».proof.Proof.Gen.FfnReferenceIdeal.Read
public import proofs.«01_k».proof.Proof.Gen.ProjKernel.Skeleton
public import proofs.«01_k».proof.Proof.Gen.ProjKernel.Frame
public import proofs.«01_k».proof.Proof.Gen.ProjKernel.Points
public import proofs.«01_k».proof.Proof.Gen.ProjKernelIdeal.Skeleton
public import proofs.«01_k».proof.Proof.Gen.ProjKernelIdeal.Frame
public import proofs.«01_k».proof.Proof.Gen.ProjKernelIdeal.Points
public import proofs.«01_k».proof.Proof.Gen.ProjReferenceIdeal.Run
public import proofs.«01_k».proof.Proof.Gen.ProjReferenceIdeal.Read
public import Idealize.ShloMosaic.Lib.Claim
public import Idealize.ShloMosaic.Adequacy
public import Idealize.ShloMosaic.Init

@[expose] public section

noncomputable section

namespace Cert.Proof

open Idealize.ShloMosaic Idealize.SL.Sem

instance : Cert.Kernel.Facts := Cert.Kernel.Gen.facts

/-- The precondition of the attention kernel, as arrays of reals behind the arguments it names. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (Cert.KernelIdeal.Gen.dats m 0 c).arrAt 12 (Cert.KernelIdeal.cfgs 0).N = Cert.Proof.Attn.refAtt m c := by
  obtain ⟨h0, h1, h2, h3, h4, h6, h7⟩ := h c
  simp only [Cert.Pre_finite.fn, Cert.Pre_finite.fn_part1] at h0 h1 h2 h3 h4 h6 h7
  obtain ⟨B0, e0⟩ := Attn.lift _ fun i => congrFun h0 i
  obtain ⟨B1, e1⟩ := Attn.lift _ fun i => congrFun h1 i
  obtain ⟨B2, e2⟩ := Attn.lift _ fun i => congrFun h2 i
  obtain ⟨B3, e3⟩ := Attn.lift _ fun i => congrFun h3 i
  obtain ⟨B4, e4⟩ := Attn.lift _ fun i => congrFun h4 i
  obtain ⟨B6, e6⟩ := Attn.lift _ fun i => congrFun h6 i
  obtain ⟨B7, e7⟩ := Attn.lift _ fun i => congrFun h7 i
  exact Attn.final12 m c B0 B1 B2 B3 B4 B6 B7 e0 e1 e2 e3 e4 e6 e7

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Two memories agree on the ten arguments. -/
def Agree (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- The reference's first result is what the kernel leaves of it. -/
theorem result0 (h : Cert.Pre_KernelIdeal_finite m) (c : Dev Cert.KernelIdeal.nD) (ha : Agree m m' c) :
    Cert.ReferenceIdeal.Value.res_main_v63 m' c = (Cert.KernelIdeal.Gen.dats m 0 c).arrAt 12 (Cert.KernelIdeal.cfgs 0).N := by
  obtain ⟨a0, a1, a2, a3, a4, a5, a6, a7, a8, a9⟩ := ha
  rw [finite_args m h c, Cert.ReferenceIdeal.Read.val_main_v63_eq, a0, a1, a2, a3, a4, a5, a6, a7]

/-- The reference's second result is what the kernel leaves of it. -/
theorem result1 (c : Dev Cert.KernelIdeal.nD) (ha : Agree m m' c) :
    (Cert.KernelIdeal.Gen.dats m 0 c).arrAt 13 (Cert.KernelIdeal.cfgs 0).N
      = Cert.ReferenceIdeal.Read.val_main_v65 (F := Ideal) (m' ((c.tc : Thread Cert.ReferenceIdeal.nD Cert.ReferenceIdeal.τ).loc Cert.ReferenceIdeal.main_arg8)) := by
  obtain ⟨a0, a1, a2, a3, a4, a5, a6, a7, a8, a9⟩ := ha
  rw [Attn.final13 m c, a8]

/-- The reference's third result is what the kernel leaves of it. -/
theorem result2 (c : Dev Cert.KernelIdeal.nD) (ha : Agree m m' c) :
    (Cert.KernelIdeal.Gen.dats m 0 c).arrAt 14 (Cert.KernelIdeal.cfgs 0).N
      = Cert.ReferenceIdeal.Read.val_main_v67 (F := Ideal) (m' ((c.tc : Thread Cert.ReferenceIdeal.nD Cert.ReferenceIdeal.τ).loc Cert.ReferenceIdeal.main_arg9)) := by
  obtain ⟨a0, a1, a2, a3, a4, a5, a6, a7, a8, a9⟩ := ha
  rw [Attn.final14 m c, a9]

end

set_option maxHeartbeats 4000000 in
/-- The attention kernel and its reference leave the same three results where the precondition holds. -/
theorem attention : Cert.algebraic_KernelIdeal_ReferenceIdeal_pre_finite := by
  pair_intro
  · run_from Cert.KernelIdeal.Gen.run_main m g
  · refine (θ_run Cert.ReferenceIdeal.defs _ _).mono (fun r h c => ?_) (Cert.ReferenceIdeal.Value.run (F := Ideal) m' g')
    have ha : Agree m m' c := hagree c
    have r0 := result0 m m' hpre c ha
    have r1 := result1 m m' c ha
    have r2 := result2 m m' c ha
    have e0 := (h c).1
    have e1 := (h c).2.1
    have e2 := (h c).2.2.1
    refine ⟨?_, ?_, ?_, (h c).2.2.2⟩
    · rw [e0]; exact r0
    · rw [e1]; exact r1.symm
    · rw [e2]; exact r2.symm

/-- The reference keeps its arguments, and it declares no semaphore. -/
theorem reference_frame : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- An argument of the kernel. -/
abbrev fk (m : (ℓ : Loc Cert.FfnKernelIdeal.nD Cert.FfnKernelIdeal.τ Cert.FfnKernelIdeal.sig) → Buf (Elt Ideal) ℓ) (c : Dev Cert.FfnKernelIdeal.nD) (b : Ref Cert.FfnKernelIdeal.sig .tc) := m ((c.tc : Thread Cert.FfnKernelIdeal.nD Cert.FfnKernelIdeal.τ).loc b)
/-- An argument of the reference. -/
abbrev fr (m' : (ℓ : Loc Cert.FfnReferenceIdeal.nD Cert.FfnReferenceIdeal.τ Cert.FfnReferenceIdeal.sig) → Buf (Elt Ideal) ℓ) (c : Dev Cert.FfnReferenceIdeal.nD) (b : Ref Cert.FfnReferenceIdeal.sig .tc) := m' ((c.tc : Thread Cert.FfnReferenceIdeal.nD Cert.FfnReferenceIdeal.τ).loc b)
/-- An argument of the kernel. -/
abbrev pk (m : (ℓ : Loc Cert.ProjKernelIdeal.nD Cert.ProjKernelIdeal.τ Cert.ProjKernelIdeal.sig) → Buf (Elt Ideal) ℓ) (c : Dev Cert.ProjKernelIdeal.nD) (b : Ref Cert.ProjKernelIdeal.sig .tc) := m ((c.tc : Thread Cert.ProjKernelIdeal.nD Cert.ProjKernelIdeal.τ).loc b)
/-- An argument of the reference. -/
abbrev pr (m' : (ℓ : Loc Cert.ProjReferenceIdeal.nD Cert.ProjReferenceIdeal.τ Cert.ProjReferenceIdeal.sig) → Buf (Elt Ideal) ℓ) (c : Dev Cert.ProjReferenceIdeal.nD) (b : Ref Cert.ProjReferenceIdeal.sig .tc) := m' ((c.tc : Thread Cert.ProjReferenceIdeal.nD Cert.ProjReferenceIdeal.τ).loc b)

section

variable (m : (ℓ : Loc Cert.FfnKernelIdeal.nD Cert.FfnKernelIdeal.τ Cert.FfnKernelIdeal.sig) → Buf (Elt Ideal) ℓ)
  (m' : (ℓ : Loc Cert.FfnReferenceIdeal.nD Cert.FfnReferenceIdeal.τ Cert.FfnReferenceIdeal.sig) → Buf (Elt Ideal) ℓ)

/-- Two memories agree on the fourteen arguments of the output projection and feed-forward part. -/
def FfnAgree (c : Dev Cert.FfnKernelIdeal.nD) : Prop :=
      fr m' c Cert.FfnReferenceIdeal.main_arg0 = fk m c Cert.FfnKernelIdeal.main_arg0
      ∧ fr m' c Cert.FfnReferenceIdeal.main_arg1 = fk m c Cert.FfnKernelIdeal.main_arg1
      ∧ fr m' c Cert.FfnReferenceIdeal.main_arg2 = fk m c Cert.FfnKernelIdeal.main_arg2
      ∧ fr m' c Cert.FfnReferenceIdeal.main_arg3 = fk m c Cert.FfnKernelIdeal.main_arg3
      ∧ fr m' c Cert.FfnReferenceIdeal.main_arg4 = fk m c Cert.FfnKernelIdeal.main_arg4
      ∧ fr m' c Cert.FfnReferenceIdeal.main_arg5 = fk m c Cert.FfnKernelIdeal.main_arg5
      ∧ fr m' c Cert.FfnReferenceIdeal.main_arg6 = fk m c Cert.FfnKernelIdeal.main_arg6
      ∧ fr m' c Cert.FfnReferenceIdeal.main_arg7 = fk m c Cert.FfnKernelIdeal.main_arg7
      ∧ fr m' c Cert.FfnReferenceIdeal.main_arg8 = fk m c Cert.FfnKernelIdeal.main_arg8
      ∧ fr m' c Cert.FfnReferenceIdeal.main_arg9 = fk m c Cert.FfnKernelIdeal.main_arg9
      ∧ fr m' c Cert.FfnReferenceIdeal.main_arg10 = fk m c Cert.FfnKernelIdeal.main_arg10
      ∧ fr m' c Cert.FfnReferenceIdeal.main_arg11 = fk m c Cert.FfnKernelIdeal.main_arg11
      ∧ fr m' c Cert.FfnReferenceIdeal.main_arg12 = fk m c Cert.FfnKernelIdeal.main_arg12
      ∧ fr m' c Cert.FfnReferenceIdeal.main_arg13 = fk m c Cert.FfnKernelIdeal.main_arg13

/-- The reference's context rows are what the kernel leaves of them. -/
theorem ffn_result0 (c : Dev Cert.FfnKernelIdeal.nD) (ha : FfnAgree m m' c) :
    Cert.FfnReferenceIdeal.Read.val_main_v112 (F := Ideal) (fr m' c Cert.FfnReferenceIdeal.main_arg0) (fr m' c Cert.FfnReferenceIdeal.main_arg2) (fr m' c Cert.FfnReferenceIdeal.main_arg4) (fr m' c Cert.FfnReferenceIdeal.main_arg6) (fr m' c Cert.FfnReferenceIdeal.main_arg7) (fr m' c Cert.FfnReferenceIdeal.main_arg8) (fr m' c Cert.FfnReferenceIdeal.main_arg9) (fr m' c Cert.FfnReferenceIdeal.main_arg10) (fr m' c Cert.FfnReferenceIdeal.main_arg11) (fr m' c Cert.FfnReferenceIdeal.main_arg12) (fr m' c Cert.FfnReferenceIdeal.main_arg13)
      = (Cert.FfnKernelIdeal.Hand.dats m 0 c).arrAt 14 (Cert.FfnKernelIdeal.cfgs 0).N := by
  obtain ⟨a0, a1, a2, a3, a4, a5, a6, a7, a8, a9, a10, a11, a12, a13⟩ := ha
  rw [Ffn.final14 m c, a0, a2, a4, a6, a7, a8, a9, a10, a11, a12, a13]

/-- The reference's latent rows are what the kernel leaves of them. -/
theorem ffn_result1 (c : Dev Cert.FfnKernelIdeal.nD) (ha : FfnAgree m m' c) :
    Cert.FfnReferenceIdeal.Read.val_main_v221 (F := Ideal) (fr m' c Cert.FfnReferenceIdeal.main_arg1) (fr m' c Cert.FfnReferenceIdeal.main_arg3) (fr m' c Cert.FfnReferenceIdeal.main_arg5) (fr m' c Cert.FfnReferenceIdeal.main_arg6) (fr m' c Cert.FfnReferenceIdeal.main_arg7) (fr m' c Cert.FfnReferenceIdeal.main_arg8) (fr m' c Cert.FfnReferenceIdeal.main_arg9) (fr m' c Cert.FfnReferenceIdeal.main_arg10) (fr m' c Cert.FfnReferenceIdeal.main_arg11) (fr m' c Cert.FfnReferenceIdeal.main_arg12) (fr m' c Cert.FfnReferenceIdeal.main_arg13)
      = (Cert.FfnKernelIdeal.Hand.dats m 0 c).arrAt 15 (Cert.FfnKernelIdeal.cfgs 0).N := by
  obtain ⟨a0, a1, a2, a3, a4, a5, a6, a7, a8, a9, a10, a11, a12, a13⟩ := ha
  rw [Ffn.final15 m c, a1, a3, a5, a6, a7, a8, a9, a10, a11, a12, a13]

end

set_option maxHeartbeats 4000000 in
/-- The output projection with the feed-forward part and its reference leave the same two results. -/
theorem ffn : Cert.algebraic_FfnKernelIdeal_FfnReferenceIdeal := by
  pair_intro
  · run_from Cert.FfnKernelIdeal.Hand.run_main m g
  · refine (θ_run Cert.FfnReferenceIdeal.defs _ _).mono (fun r h c => ?_) (Cert.FfnReferenceIdeal.Value.run (F := Ideal) m' g')
    have ha : FfnAgree m m' c := hagree c
    have r0 := ffn_result0 m m' c ha
    have r1 := ffn_result1 m m' c ha
    have e0 := (h c).1.trans (Cert.FfnReferenceIdeal.Read.val_main_v112_eq _)
    have e1 := (h c).2.1.trans (Cert.FfnReferenceIdeal.Read.val_main_v221_eq _)
    exact ⟨e0.trans r0, e1.trans r1, (h c).2.2⟩

/-- The feed-forward reference keeps its arguments, and it declares no semaphore. -/
theorem ffn_reference_frame : Cert.quiescent_FfnReferenceIdeal := by
  intro m ρ _
  exact (θ_run Cert.FfnReferenceIdeal.defs _ _).mono (fun r h => ⟨fun c => (h c).2.2, sem_eq_zero_of_no_sems (by decide) r.2⟩)
    (Cert.FfnReferenceIdeal.Value.run (F := Ideal) m ρ)

section

variable (m : (ℓ : Loc Cert.ProjKernelIdeal.nD Cert.ProjKernelIdeal.τ Cert.ProjKernelIdeal.sig) → Buf (Elt Ideal) ℓ)
  (m' : (ℓ : Loc Cert.ProjReferenceIdeal.nD Cert.ProjReferenceIdeal.τ Cert.ProjReferenceIdeal.sig) → Buf (Elt Ideal) ℓ)

/-- Two memories agree on the five arguments of the input projection. -/
def ProjAgree (c : Dev Cert.ProjKernelIdeal.nD) : Prop :=
      pr m' c Cert.ProjReferenceIdeal.main_arg0 = pk m c Cert.ProjKernelIdeal.main_arg0
      ∧ pr m' c Cert.ProjReferenceIdeal.main_arg1 = pk m c Cert.ProjKernelIdeal.main_arg1
      ∧ pr m' c Cert.ProjReferenceIdeal.main_arg2 = pk m c Cert.ProjKernelIdeal.main_arg2
      ∧ pr m' c Cert.ProjReferenceIdeal.main_arg3 = pk m c Cert.ProjKernelIdeal.main_arg3
      ∧ pr m' c Cert.ProjReferenceIdeal.main_arg4 = pk m c Cert.ProjKernelIdeal.main_arg4

/-- Result 0 of the reference is what the kernel leaves of it. -/
theorem proj_result0 (c : Dev Cert.ProjKernelIdeal.nD) (ha : ProjAgree m m' c) :
    Cert.ProjReferenceIdeal.Read.val_main_v82 (F := Ideal) (pr m' c Cert.ProjReferenceIdeal.main_arg0) (pr m' c Cert.ProjReferenceIdeal.main_arg2) (pr m' c Cert.ProjReferenceIdeal.main_arg3)
      = (Cert.ProjKernelIdeal.Hand.dats m 0 c).arrAt 5 (Cert.ProjKernelIdeal.cfgs 0).N := by
  obtain ⟨a0, a1, a2, a3, a4⟩ := ha
  rw [Proj.final5 m c, a0, a2, a3]

/-- Result 1 of the reference is what the kernel leaves of it. -/
theorem proj_result1 (c : Dev Cert.ProjKernelIdeal.nD) (ha : ProjAgree m m' c) :
    Cert.ProjReferenceIdeal.Read.val_main_v157 (F := Ideal) (pr m' c Cert.ProjReferenceIdeal.main_arg1) (pr m' c Cert.ProjReferenceIdeal.main_arg2) (pr m' c Cert.ProjReferenceIdeal.main_arg3) (pr m' c Cert.ProjReferenceIdeal.main_arg4)
      = (Cert.ProjKernelIdeal.Hand.dats m 0 c).arrAt 6 (Cert.ProjKernelIdeal.cfgs 0).N := by
  obtain ⟨a0, a1, a2, a3, a4⟩ := ha
  rw [Proj.final6 m c, a1, a2, a3, a4]

/-- Result 2 of the reference is what the kernel leaves of it. -/
theorem proj_result2 (c : Dev Cert.ProjKernelIdeal.nD) (ha : ProjAgree m m' c) :
    Cert.ProjReferenceIdeal.Read.val_main_v159 (F := Ideal) (pr m' c Cert.ProjReferenceIdeal.main_arg0) (pr m' c Cert.ProjReferenceIdeal.main_arg2) (pr m' c Cert.ProjReferenceIdeal.main_arg3)
      = (Cert.ProjKernelIdeal.Hand.dats m 0 c).arrAt 7 (Cert.ProjKernelIdeal.cfgs 0).N := by
  obtain ⟨a0, a1, a2, a3, a4⟩ := ha
  rw [Proj.final7 m c, a0, a2, a3]

/-- Result 3 of the reference is what the kernel leaves of it. -/
theorem proj_result3 (c : Dev Cert.ProjKernelIdeal.nD) (ha : ProjAgree m m' c) :
    Cert.ProjReferenceIdeal.Read.val_main_v161 (F := Ideal) (pr m' c Cert.ProjReferenceIdeal.main_arg1) (pr m' c Cert.ProjReferenceIdeal.main_arg2) (pr m' c Cert.ProjReferenceIdeal.main_arg3)
      = (Cert.ProjKernelIdeal.Hand.dats m 0 c).arrAt 8 (Cert.ProjKernelIdeal.cfgs 0).N := by
  obtain ⟨a0, a1, a2, a3, a4⟩ := ha
  rw [Proj.final8 m c, a1, a2, a3]

/-- Result 4 of the reference is what the kernel leaves of it. -/
theorem proj_result4 (c : Dev Cert.ProjKernelIdeal.nD) (ha : ProjAgree m m' c) :
    Cert.ProjReferenceIdeal.Read.val_main_v163 (F := Ideal) (pr m' c Cert.ProjReferenceIdeal.main_arg0) (pr m' c Cert.ProjReferenceIdeal.main_arg2) (pr m' c Cert.ProjReferenceIdeal.main_arg3)
      = (Cert.ProjKernelIdeal.Hand.dats m 0 c).arrAt 9 (Cert.ProjKernelIdeal.cfgs 0).N := by
  obtain ⟨a0, a1, a2, a3, a4⟩ := ha
  rw [Proj.final9 m c, a0, a2, a3]

/-- Result 5 of the reference is what the kernel leaves of it. -/
theorem proj_result5 (c : Dev Cert.ProjKernelIdeal.nD) (ha : ProjAgree m m' c) :
    Cert.ProjReferenceIdeal.Read.val_main_v164 (F := Ideal) (pr m' c Cert.ProjReferenceIdeal.main_arg0) (pr m' c Cert.ProjReferenceIdeal.main_arg2) (pr m' c Cert.ProjReferenceIdeal.main_arg3)
      = (Cert.ProjKernelIdeal.Hand.dats m 0 c).arrAt 10 (Cert.ProjKernelIdeal.cfgs 0).N := by
  obtain ⟨a0, a1, a2, a3, a4⟩ := ha
  rw [Proj.final10 m c, a0, a2, a3]

end

set_option maxHeartbeats 4000000 in
/-- The input projection and its reference leave the same six results. -/
theorem proj : Cert.algebraic_ProjKernelIdeal_ProjReferenceIdeal := by
  pair_intro
  · run_from Cert.ProjKernelIdeal.Hand.run_main m g
  · refine (θ_run Cert.ProjReferenceIdeal.defs _ _).mono (fun r h c => ?_) (Cert.ProjReferenceIdeal.Value.run (F := Ideal) m' g')
    have ha : ProjAgree m m' c := hagree c
    have r0 := proj_result0 m m' c ha
    have r1 := proj_result1 m m' c ha
    have r2 := proj_result2 m m' c ha
    have r3 := proj_result3 m m' c ha
    have r4 := proj_result4 m m' c ha
    have r5 := proj_result5 m m' c ha
    have e0 := (h c).1.trans (Cert.ProjReferenceIdeal.Read.val_main_v82_eq _ _)
    have e1 := (h c).2.1.trans (Cert.ProjReferenceIdeal.Read.val_main_v157_eq _ _)
    have e2 := (h c).2.2.1.trans (Cert.ProjReferenceIdeal.Read.val_main_v159_eq _ _ _)
    have e3 := (h c).2.2.2.1.trans (Cert.ProjReferenceIdeal.Read.val_main_v161_eq _ _ _)
    have e4 := (h c).2.2.2.2.1.trans (Cert.ProjReferenceIdeal.Read.val_main_v163_eq _ _ _)
    have e5 := (h c).2.2.2.2.2.1.trans (Cert.ProjReferenceIdeal.Read.val_main_v164_eq _ _ _)
    exact ⟨e0.trans r0, e1.trans r1, e2.trans r2, e3.trans r3, e4.trans r4, e5.trans r5, (h c).2.2.2.2.2.2⟩

/-- The input projection's reference keeps its arguments, and it declares no semaphore. -/
theorem proj_reference_frame : Cert.quiescent_ProjReferenceIdeal := by
  intro m ρ _
  exact (θ_run Cert.ProjReferenceIdeal.defs _ _).mono (fun r h => ⟨fun c => (h c).2.2.2.2.2.2, sem_eq_zero_of_no_sems (by decide) r.2⟩)
    (Cert.ProjReferenceIdeal.Value.run (F := Ideal) m ρ)

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.ProjKernel.Gen.facts, Cert.ProjKernelIdeal.Gen.facts, Cert.ProjReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame, fun m ρ _ => reference_frame m ρ trivial,
  fun m ρ _ => Cert.FfnKernel.Hand.frame m ρ,
  fun m ρ _ => Cert.FfnKernelIdeal.Hand.frame m ρ,
  ffn_reference_frame,
  fun m ρ _ => Cert.ProjKernel.Hand.frame m ρ,
  fun m ρ _ => Cert.ProjKernelIdeal.Hand.frame m ρ,
  proj_reference_frame, trivial, attention, trivial, ffn, trivial, proj⟩

end Cert.Proof

end
